-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v97)) (v2 : (c : Dev Cert.KernelIdeal.nD) → Buf (Elt Ideal) ((c.tc : Thread Cert.KernelIdeal.nD Cert.KernelIdeal.τ).loc Cert.KernelIdeal.main_v98)) (v3 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_v98) = v2 c
          ∧ r.2.mem ((c.tc : Thread Cert.KernelIdeal.nD Cert.KernelIdeal.τ).loc Cert.KernelIdeal.main_v96) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S4096x512 : Shape := ⟨2, ![4096, 512]⟩
abbrev S8x4096 : Shape := ⟨2, ![8, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S4096x512 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S4096x512 .f32) (main_arg1 : FVec F S4096x512 .f32) (main_arg2 : FVec F S4096x512 .f32) (main_arg3 : FVec F S8x4096 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Pre_finite4.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite5.lean ====
abbrev S4096x1024 : Shape := ⟨2, ![4096, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .f32) (main_arg1 : FVec F S1024x2816 .f32) (main_arg2 : FVec F S1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  main_v13
-- ==== Kernel.lean ====
abbrev S4096x512 : Shape := ⟨2, ![4096, 512]⟩
abbrev S8x4096 : Shape := ⟨2, ![8, 4096]⟩
abbrev S4096x8 : Shape := ⟨2, ![4096, 8]⟩
abbrev S4096x8x1 : Shape := ⟨3, ![4096, 8, 1]⟩
abbrev S_ : Shape := ⟨0, ![]⟩
abbrev S4096x8x64 : Shape := ⟨3, ![4096, 8, 64]⟩
abbrev S4096x8x58 : Shape := ⟨3, ![4096, 8, 58]⟩
abbrev S4096x4x2x64 : Shape := ⟨4, ![4096, 4, 2, 64]⟩
abbrev S4096x4x1x64 : Shape := ⟨4, ![4096, 4, 1, 64]⟩
abbrev S4096x4x4x64 : Shape := ⟨4, ![4096, 4, 4, 64]⟩
abbrev S4096x1024 : Shape := ⟨2, ![4096, 1024]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x256 : Shape := ⟨2, ![4096, 256]⟩
abbrev S1024x256 : Shape := ⟨2, ![1024, 256]⟩
abbrev S4096x128 : Shape := ⟨2, ![4096, 128]⟩
abbrev S1024x128 : Shape := ⟨2, ![1024, 128]⟩
abbrev S1x128 : Shape := ⟨2, ![1, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1024x1024 : Shape := ⟨2, ![1024, 1024]⟩
abbrev S4096x4x128 : Shape := ⟨3, ![4096, 4, 128]⟩
abbrev S4096x4x1 : Shape := ⟨3, ![4096, 4, 1]⟩
abbrev S4096x4x2 : Shape := ⟨3, ![4096, 4, 2]⟩

abbrev nBuf : Space → Nat
  | .hbm => 120
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x512, .f32⟩
  | .hbm, ⟨5, _⟩ => ⟨S4096x8, .f32⟩
  | .hbm, ⟨6, _⟩ => ⟨S4096x8x1, .f32⟩
  | .hbm, ⟨7, _⟩ => ⟨S4096x8x1, .bf16⟩
  | .hbm, ⟨8, _⟩ => ⟨S4096x8x1, .f32⟩
  | .hbm, ⟨9, _⟩ => ⟨S4096x8x1, .f32⟩
  | .hbm, ⟨10, _⟩ => ⟨S4096x8x1, .bf16⟩
  | .hbm, ⟨11, _⟩ => ⟨S4096x8x1, .f32⟩
  | .hbm, ⟨12, _⟩ => ⟨S4096x8x1, .f32⟩
  | .hbm, ⟨13, _⟩ => ⟨S4096x8x1, .bf16⟩
  | .hbm, ⟨14, _⟩ => ⟨S_, .bf16⟩
  | .hbm, ⟨15, _⟩ => ⟨S4096x8x1, .bf16⟩
  | .hbm, ⟨16, _⟩ => ⟨S_, .bf16⟩
  | .hbm, ⟨17, _⟩ => ⟨S4096x8x64, .bf16⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .bf16⟩
  | .hbm, ⟨22, _⟩ => ⟨S_, .bf16⟩
  | .hbm, ⟨23, _⟩ => ⟨S4096x8x58, .bf16⟩
  | .hbm, ⟨24, _⟩ => ⟨S4096x8x64, .bf16⟩
  | .hbm, ⟨25, _⟩ => ⟨S4096x4x2x64, .bf16⟩
  | .hbm, ⟨26, _⟩ => ⟨S4096x4x2x64, .bf16⟩
  | .hbm, ⟨27, _⟩ => ⟨S4096x4x1x64, .bf16⟩
  | .hbm, ⟨28, _⟩ => ⟨S4096x4x1x64, .bf16⟩
  | .hbm, ⟨29, _⟩ => ⟨S4096x4x1x64, .bf16⟩
  | .hbm, ⟨30, _⟩ => ⟨S4096x4x1x64, .bf16⟩
  | .hbm, ⟨31, _⟩ => ⟨S4096x4x4x64, .bf16⟩
  | .hbm, ⟨32, _⟩ => ⟨S4096x1024, .bf16⟩
  | .hbm, ⟨33, _⟩ => ⟨S4096x512, .bf16⟩
  | .hbm, ⟨34, _⟩ => ⟨S4096x8x1, .bf16⟩
  | .hbm, ⟨35, _⟩ => ⟨S4096x8x1, .bf16⟩
  | .hbm, ⟨36, _⟩ => ⟨S4096x8x1, .bf16⟩
  | .hbm, ⟨37, _⟩ => ⟨S_, .bf16⟩
  | .hbm, ⟨38, _⟩ => ⟨S4096x8x58, .bf16⟩
  | .hbm, ⟨39, _⟩ => ⟨S4096x8x64, .bf16⟩
  | .hbm, ⟨40, _⟩ => ⟨S4096x4x2x64, .bf16⟩
  | .hbm, ⟨41, _⟩ => ⟨S4096x4x2x64, .bf16⟩
  | .hbm, ⟨42, _⟩ => ⟨S4096x4x1x64, .bf16⟩
  | .hbm, ⟨43, _⟩ => ⟨S4096x4x1x64, .bf16⟩
  | .hbm, ⟨44, _⟩ => ⟨S4096x4x1x64, .bf16⟩
  | .hbm, ⟨45, _⟩ => ⟨S4096x4x1x64, .bf16⟩
  | .hbm, ⟨46, _⟩ => ⟨S4096x4x4x64, .bf16⟩
  | .hbm, ⟨47, _⟩ => ⟨S4096x1024, .bf16⟩
  | .hbm, ⟨48, _⟩ => ⟨S4096x512, .bf16⟩
  | .hbm, ⟨49, _⟩ => ⟨S4096x4x2x64, .bf16⟩
  | .hbm, ⟨50, _⟩ => ⟨S4096x4x2x64, .bf16⟩
  | .hbm, ⟨51, _⟩ => ⟨S4096x4x1x64, .bf16⟩
  | .hbm, ⟨52, _⟩ => ⟨S4096x4x1x64, .bf16⟩
  | .hbm, ⟨53, _⟩ => ⟨S4096x4x1x64, .bf16⟩
  | .hbm, ⟨54, _⟩ => ⟨S4096x4x1x64, .bf16⟩
  | .hbm, ⟨55, _⟩ => ⟨S4096x4x4x64, .bf16⟩
  | .hbm, ⟨56, _⟩ => ⟨S4096x1024, .bf16⟩
  | .hbm, ⟨57, _⟩ => ⟨S4096x8x64, .f32⟩
  | .hbm, ⟨58, _⟩ => ⟨S4096x8x64, .f32⟩
  | .hbm, ⟨59, _⟩ => ⟨S8x4096x4096, .f32⟩
  | .hbm, ⟨60, _⟩ => ⟨S_, .f32⟩
  | .hbm, ⟨61, _⟩ => ⟨S8x4096x4096, .f32⟩
  | .hbm, ⟨62, _⟩ => ⟨S8x4096x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x1x4096, .f32⟩
  | .hbm, ⟨67, _⟩ => ⟨S8x4096x4096, .f32⟩
  | .hbm, ⟨68, _⟩ => ⟨S8x4096x4096, .f32⟩
  | .hbm, ⟨69, _⟩ => ⟨S4096, .i32⟩
  | .hbm, ⟨70, _⟩ => ⟨S1x4096, .i32⟩
  | .hbm, ⟨71, _⟩ => ⟨S4096x1, .i32⟩
  | .hbm, ⟨72, _⟩ => ⟨S4096x4096, .i32⟩
  | .hbm, ⟨73, _⟩ => ⟨S4096x4096, .i32⟩
  | .hbm, ⟨74, _⟩ => ⟨S4096x4096, .i1⟩
  | .hbm, ⟨75, _⟩ => ⟨S_, .f32⟩
  | .hbm, ⟨76, _⟩ => ⟨S_, .f32⟩
  | .hbm, ⟨77, _⟩ => ⟨S8x4096x4096, .i1⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S8x4096x4096, .f32⟩
  | .hbm, ⟨90, _⟩ => ⟨S8x4096x4096, .f32⟩
  | .hbm, ⟨91, _⟩ => ⟨S4096x8x64, .f32⟩
  | .hbm, ⟨92, _⟩ => ⟨S8x64x4096, .f32⟩
  | .hbm, ⟨93, _⟩ => ⟨S4096x8x64, .f32⟩
  | .hbm, ⟨94, _⟩ => ⟨S4096x512, .f32⟩
  | .hbm, ⟨95, _⟩ => ⟨S8x4096, .f32⟩
  | .hbm, ⟨96, _⟩ => ⟨S8x4096, .f32⟩
  | .hbm, ⟨97, _⟩ => ⟨S4096x8, .f32⟩
  | .hbm, ⟨98, _⟩ => ⟨S4096x8x1, .f32⟩
  | .hbm, ⟨99, _⟩ => ⟨S4096x8x64, .f32⟩
  | .hbm, ⟨100, _⟩ => ⟨S4096x512, .f32⟩
  | .hbm, ⟨101, _⟩ => ⟨S4096x512, .bf16⟩
  | .hbm, ⟨102, _⟩ => ⟨S4096x512, .f32⟩
  | .hbm, ⟨103, _⟩ => ⟨S4096x512, .bf16⟩
  | .hbm, ⟨104, _⟩ => ⟨S4096x512, .bf16⟩
  | .hbm, ⟨105, _⟩ => ⟨S4096x512, .f32⟩
  | .hbm, ⟨106, _⟩ => ⟨S4096x512, .f32⟩
  | .hbm, ⟨107, _⟩ => ⟨S4096x4x128, .f32⟩
  | .hbm, ⟨108, _⟩ => ⟨S4096x4x128, .f32⟩
  | .hbm, ⟨109, _⟩ => ⟨S4096x4x1, .f32⟩
  | .hbm, ⟨110, _⟩ => ⟨S4096x4x1, .f32⟩
  | .hbm, ⟨111, _⟩ => ⟨S4096x4x1, .f32⟩
  | .hbm, ⟨112, _⟩ => ⟨S4096x4x1, .f32⟩
  | .hbm, ⟨113, _⟩ => ⟨S4096x4x1, .f32⟩
  | .hbm, ⟨114, _⟩ => ⟨S4096x4x1, .f32⟩
  | .hbm, ⟨115, _⟩ => ⟨S4096x4x2, .f32⟩
  | .hbm, ⟨116, _⟩ => ⟨S4096x8, .f32⟩
  | .hbm, ⟨117, _⟩ => ⟨S8x4096, .f32⟩
  | .hbm, ⟨118, _⟩ => ⟨S4096x512, .f32⟩
  | .hbm, ⟨119, _⟩ => ⟨S4096x512, .f32⟩
  | .local _ .vmem, ⟨0, _⟩ => ⟨S4096x256, .bf16⟩
  | .local _ .vmem, ⟨1, _⟩ => ⟨S4096x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S4096x128, .f32⟩
  | .local _ .vmem, ⟨19, _⟩ => ⟨S4096x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85_0 : Ref sig .tc := ⟨.hbm, 102, rfl⟩
abbrev main_v85_1 : Ref sig .tc := ⟨.hbm, 103, rfl⟩
abbrev main_v85_2 : Ref sig .tc := ⟨.hbm, 104, rfl⟩
abbrev main_v85_3 : Ref sig .tc := ⟨.hbm, 105, rfl⟩
abbrev main_v85_4 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  v6
def k0_off1 (i : grid0.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0 : Index := 0#32
  ![v8.toNat, 0]
def k0_off2 (i : grid0.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v22 : Index := Scalar.indexCast v7
  let c0_3 : Index := 0#32
  ![v22.toNat, 0]
def k0_off3 (i : grid0.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v52 : Index := Scalar.indexCast v7
  let c128 : Index := 128#32
  ![v52.toNat, 128]
def k0_mult2 (i : grid0.Coords) : BitVec 32 :=
  let arg1 : BitVec 32 := BitVec.ofNat 32 (i 1).val
  let c1024_i32_39 : BitVec 32 := 1024#32
  let v119 : BitVec 32 := Scalar.muli arg1 c1024_i32_39
  let c512_i32 : BitVec 32 := 512#32
  let v120 : BitVec 32 := Scalar.addi v119 c512_i32
  v120
def k0_off4 (i : grid0.Coords) : Fin 2 → Nat :=
  let arg1 : BitVec 32 := BitVec.ofNat 32 (i 1).val
  let c1024_i32_39 : BitVec 32 := 1024#32
  let v119 : BitVec 32 := Scalar.muli arg1 c1024_i32_39
  let c512_i32 : BitVec 32 := 512#32
  let v120 : BitVec 32 := Scalar.addi v119 c512_i32
  let v121 : BitVec 32 := v120
  let v122 : Index := Scalar.indexCast v121
  let c0_40 : Index := 0#32
  ![v122.toNat, 0]
def k0_off5 (i : grid0.Coords) : Fin 2 → Nat :=
  let arg1 : BitVec 32 := BitVec.ofNat 32 (i 1).val
  let c1024_i32_39 : BitVec 32 := 1024#32
  let v119 : BitVec 32 := Scalar.muli arg1 c1024_i32_39
  let c512_i32 : BitVec 32 := 512#32
  let v120 : BitVec 32 := Scalar.addi v119 c512_i32
  let v121 : BitVec 32 := v120
  let v133 : Index := Scalar.indexCast v121
  let c0_43 : Index := 0#32
  ![v133.toNat, 0]
def k0_off6 (i : grid0.Coords) : Fin 2 → Nat :=
  let arg1 : BitVec 32 := BitVec.ofNat 32 (i 1).val
  let c1024_i32_39 : BitVec 32 := 1024#32
  let v119 : BitVec 32 := Scalar.muli arg1 c1024_i32_39
  let c512_i32 : BitVec 32 := 512#32
  let v120 : BitVec 32 := Scalar.addi v119 c512_i32
  let v121 : BitVec 32 := v120
  let v161 : Index := Scalar.indexCast v121
  let c128_56 : Index := 128#32
  ![v161.toNat, 128]
def k0_mult3 (i : grid0.Coords) : BitVec 32 :=
  let arg1 : BitVec 32 := BitVec.ofNat 32 (i 1).val
  let c1024_i32_85 : BitVec 32 := 1024#32
  let v232 : BitVec 32 := Scalar.muli arg1 c1024_i32_85
  let c512_i32_86 : BitVec 32 := 512#32
  let v233 : BitVec 32 := Scalar.addi v232 c512_i32_86
  v233
@[reducible] def k0_t1_loop (i : grid0.Coords) : Scf.Loop 32 :=
  let arg1 : BitVec 32 := BitVec.ofNat 32 (i 1).val
  let c1_i32 : BitVec 32 := 1#32
  let v346 : BitVec 32 := Scalar.addi arg1 c1_i32
  let c4_i32 : BitVec 32 := 4#32
  let v347 : BitVec 32 := Scalar.subi c4_i32 v346
  let c1_i32_128 : BitVec 32 := 1#32
  let v349 : BitVec 32 := Scalar.divsi v347 c1_i32_128
  let v350 : BitVec 32 := Scalar.muli v349 c1_i32_128
  let v351 : BitVec 32 := Scalar.addi v346 v350
  let c1_i32_129 : BitVec 32 := 1#32
  ⟨v346, v351, c1_i32_129⟩
def k0_mult4 (i : grid0.Coords) (k0_t1 : Fin (k0_t1_loop i).trips) : BitVec 32 :=
  let arg1 : BitVec 32 := BitVec.ofNat 32 (i 1).val
  let c1_i32 : BitVec 32 := 1#32
  let v346 : BitVec 32 := Scalar.addi arg1 c1_i32
  let c1_i32_129 : BitVec 32 := 1#32
  let arg16 : BitVec 32 := Scf.iv v346 c1_i32_129 k0_t1
  let c1024_i32_143 : BitVec 32 := 1024#32
  let v360 : BitVec 32 := Scalar.muli arg16 c1024_i32_143
  v360
def k0_off7 (i : grid0.Coords) (k0_t1 : Fin (k0_t1_loop i).trips) : Fin 2 → Nat :=
  let arg1 : BitVec 32 := BitVec.ofNat 32 (i 1).val
  let c1_i32 : BitVec 32 := 1#32
  let v346 : BitVec 32 := Scalar.addi arg1 c1_i32
  let c1_i32_129 : BitVec 32 := 1#32
  let arg16 : BitVec 32 := Scf.iv v346 c1_i32_129 k0_t1
  let c1024_i32_143 : BitVec 32 := 1024#32
  let v360 : BitVec 32 := Scalar.muli arg16 c1024_i32_143
  let v361 : BitVec 32 := v360
  let v362 : Index := Scalar.indexCast v361
  let c0_144 : Index := 0#32
  ![v362.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v346 : BitVec 32 := Scalar.addi arg1 c1_i32
  let c1_i32_129 : BitVec 32 := 1#32
  let arg16 : BitVec 32 := Scf.iv v346 c1_i32_129 k0_t1
  let c1024_i32_143 : BitVec 32 := 1024#32
  let v360 : BitVec 32 := Scalar.muli arg16 c1024_i32_143
  let v361 : BitVec 32 := v360
  let v373 : Index := Scalar.indexCast v361
  let c0_147 : Index := 0#32
  ![v373.toNat, 0]
def k0_off9 (i : grid0.Coords) (k0_t1 : Fin (k0_t1_loop i).trips) : Fin 2 → Nat :=
  let arg1 : BitVec 32 := BitVec.ofNat 32 (i 1).val
  let c1_i32 : BitVec 32 := 1#32
  let v346 : BitVec 32 := Scalar.addi arg1 c1_i32
  let c1_i32_129 : BitVec 32 := 1#32
  let arg16 : BitVec 32 := Scf.iv v346 c1_i32_129 k0_t1
  let c1024_i32_143 : BitVec 32 := 1024#32
  let v360 : BitVec 32 := Scalar.muli arg16 c1024_i32_143
  let v361 : BitVec 32 := v360
  let v401 : Index := Scalar.indexCast v361
  let c128_160 : Index := 128#32
  ![v401.toNat, 128]
@[reducible] def k0_t2_loop (i : grid0.Coords) : Scf.Loop 32 :=
  let arg1 : BitVec 32 := BitVec.ofNat 32 (i 1).val
  let c1_i32 : BitVec 32 := 1#32
  let v346 : BitVec 32 := Scalar.addi arg1 c1_i32
  let c4_i32 : BitVec 32 := 4#32
  let v347 : BitVec 32 := Scalar.subi c4_i32 v346
  let c1_i32_128 : BitVec 32 := 1#32
  let v349 : BitVec 32 := Scalar.divsi v347 c1_i32_128
  let v350 : BitVec 32 := Scalar.muli v349 c1_i32_128
  let v351 : BitVec 32 := Scalar.addi v346 v350
  let v348 : BitVec 32 := Scalar.addi v346 v347
  let c1_i32_130 : BitVec 32 := 1#32
  ⟨v351, v348, c1_i32_130⟩
def k0_mult5 (i : grid0.Coords) (k0_t2 : Fin (k0_t2_loop i).trips) : BitVec 32 :=
  let arg1 : BitVec 32 := BitVec.ofNat 32 (i 1).val
  let c1_i32 : BitVec 32 := 1#32
  let v346 : BitVec 32 := Scalar.addi arg1 c1_i32
  let c4_i32 : BitVec 32 := 4#32
  let v347 : BitVec 32 := Scalar.subi c4_i32 v346
  let c1_i32_128 : BitVec 32 := 1#32
  let v349 : BitVec 32 := Scalar.divsi v347 c1_i32_128
  let v350 : BitVec 32 := Scalar.muli v349 c1_i32_128
  let v351 : BitVec 32 := Scalar.addi v346 v350
  let c1_i32_130 : BitVec 32 := 1#32
  let arg16 : BitVec 32 := Scf.iv v351 c1_i32_130 k0_t2
  let c1024_i32_143 : BitVec 32 := 1024#32
  let v360 : BitVec 32 := Scalar.muli arg16 c1024_i32_143
  v360
def k0_off10 (i : grid0.Coords) (k0_t2 : Fin (k0_t2_loop i).trips) : Fin 2 → Nat :=
  let arg1 : BitVec 32 := BitVec.ofNat 32 (i 1).val
  let c1_i32 : BitVec 32 := 1#32
  let v346 : BitVec 32 := Scalar.addi arg1 c1_i32
  let c4_i32 : BitVec 32 := 4#32
  let v347 : BitVec 32 := Scalar.subi c4_i32 v346
  let c1_i32_128 : BitVec 32 := 1#32
  let v349 : BitVec 32 := Scalar.divsi v347 c1_i32_128
  let v350 : BitVec 32 := Scalar.muli v349 c1_i32_128
  let v351 : BitVec 32 := Scalar.addi v346 v350
  let c1_i32_130 : BitVec 32 := 1#32
  let arg16 : BitVec 32 := Scf.iv v351 c1_i32_130 k0_t2
  let c1024_i32_143 : BitVec 32 := 1024#32
  let v360 : BitVec 32 := Scalar.muli arg16 c1024_i32_143
  let v361 : BitVec 32 := v360
  let v362 : Index := Scalar.indexCast v361
  let c0_144 : Index := 0#32
  ![v362.toNat, 0]
def k0_off11 (i : grid0.Coords) (k0_t2 : Fin (k0_t2_loop i).trips) : Fin 2 → Nat :=
  let arg1 : BitVec 32 := BitVec.ofNat 32 (i 1).val
  let c1_i32 : BitVec 32 := 1#32
  let v346 : BitVec 32 := Scalar.addi arg1 c1_i32
  let c4_i32 : BitVec 32 := 4#32
  let v347 : BitVec 32 := Scalar.subi c4_i32 v346
  let c1_i32_128 : BitVec 32 := 1#32
  let v349 : BitVec 32 := Scalar.divsi v347 c1_i32_128
  let v350 : BitVec 32 := Scalar.muli v349 c1_i32_128
  let v351 : BitVec 32 := Scalar.addi v346 v350
  let c1_i32_130 : BitVec 32 := 1#32
  let arg16 : BitVec 32 := Scf.iv v351 c1_i32_130 k0_t2
  let c1024_i32_143 : BitVec 32 := 1024#32
  let v360 : BitVec 32 := Scalar.muli arg16 c1024_i32_143
  let v361 : BitVec 32 := v360
  let v373 : Index := Scalar.indexCast v361
  let c0_147 : Index := 0#32
  ![v373.toNat, 0]
def k0_off12 (i : grid0.Coords) (k0_t2 : Fin (k0_t2_loop i).trips) : Fin 2 → Nat :=
  let arg1 : BitVec 32 := BitVec.ofNat 32 (i 1).val
  let c1_i32 : BitVec 32 := 1#32
  let v346 : BitVec 32 := Scalar.addi arg1 c1_i32
  let c4_i32 : BitVec 32 := 4#32
  let v347 : BitVec 32 := Scalar.subi c4_i32 v346
  let c1_i32_128 : BitVec 32 := 1#32
  let v349 : BitVec 32 := Scalar.divsi v347 c1_i32_128
  let v350 : BitVec 32 := Scalar.muli v349 c1_i32_128
  let v351 : BitVec 32 := Scalar.addi v346 v350
  let c1_i32_130 : BitVec 32 := 1#32
  let arg16 : BitVec 32 := Scf.iv v351 c1_i32_130 k0_t2
  let c1024_i32_143 : BitVec 32 := 1024#32
  let v360 : BitVec 32 := Scalar.muli arg16 c1024_i32_143
  let v361 : BitVec 32 := v360
  let v401 : Index := Scalar.indexCast v361
  let c128_160 : Index := 128#32
  ![v401.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S8x4096 : Shape := ⟨2, ![8, 4096]⟩
abbrev S4096x8x64 : Shape := ⟨3, ![4096, 8, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 116
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x512, .f32⟩
  | .hbm, ⟨5, _⟩ => ⟨S4096x8x64, .f32⟩
  | .hbm, ⟨6, _⟩ => ⟨S4096x8x64, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x1, .f32⟩
  | .hbm, ⟨12, _⟩ => ⟨S8x4096x4096, .f32⟩
  | .hbm, ⟨13, _⟩ => ⟨S8x4096x4096, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S4096x8x64, .f32⟩
  | .hbm, ⟨69, _⟩ => ⟨S8x64x4096, .f32⟩
  | .hbm, ⟨70, _⟩ => ⟨S4096x8x64, .f32⟩
  | .hbm, ⟨71, _⟩ => ⟨S4096x512, .f32⟩
  | .hbm, ⟨72, _⟩ => ⟨S4096x8x64, .f32⟩
  | .hbm, ⟨73, _⟩ => ⟨S8x64x4096, .f32⟩
  | .hbm, ⟨74, _⟩ => ⟨S8x4096x4096, .f32⟩
  | .hbm, ⟨75, _⟩ => ⟨S8x64x4096, .f32⟩
  | .hbm, ⟨76, _⟩ => ⟨S4096x8x64, .f32⟩
  | .hbm, ⟨77, _⟩ => ⟨S4096x512, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S8x4096x1, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096x4096, .f32⟩
  | .hbm, ⟨94, _⟩ => ⟨S8x4096x4096, .f32⟩
  | .hbm, ⟨95, _⟩ => ⟨S8x4096x4096, .f32⟩
  | .hbm, ⟨96, _⟩ => ⟨S_, .f32⟩
  | .hbm, ⟨97, _⟩ => ⟨S8x4096, .f32⟩
  | .hbm, ⟨98, _⟩ => ⟨S8x1x4096, .f32⟩
  | .hbm, ⟨99, _⟩ => ⟨S_, .f32⟩
  | .hbm, ⟨100, _⟩ => ⟨S8x4096, .f32⟩
  | .hbm, ⟨101, _⟩ => ⟨S_, .f32⟩
  | .hbm, ⟨102, _⟩ => ⟨S8x4096, .f32⟩
  | .hbm, ⟨103, _⟩ => ⟨S8x4096x1, .f32⟩
  | .hbm, ⟨104, _⟩ => ⟨S_, .f32⟩
  | .hbm, ⟨105, _⟩ => ⟨S8x4096, .f32⟩
  | .hbm, ⟨106, _⟩ => ⟨S8x4096, .f32⟩
  | .hbm, ⟨107, _⟩ => ⟨S_, .f32⟩
  | .hbm, ⟨108, _⟩ => ⟨S8x4096x4096, .f32⟩
  | .hbm, ⟨109, _⟩ => ⟨S8x4096x4096, .f32⟩
  | .hbm, ⟨110, _⟩ => ⟨S8x4096x64, .f32⟩
  | .hbm, ⟨111, _⟩ => ⟨S4096x8x64, .f32⟩
  | .hbm, ⟨112, _⟩ => ⟨S8x4096x64, .f32⟩
  | .hbm, ⟨113, _⟩ => ⟨S4096x8x64, .f32⟩
  | .hbm, ⟨114, _⟩ => ⟨S4096x512, .f32⟩
  | .hbm, ⟨115, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x2816, .bf16⟩
  | .hbm, ⟨4, _⟩ => ⟨S4096x2816, .bf16⟩
  | .hbm, ⟨5, _⟩ => ⟨S4096x1024, .bf16⟩
  | .hbm, ⟨6, _⟩ => ⟨S2816x1024, .bf16⟩
  | .hbm, ⟨7, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 25
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | .hbm, ⟨20, _⟩ => ⟨S4096x1024, .bf16⟩
  | .hbm, ⟨21, _⟩ => ⟨S2816x1024, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .bf16⟩
  | .hbm, ⟨28, _⟩ => ⟨S4096x2816, .bf16⟩
  | .hbm, ⟨29, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Proof.KernelFrame.lean ====
/-
The frame of the kernel in its machine formats, and the pieces of proof it needs.

The kernel's body is run once at a grid point where the query gradient starts (case A) and once at any other
point (case B), with nothing said of what it leaves in its outputs.  From the two runs comes the obligation of the
pipeline at every point, and from it the frame: the launch ends, the arguments are as they were launched, and every
semaphore counter is zero.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen hiding frame_of

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v86, main_v87, main_v88, main_v89, main_v90, main_v91, main_v92, main_v93, main_v94, main_v95, main_v96, main_v97, main_v98}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-! ## The frame claim's post from the frame run's -/

/-- The frame from a run: for proof data whose arrays are the contents at the call's entry (`hA`), what the run
    says of the argument arrays, each staged or not, is what the frame claim asks. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S4096x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4096x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x128 .f32 := Memref.whole cc0_scratch2

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1000000 in
/-- The body's triple IN CASE A (`scf.if` 0 taken: points 0, 4, 8, 12): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (hc0 : cond0_0 i)
    (x0 : Vec F S4096x256 .bf16) (x1 : Vec F S1024x256 .bf16) (x2 : Vec F S1024x256 .bf16) (x3 : Vec F S4096x128 .bf16) (x4 : Vec F S4096x128 .f32) (x5 : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_attn_bwd_eq_skeleton]; unfold cc0_attn_bwd_skel
    simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 1000000 in
/-- The body's triple IN CASE B (`scf.if` 0 not taken: points 1, 2, … 15: 12 of 16): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (hc0 : ¬cond0_0 i)
    (x0 : Vec F S4096x256 .bf16) (x1 : Vec F S1024x256 .bf16) (x2 : Vec F S1024x256 .bf16) (x3 : Vec F S4096x128 .bf16) (x4 : Vec F S4096x128 .f32) (x5 : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_attn_bwd_eq_skeleton]; unfold cc0_attn_bwd_skel
    simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The output windows this certificate FORGETS (6, 7, 8, 9, 10): nothing reads what the kernel leaves in them, so nothing
    of it is named. -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the contents at the call's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2000000 in
/-- The body at any point: the inputs' memrefs hold their blocks (`before0_W`); the closed forms say which case the point is in, an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 16 := lt_of_lt_of_eq t.isLt (show cfg0.N = 16 from N_0)
  by_cases h0 : t.val % 4 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (over the proof data with those windows
    forgotten), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: the frame claim's statement, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Attn

end
-- ==== Proof.RefRun.lean ====
module

public import proofs.«01_k».proof.Proof.Gen.ReferenceIdeal
public import Idealize.ShloMosaic.Lib.StableHlo.Run
public import Idealize.ShloMosaic.Lib.Pipeline.Regions

/-! The reference's operations, in six stretches, and its run: every buffer ends at what the stretches leave in it. -/

@[expose] public section

set_option maxRecDepth 16384

noncomputable section

namespace Cert.ReferenceIdeal.Attn

open Cert.ReferenceIdeal Cert.ReferenceIdeal.Gen Idealize.ShloMosaic Idealize.ShloMosaic.TcCoe Idealize.SL.Sem Idealize.ShloMosaic.StableHlo

variable {F : FTy → Type} [FloatOps F]

/-- The operations from `main_v0` on. -/
abbrev lineA : List (HloOp τ sig (Elt F)) :=
  [ reshape main_arg0 main_v0 (rfl : (.f32 : EltTy) = .f32) shapeCasts_S4096x512_S4096x8x64,
    reshape main_arg1 main_v1 (rfl : (.f32 : EltTy) = .f32) shapeCasts_S4096x512_S4096x8x64,
    binary main_v0 main_v1 main_v2 ((fun l r => Host.dotGeneral dot_S4096x8x64_S4096x8x64_S8x4096x4096_2_2_0_0_1_1 none l r) : (⟨S4096x8x64, .f32⟩ : BufTy).Contents (Elt F) → (⟨S4096x8x64, .f32⟩ : BufTy).Contents (Elt F) → (⟨S8x4096x4096, .f32⟩ : BufTy).Contents (Elt F)),
    nullary main_cst (constant S_ .f32 0x3E000000#32),
    unary main_cst main_v3 (broadcastInDim S8x4096x4096 ![] bcast_S_S8x4096x4096 : (⟨S_, .f32⟩ : BufTy).Contents (Elt F) → (⟨S8x4096x4096, .f32⟩ : BufTy).Contents (Elt F)),
    binary main_v2 main_v3 main_v4 (mulf : (⟨S8x4096x4096, .f32⟩ : BufTy).Contents (Elt F) → (⟨S8x4096x4096, .f32⟩ : BufTy).Contents (Elt F) → (⟨S8x4096x4096, .f32⟩ : BufTy).Contents (Elt F)),
    unary main_arg3 main_v5 (broadcastInDim S8x4096x1 ![0, 1] bcast_S8x4096_S8x4096x1_0_1 : (⟨S8x4096, .f32⟩ : BufTy).Contents (Elt F) → (⟨S8x4096x1, .f32⟩ : BufTy).Contents (Elt F)),
    unary main_v5 main_v6 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v4 main_v6 main_v7 (addf : (⟨S8x4096x4096, .f32⟩ : BufTy).Contents (Elt F) → (⟨S8x4096x4096, .f32⟩ : BufTy).Contents (Elt F) → (⟨S8x4096x4096, .f32⟩ : BufTy).Contents (Elt F)),
    unary main_arg3 main_v8 (broadcastInDim S8x1x4096 ![0, 2] bcast_S8x4096_S8x1x4096_0_2 : (⟨S8x4096, .f32⟩ : BufTy).Contents (Elt F) → (⟨S8x1x4096, .f32⟩ : BufTy).Contents (Elt F)),
    unary main_v8 main_v9 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v7 main_v9 main_v10 (subf : (⟨S8x4096x4096, .f32⟩ : BufTy).Contents (Elt F) → (⟨S8x4096x4096, .f32⟩ : BufTy).Contents (Elt F) → (⟨S8x4096x4096, .f32⟩ : BufTy).Contents (Elt F)),
    nullary main_v11 (iotaInDim S4096 32 0),
    unary main_v11 main_v12 (broadcastInDim S1x4096 ![1] bcast_S4096_S1x4096_1 : (⟨S4096, .i32⟩ : BufTy).Contents (Elt F) → (⟨S1x4096, .i32⟩ : BufTy).Contents (Elt F)),
    unary main_v11 main_v13 (broadcastInDim S4096x1 ![0] bcast_S4096_S4096x1_0 : (⟨S4096, .i32⟩ : BufTy).Contents (Elt F) → (⟨S4096x1, .i32⟩ : BufTy).Contents (Elt F)),
    unary main_v12 main_v14 (broadcastInDim S4096x4096 ![0, 1] bcast_S1x4096_S4096x4096_0_1 : (⟨S1x4096, .i32⟩ : BufTy).Contents (Elt F) → (⟨S4096x4096, .i32⟩ : BufTy).Contents (Elt F)),
    unary main_v13 main_v15 (broadcastInDim S4096x4096 ![0, 1] bcast_S4096x1_S4096x4096_0_1 : (⟨S4096x1, .i32⟩ : BufTy).Contents (Elt F) → (⟨S4096x4096, .i32⟩ : BufTy).Contents (Elt F)),
    binary main_v14 main_v15 main_v16 (cmpi .sle : (⟨S4096x4096, .i32⟩ : BufTy).Contents (Elt F) → (⟨S4096x4096, .i32⟩ : BufTy).Contents (Elt F) → (⟨S4096x4096, .i1⟩ : BufTy).Contents (Elt F)),
    nullary main_cst_0 (constant S_ .f32 0xFF800000#32) ]

theorem lineA_sub : (lineA : List (HloOp τ sig (Elt F))).Forall fun op => op.bufs ⊆ tcRefs τ sig := by
  simp only [List.Forall]
  exact ⟨reshape_bufs_sub .., reshape_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., binary_bufs_sub .., nullary_bufs_sub ..⟩
/-- What they write. -/
abbrev lineA_refs : List (Ref sig .tc) := [main_v0, main_v1, main_v2, main_cst, main_v3, main_v4, main_v5, main_v6, main_v7, main_v8, main_v9, main_v10, main_v11, main_v12, main_v13, main_v14, main_v15, main_v16, main_cst_0]
theorem lineA_writes : (lineA : List (HloOp τ sig (Elt F))).Forall fun op => op.writes ⊆ (lineA_refs.map (Proc.devRef (τ := τ) .tc)).toFinset :=
  forall_writes_sub_of_map rfl
theorem lineA_fresh : (lineA : List (HloOp τ sig (Elt F))).Forall fun op => op.fresh = ∅ := forall_fresh_of_map rfl
/-- They leave every other reference alone. -/
theorem lineA_keeps (V : Valuation τ sig (Elt F)) {r : Ref sig .tc} (hr : r ∉ lineA_refs) : after lineA V (Proc.devRef .tc r) = V (Proc.devRef .tc r) :=
  after_of_writes_sub lineA V lineA_writes hr

/-- The operations from `main_call0_v0` on. -/
abbrev lineWhere : List (HloOp τ sig (Elt F)) :=
  [ TRef.unary (TRef.of (T := ⟨S_, .f32⟩) main_cst_0) (TRef.of (T := ⟨S_, .f32⟩) main_call0_v0) id,
    TRef.unary (TRef.of (T := ⟨S4096x4096, .i1⟩) main_v16) (TRef.of (T := ⟨S8x4096x4096, .i1⟩) main_v17_1) (broadcastInDim S8x4096x4096 ![1, 2] bcast_S4096x4096_S8x4096x4096_1_2),
    TRef.unary (TRef.of (T := ⟨S_, .f32⟩) main_call0_v0) (TRef.of (T := ⟨S8x4096x4096, .f32⟩) main_call0_v2) (broadcastInDim S8x4096x4096 ![] bcast_S_S8x4096x4096),
    TRef.ternary (TRef.of (T := ⟨S8x4096x4096, .i1⟩) main_v17_1) (TRef.of (T := ⟨S8x4096x4096, .f32⟩) main_v10) (TRef.of (T := ⟨S8x4096x4096, .f32⟩) main_call0_v2) (TRef.of (T := ⟨S8x4096x4096, .f32⟩) main_v17_0) select,
    TRef.nullary (TRef.of (T := ⟨S_, .f32⟩) main_call0_cst) (constant S_ .f32 0x00000000#32),
    TRef.unary (TRef.of (T := ⟨S_, .f32⟩) main_call0_cst) (TRef.of (T := ⟨S8x4096x4096, .f32⟩) main_v17_2) (broadcastInDim S8x4096x4096 ![] bcast_S_S8x4096x4096) ]

theorem lineWhere_sub : (lineWhere : List (HloOp τ sig (Elt F))).Forall fun op => op.bufs ⊆ tcRefs τ sig := by
  simp only [List.Forall]
  exact ⟨unary_bufs_sub .., unary_bufs_sub .., unary_bufs_sub .., ternary_bufs_sub .., nullary_bufs_sub .., unary_bufs_sub ..⟩
/-- What they write. -/
abbrev lineWhere_refs : List (Ref sig .tc) := [main_call0_v0, main_v17_1, main_call0_v2, main_v17_0, main_call0_cst, main_v17_2]
theorem lineWhere_writes : (lineWhere : List (HloOp τ sig (Elt F))).Forall fun op => op.writes ⊆ (lineWhere_refs.map (Proc.devRef (τ := τ) .tc)).toFinset :=
  forall_writes_sub_of_map rfl
theorem lineWhere_fresh : (lineWhere : List (HloOp τ sig (Elt F))).Forall fun op => op.fresh = ∅ := forall_fresh_of_map rfl
/-- They leave every other reference alone. -/
theorem lineWhere_keeps (V : Valuation τ sig (Elt F)) {r : Ref sig .tc} (hr : r ∉ lineWhere_refs) : after lineWhere V (Proc.devRef .tc r) = V (Proc.devRef .tc r) :=
  after_of_writes_sub lineWhere V lineWhere_writes hr

/-- The operations from `main_cst_1` on. -/
abbrev lineB : List (HloOp τ sig (Elt F)) :=
  [ nullary main_cst_1 (constant S_ .f32 0xFF800000#32),
    binary main_v17_0 main_cst_1 main_v18 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v18 main_v19 (rfl : (.f32 : EltTy) = .f32) shapeCasts_S8x4096_S8x4096x1,
    unary main_v19 main_v20 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v17_0 main_v20 main_v21 (cmpf .oeq : (⟨S8x4096x4096, .f32⟩ : BufTy).Contents (Elt F) → (⟨S8x4096x4096, .f32⟩ : BufTy).Contents (Elt F) → (⟨S8x4096x4096, .i1⟩ : BufTy).Contents (Elt F)),
    unary main_v21 main_v22 (uitofp .f32 : (⟨S8x4096x4096, .i1⟩ : BufTy).Contents (Elt F) → (⟨S8x4096x4096, .f32⟩ : BufTy).Contents (Elt F)),
    nullary main_cst_2 (constant S_ .f32 0x00000000#32),
    binary main_v22 main_cst_2 main_v23 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_3 (constant S_ .f32 0xFF800000#32),
    unary main_cst_3 main_v24 (broadcastInDim S8x4096 ![] bcast_S_S8x4096 : (⟨S_, .f32⟩ : BufTy).Contents (Elt F) → (⟨S8x4096, .f32⟩ : BufTy).Contents (Elt F)),
    binary main_v24 main_v18 main_v25 (maximumf : (⟨S8x4096, .f32⟩ : BufTy).Contents (Elt F) → (⟨S8x4096, .f32⟩ : BufTy).Contents (Elt F) → (⟨S8x4096, .f32⟩ : BufTy).Contents (Elt F)),
    nullary main_cst_4 (constant S_ .f32 0xFF800000#32),
    unary main_cst_4 main_v26 (broadcastInDim S8x4096 ![] bcast_S_S8x4096 : (⟨S_, .f32⟩ : BufTy).Contents (Elt F) → (⟨S8x4096, .f32⟩ : BufTy).Contents (Elt F)),
    binary main_v18 main_v26 main_v27 (cmpf .ogt : (⟨S8x4096, .f32⟩ : BufTy).Contents (Elt F) → (⟨S8x4096, .f32⟩ : BufTy).Contents (Elt F) → (⟨S8x4096, .i1⟩ : BufTy).Contents (Elt F)),
    nullary main_cst_5 (constant S_ .f32 0xFF800000#32),
    unary main_cst_5 main_v28 (broadcastInDim S8x4096 ![] bcast_S_S8x4096 : (⟨S_, .f32⟩ : BufTy).Contents (Elt F) → (⟨S8x4096, .f32⟩ : BufTy).Contents (Elt F)),
    binary main_v18 main_v28 main_v29 (cmpf .oeq : (⟨S8x4096, .f32⟩ : BufTy).Contents (Elt F) → (⟨S8x4096, .f32⟩ : BufTy).Contents (Elt F) → (⟨S8x4096, .i1⟩ : BufTy).Contents (Elt F)),
    nullary main_cst_6 (constant S_ .f32 0x3F800000#32),
    unary main_cst_6 main_v30 (broadcastInDim S8x4096 ![] bcast_S_S8x4096 : (⟨S_, .f32⟩ : BufTy).Contents (Elt F) → (⟨S8x4096, .f32⟩ : BufTy).Contents (Elt F)),
    nullary main_cst_7 (constant S_ .f32 0x00000000#32),
    unary main_cst_7 main_v31 (broadcastInDim S8x4096 ![] bcast_S_S8x4096 : (⟨S_, .f32⟩ : BufTy).Contents (Elt F) → (⟨S8x4096, .f32⟩ : BufTy).Contents (Elt F)),
    nullary main_cst_8 (constant S_ .f32 0x3F000000#32),
    unary main_cst_8 main_v32 (broadcastInDim S8x4096 ![] bcast_S_S8x4096 : (⟨S_, .f32⟩ : BufTy).Contents (Elt F) → (⟨S8x4096, .f32⟩ : BufTy).Contents (Elt F)),
    ternary main_v29 main_v32 main_v31 main_v33 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    ternary main_v27 main_v30 main_v33 main_v34 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    unary main_v25 main_v35 (broadcastInDim S8x4096x1 ![0, 1] bcast_S8x4096_S8x4096x1_0_1 : (⟨S8x4096, .f32⟩ : BufTy).Contents (Elt F) → (⟨S8x4096x1, .f32⟩ : BufTy).Contents (Elt F)),
    unary main_v35 main_v36 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v17_0 main_v36 main_v37 (subf : (⟨S8x4096x4096, .f32⟩ : BufTy).Contents (Elt F) → (⟨S8x4096x4096, .f32⟩ : BufTy).Contents (Elt F) → (⟨S8x4096x4096, .f32⟩ : BufTy).Contents (Elt F)),
    unary main_v37 main_v38 (Host.exp : (⟨S8x4096x4096, .f32⟩ : BufTy).Contents (Elt F) → (⟨S8x4096x4096, .f32⟩ : BufTy).Contents (Elt F)),
    nullary main_cst_9 (constant S_ .f32 0x00000000#32),
    binary main_v38 main_cst_9 main_v39 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v39 main_v40 (broadcastInDim S8x4096x1 ![0, 1] bcast_S8x4096_S8x4096x1_0_1 : (⟨S8x4096, .f32⟩ : BufTy).Contents (Elt F) → (⟨S8x4096x1, .f32⟩ : BufTy).Contents (Elt F)),
    unary main_v40 main_v41 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v38 main_v41 main_v42 (Host.divf : (⟨S8x4096x4096, .f32⟩ : BufTy).Contents (Elt F) → (⟨S8x4096x4096, .f32⟩ : BufTy).Contents (Elt F) → (⟨S8x4096x4096, .f32⟩ : BufTy).Contents (Elt F)),
    binary main_v40 main_v40 main_v43 (mulf : (⟨S8x4096x1, .f32⟩ : BufTy).Contents (Elt F) → (⟨S8x4096x1, .f32⟩ : BufTy).Contents (Elt F) → (⟨S8x4096x1, .f32⟩ : BufTy).Contents (Elt F)),
    nullary main_cst_10 (constant S_ .f32 0x3F800000#32),
    unary main_cst_10 main_v44 (broadcastInDim S8x4096x1 ![] bcast_S_S8x4096x1 : (⟨S_, .f32⟩ : BufTy).Contents (Elt F) → (⟨S8x4096x1, .f32⟩ : BufTy).Contents (Elt F)),
    binary main_v44 main_v43 main_v45 (Host.divf : (⟨S8x4096x1, .f32⟩ : BufTy).Contents (Elt F) → (⟨S8x4096x1, .f32⟩ : BufTy).Contents (Elt F) → (⟨S8x4096x1, .f32⟩ : BufTy).Contents (Elt F)),
    reshape main_arg2 main_v46 (rfl : (.f32 : EltTy) = .f32) shapeCasts_S4096x512_S4096x8x64,
    binary main_v46 main_v42 main_v47 ((fun l r => Host.dotGeneral dot_S4096x8x64_S8x4096x4096_S8x64x4096_0_2_2_1_1_0 none l r) : (⟨S4096x8x64, .f32⟩ : BufTy).Contents (Elt F) → (⟨S8x4096x4096, .f32⟩ : BufTy).Contents (Elt F) → (⟨S8x64x4096, .f32⟩ : BufTy).Contents (Elt F)) ]

theorem lineB_sub : (lineB : List (HloOp τ sig (Elt F))).Forall fun op => op.bufs ⊆ tcRefs τ sig := by
  simp only [List.Forall]
  exact ⟨nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., reshape_bufs_sub .., binary_bufs_sub ..⟩
/-- What they write. -/
abbrev lineB_refs : List (Ref sig .tc) := [main_cst_1, main_v18, main_v19, main_v20, main_v21, main_v22, main_cst_2, main_v23, main_cst_3, main_v24, main_v25, main_cst_4, main_v26, main_v27, main_cst_5, main_v28, main_v29, main_cst_6, main_v30, main_cst_7, main_v31, main_cst_8, main_v32, main_v33, main_v34, main_v35, main_v36, main_v37, main_v38, main_cst_9, main_v39, main_v40, main_v41, main_v42, main_v43, main_cst_10, main_v44, main_v45, main_v46, main_v47]
theorem lineB_writes : (lineB : List (HloOp τ sig (Elt F))).Forall fun op => op.writes ⊆ (lineB_refs.map (Proc.devRef (τ := τ) .tc)).toFinset :=
  forall_writes_sub_of_map rfl
theorem lineB_fresh : (lineB : List (HloOp τ sig (Elt F))).Forall fun op => op.fresh = ∅ := forall_fresh_of_map rfl
/-- They leave every other reference alone. -/
theorem lineB_keeps (V : Valuation τ sig (Elt F)) {r : Ref sig .tc} (hr : r ∉ lineB_refs) : after lineB V (Proc.devRef .tc r) = V (Proc.devRef .tc r) :=
  after_of_writes_sub lineB V lineB_writes hr

/-- The operations from `main_v48` on. -/
abbrev lineC : List (HloOp τ sig (Elt F)) :=
  [ unary main_v47 main_v48 ((transpose S4096x8x64 [2, 0, 1] · transposes_S8x64x4096_S4096x8x64_2_0_1) : (⟨S8x64x4096, .f32⟩ : BufTy).Contents (Elt F) → (⟨S4096x8x64, .f32⟩ : BufTy).Contents (Elt F)),
    reshape main_v48 main_v49 (rfl : (.f32 : EltTy) = .f32) shapeCasts_S4096x8x64_S4096x512,
    reshape main_arg4 main_v50 (rfl : (.f32 : EltTy) = .f32) shapeCasts_S4096x512_S4096x8x64,
    unary main_v50 main_v51 ((transpose S8x64x4096 [1, 2, 0] · transposes_S4096x8x64_S8x64x4096_1_2_0) : (⟨S4096x8x64, .f32⟩ : BufTy).Contents (Elt F) → (⟨S8x64x4096, .f32⟩ : BufTy).Contents (Elt F)),
    binary main_v51 main_v46 main_v52 ((fun l r => Host.dotGeneral dot_S8x64x4096_S4096x8x64_S8x4096x4096_1_2_2_0_0_1 none l r) : (⟨S8x64x4096, .f32⟩ : BufTy).Contents (Elt F) → (⟨S4096x8x64, .f32⟩ : BufTy).Contents (Elt F) → (⟨S8x4096x4096, .f32⟩ : BufTy).Contents (Elt F)),
    binary main_v51 main_v42 main_v53 ((fun l r => Host.dotGeneral dot_S8x64x4096_S8x4096x4096_S8x64x4096_2_1_1_2_0_0 none l r) : (⟨S8x64x4096, .f32⟩ : BufTy).Contents (Elt F) → (⟨S8x4096x4096, .f32⟩ : BufTy).Contents (Elt F) → (⟨S8x64x4096, .f32⟩ : BufTy).Contents (Elt F)),
    unary main_v53 main_v54 ((transpose S4096x8x64 [2, 0, 1] · transposes_S8x64x4096_S4096x8x64_2_0_1) : (⟨S8x64x4096, .f32⟩ : BufTy).Contents (Elt F) → (⟨S4096x8x64, .f32⟩ : BufTy).Contents (Elt F)),
    reshape main_v54 main_v55 (rfl : (.f32 : EltTy) = .f32) shapeCasts_S4096x8x64_S4096x512,
    unary main_v45 main_v56 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v52 main_v56 main_v57 (mulf : (⟨S8x4096x4096, .f32⟩ : BufTy).Contents (Elt F) → (⟨S8x4096x4096, .f32⟩ : BufTy).Contents (Elt F) → (⟨S8x4096x4096, .f32⟩ : BufTy).Contents (Elt F)),
    binary main_v57 main_v38 main_v58 (mulf : (⟨S8x4096x4096, .f32⟩ : BufTy).Contents (Elt F) → (⟨S8x4096x4096, .f32⟩ : BufTy).Contents (Elt F) → (⟨S8x4096x4096, .f32⟩ : BufTy).Contents (Elt F)),
    nullary main_cst_11 (constant S_ .f32 0x00000000#32),
    binary main_v58 main_cst_11 main_v59 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v59 main_v60 (rfl : (.f32 : EltTy) = .f32) shapeCasts_S8x4096_S8x4096x1,
    unary main_v60 main_v61 (Host.negf : (⟨S8x4096x1, .f32⟩ : BufTy).Contents (Elt F) → (⟨S8x4096x1, .f32⟩ : BufTy).Contents (Elt F)),
    unary main_v40 main_v62 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v52 main_v62 main_v63 (Host.divf : (⟨S8x4096x4096, .f32⟩ : BufTy).Contents (Elt F) → (⟨S8x4096x4096, .f32⟩ : BufTy).Contents (Elt F) → (⟨S8x4096x4096, .f32⟩ : BufTy).Contents (Elt F)),
    nullary main_cst_12 (constant S_ .f32 0x00000000#32),
    binary main_v61 main_cst_12 main_v64 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v64 main_v65 (broadcastInDim S8x4096x4096 ![0, 1] bcast_S8x4096_S8x4096x4096_0_1 : (⟨S8x4096, .f32⟩ : BufTy).Contents (Elt F) → (⟨S8x4096x4096, .f32⟩ : BufTy).Contents (Elt F)),
    binary main_v63 main_v65 main_v66 (addf : (⟨S8x4096x4096, .f32⟩ : BufTy).Contents (Elt F) → (⟨S8x4096x4096, .f32⟩ : BufTy).Contents (Elt F) → (⟨S8x4096x4096, .f32⟩ : BufTy).Contents (Elt F)),
    binary main_v66 main_v38 main_v67 (mulf : (⟨S8x4096x4096, .f32⟩ : BufTy).Contents (Elt F) → (⟨S8x4096x4096, .f32⟩ : BufTy).Contents (Elt F) → (⟨S8x4096x4096, .f32⟩ : BufTy).Contents (Elt F)) ]

theorem lineC_sub : (lineC : List (HloOp τ sig (Elt F))).Forall fun op => op.bufs ⊆ tcRefs τ sig := by
  simp only [List.Forall]
  exact ⟨unary_bufs_sub .., reshape_bufs_sub .., reshape_bufs_sub .., unary_bufs_sub .., binary_bufs_sub .., binary_bufs_sub .., unary_bufs_sub .., reshape_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub ..⟩
/-- What they write. -/
abbrev lineC_refs : List (Ref sig .tc) := [main_v48, main_v49, main_v50, main_v51, main_v52, main_v53, main_v54, main_v55, main_v56, main_v57, main_v58, main_cst_11, main_v59, main_v60, main_v61, main_v62, main_v63, main_cst_12, main_v64, main_v65, main_v66, main_v67]
theorem lineC_writes : (lineC : List (HloOp τ sig (Elt F))).Forall fun op => op.writes ⊆ (lineC_refs.map (Proc.devRef (τ := τ) .tc)).toFinset :=
  forall_writes_sub_of_map rfl
theorem lineC_fresh : (lineC : List (HloOp τ sig (Elt F))).Forall fun op => op.fresh = ∅ := forall_fresh_of_map rfl
/-- They leave every other reference alone. -/
theorem lineC_keeps (V : Valuation τ sig (Elt F)) {r : Ref sig .tc} (hr : r ∉ lineC_refs) : after lineC V (Proc.devRef .tc r) = V (Proc.devRef .tc r) :=
  after_of_writes_sub lineC V lineC_writes hr

/-- The operations from `main_call1_cst` on. -/
abbrev lineWhere2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S8x4096x4096, .f32⟩) main_call1_v0) (broadcastInDim S8x4096x4096 ![] bcast_S_S8x4096x4096),
    TRef.ternary (TRef.of (T := ⟨S8x4096x4096, .i1⟩) main_v17_1) (TRef.of (T := ⟨S8x4096x4096, .f32⟩) main_v67) (TRef.of (T := ⟨S8x4096x4096, .f32⟩) main_call1_v0) (TRef.of (T := ⟨S8x4096x4096, .f32⟩) main_v68) select ]

theorem lineWhere2_sub : (lineWhere2 : List (HloOp τ sig (Elt F))).Forall fun op => op.bufs ⊆ tcRefs τ sig := by
  simp only [List.Forall]
  exact ⟨nullary_bufs_sub .., unary_bufs_sub .., ternary_bufs_sub ..⟩
/-- What they write. -/
abbrev lineWhere2_refs : List (Ref sig .tc) := [main_call1_cst, main_call1_v0, main_v68]
theorem lineWhere2_writes : (lineWhere2 : List (HloOp τ sig (Elt F))).Forall fun op => op.writes ⊆ (lineWhere2_refs.map (Proc.devRef (τ := τ) .tc)).toFinset :=
  forall_writes_sub_of_map rfl
theorem lineWhere2_fresh : (lineWhere2 : List (HloOp τ sig (Elt F))).Forall fun op => op.fresh = ∅ := forall_fresh_of_map rfl
/-- They leave every other reference alone. -/
theorem lineWhere2_keeps (V : Valuation τ sig (Elt F)) {r : Ref sig .tc} (hr : r ∉ lineWhere2_refs) : after lineWhere2 V (Proc.devRef .tc r) = V (Proc.devRef .tc r) :=
  after_of_writes_sub lineWhere2 V lineWhere2_writes hr

/-- The operations from `main_v69` on. -/
abbrev lineD : List (HloOp τ sig (Elt F)) :=
  [ unary main_v68 main_v69 (Host.negf : (⟨S8x4096x4096, .f32⟩ : BufTy).Contents (Elt F) → (⟨S8x4096x4096, .f32⟩ : BufTy).Contents (Elt F)),
    nullary main_cst_13 (constant S_ .f32 0x00000000#32),
    binary main_v69 main_cst_13 main_v70 ((fun x v => Host.reduceAdd x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    reshape main_v70 main_v71 (rfl : (.f32 : EltTy) = .f32) shapeCasts_S8x4096_S8x1x4096,
    nullary main_cst_14 (constant S_ .f32 0x00000000#32),
    binary main_v71 main_cst_14 main_v72 ((fun x v => Host.reduceAdd x v reducesTo_S8x1x4096_S8x4096_d1 h_S_) : (⟨S8x1x4096, .f32⟩ : BufTy).Contents (Elt F) → (⟨S_, .f32⟩ : BufTy).Contents (Elt F) → (⟨S8x4096, .f32⟩ : BufTy).Contents (Elt F)),
    nullary main_cst_15 (constant S_ .f32 0x00000000#32),
    binary main_v68 main_cst_15 main_v73 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    reshape main_v73 main_v74 (rfl : (.f32 : EltTy) = .f32) shapeCasts_S8x4096_S8x4096x1,
    nullary main_cst_16 (constant S_ .f32 0x00000000#32),
    binary main_v74 main_cst_16 main_v75 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    binary main_v72 main_v75 main_v76 (addf : (⟨S8x4096, .f32⟩ : BufTy).Contents (Elt F) → (⟨S8x4096, .f32⟩ : BufTy).Contents (Elt F) → (⟨S8x4096, .f32⟩ : BufTy).Contents (Elt F)),
    nullary main_cst_17 (constant S_ .f32 0x3E000000#32),
    unary main_cst_17 main_v77 (broadcastInDim S8x4096x4096 ![] bcast_S_S8x4096x4096 : (⟨S_, .f32⟩ : BufTy).Contents (Elt F) → (⟨S8x4096x4096, .f32⟩ : BufTy).Contents (Elt F)),
    binary main_v68 main_v77 main_v78 (mulf : (⟨S8x4096x4096, .f32⟩ : BufTy).Contents (Elt F) → (⟨S8x4096x4096, .f32⟩ : BufTy).Contents (Elt F) → (⟨S8x4096x4096, .f32⟩ : BufTy).Contents (Elt F)),
    binary main_v78 main_v0 main_v79 ((fun l r => Host.dotGeneral dot_S8x4096x4096_S4096x8x64_S8x4096x64_1_0_2_2_0_1 none l r) : (⟨S8x4096x4096, .f32⟩ : BufTy).Contents (Elt F) → (⟨S4096x8x64, .f32⟩ : BufTy).Contents (Elt F) → (⟨S8x4096x64, .f32⟩ : BufTy).Contents (Elt F)),
    unary main_v79 main_v80 ((transpose S4096x8x64 [1, 0, 2] · transposes_S8x4096x64_S4096x8x64_1_0_2) : (⟨S8x4096x64, .f32⟩ : BufTy).Contents (Elt F) → (⟨S4096x8x64, .f32⟩ : BufTy).Contents (Elt F)),
    binary main_v78 main_v1 main_v81 ((fun l r => Host.dotGeneral dot_S8x4096x4096_S4096x8x64_S8x4096x64_2_0_1_2_0_1 none l r) : (⟨S8x4096x4096, .f32⟩ : BufTy).Contents (Elt F) → (⟨S4096x8x64, .f32⟩ : BufTy).Contents (Elt F) → (⟨S8x4096x64, .f32⟩ : BufTy).Contents (Elt F)),
    unary main_v81 main_v82 ((transpose S4096x8x64 [1, 0, 2] · transposes_S8x4096x64_S4096x8x64_1_0_2) : (⟨S8x4096x64, .f32⟩ : BufTy).Contents (Elt F) → (⟨S4096x8x64, .f32⟩ : BufTy).Contents (Elt F)),
    reshape main_v80 main_v83 (rfl : (.f32 : EltTy) = .f32) shapeCasts_S4096x8x64_S4096x512,
    reshape main_v82 main_v84 (rfl : (.f32 : EltTy) = .f32) shapeCasts_S4096x8x64_S4096x512 ]

theorem lineD_sub : (lineD : List (HloOp τ sig (Elt F))).Forall fun op => op.bufs ⊆ tcRefs τ sig := by
  simp only [List.Forall]
  exact ⟨unary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., binary_bufs_sub .., nullary_bufs_sub .., unary_bufs_sub .., binary_bufs_sub .., binary_bufs_sub .., unary_bufs_sub .., binary_bufs_sub .., unary_bufs_sub .., reshape_bufs_sub .., reshape_bufs_sub ..⟩
/-- What they write. -/
abbrev lineD_refs : List (Ref sig .tc) := [main_v69, main_cst_13, main_v70, main_v71, main_cst_14, main_v72, main_cst_15, main_v73, main_v74, main_cst_16, main_v75, main_v76, main_cst_17, main_v77, main_v78, main_v79, main_v80, main_v81, main_v82, main_v83, main_v84]
theorem lineD_writes : (lineD : List (HloOp τ sig (Elt F))).Forall fun op => op.writes ⊆ (lineD_refs.map (Proc.devRef (τ := τ) .tc)).toFinset :=
  forall_writes_sub_of_map rfl
theorem lineD_fresh : (lineD : List (HloOp τ sig (Elt F))).Forall fun op => op.fresh = ∅ := forall_fresh_of_map rfl
/-- They leave every other reference alone. -/
theorem lineD_keeps (V : Valuation τ sig (Elt F)) {r : Ref sig .tc} (hr : r ∉ lineD_refs) : after lineD V (Proc.devRef .tc r) = V (Proc.devRef .tc r) :=
  after_of_writes_sub lineD V lineD_writes hr

theorem part0_chain (c : Dev nD) : main_part0 (F := F) c = (Pipeline.chainK [seq lineA, seq lineWhere] (seq lineB) : Prog (TpuEff nD τ sig (Elt F) (Pipeline.Sig Λ₀ (Fin 0) fun p => (pcfgs (F := F) p).Adm) .tc) PUnit) := by
  rewrite [chainK_seq_cons, Pipeline.chainK_cons]
  chain_rfl

theorem part1_chain (c : Dev nD) : main_part1 (F := F) c = (Pipeline.chain [seq lineC, seq lineWhere2, seq lineD] : Prog (TpuEff nD τ sig (Elt F) (Pipeline.Sig Λ₀ (Fin 0) fun p => (pcfgs (F := F) p).Adm) .tc) PUnit) := by
  rewrite [chain_seq_cons, Pipeline.chain_cons, chain_seq_cons]
  chain_rfl

theorem six_chain (l₁ l₂ l₃ l₄ l₅ l₆ : List (HloOp τ sig (Elt F))) :
    (Pipeline.chain ([seq l₁, seq l₂] ++ seq l₃ :: [seq l₄, seq l₅, seq l₆]) : Prog (TpuEff nD τ sig (Elt F) (Pipeline.Sig Λ₀ (Fin 0) fun p => (pcfgs (F := F) p).Adm) .tc) PUnit) = seq (l₁ ++ (l₂ ++ (l₃ ++ (l₄ ++ (l₅ ++ l₆))))) := by
  simp only [List.cons_append, List.nil_append, Pipeline.chain_cons, Pipeline.chain_nil, seq_append]
  rw [show (seq l₆ >>= fun _ => pure ⟨⟩ : Prog (TpuEff nD τ sig (Elt F) (Pipeline.Sig Λ₀ (Fin 0) fun p => (pcfgs (F := F) p).Adm) .tc) PUnit) = seq l₆ from (seq_append l₆ []).symm.trans (by rw [List.append_nil])]

/-- All the operations, in order. -/
def line : List (HloOp τ sig (Elt F)) := lineA ++ (lineWhere ++ (lineB ++ (lineC ++ (lineWhere2 ++ lineD))))

theorem main_line (c : Dev nD) : main (F := F) c = seq line := by
  show (main_part0 (F := F) c >>= fun _ => main_part1 (F := F) c) = _
  rewrite [part1_chain, part0_chain, Pipeline.chainK_bind_chain]
  exact six_chain _ _ _ _ _ _

theorem scopedRefs_eq : (Finset.univ.filter fun b : Ref sig .tc => b.isScoped) = ∅ := by decide
theorem scopedSems_eq : (Finset.univ.filter fun sm : SemLoc sig => sm.isScoped .tc) = ∅ := by decide

theorem after_join (l₁ l₂ : List (HloOp τ sig (Elt F))) (V : Valuation τ sig (Elt F)) : after (l₁ ++ l₂) V = after l₂ (after l₁ V) := by
  induction l₁ generalizing V with
  | nil => rfl
  | cons op l ih => exact ih _

theorem forall_join {p : HloOp τ sig (Elt F) → Prop} {l₁ l₂ : List (HloOp τ sig (Elt F))} (h₁ : l₁.Forall p) (h₂ : l₂.Forall p) : (l₁ ++ l₂).Forall p :=
  (List.forall_append ..).mpr ⟨h₁, h₂⟩

/-- What the buffers hold after all of them. -/
theorem after_line (V : Valuation τ sig (Elt F)) :
    after line V = after lineD (after lineWhere2 (after lineC (after lineB (after lineWhere (after lineA V))))) := by
  unfold line
  rw [after_join, after_join, after_join, after_join, after_join]

theorem line_sub : (line : List (HloOp τ sig (Elt F))).Forall fun op => op.bufs ⊆ tcRefs τ sig := by
  exact forall_join lineA_sub (forall_join lineWhere_sub (forall_join lineB_sub (forall_join lineC_sub (forall_join lineWhere2_sub lineD_sub))))

theorem line_fresh : (line : List (HloOp τ sig (Elt F))).Forall fun op => op.fresh = ∅ := by
  exact forall_join lineA_fresh (forall_join lineWhere_fresh (forall_join lineB_fresh (forall_join lineC_fresh (forall_join lineWhere2_fresh lineD_fresh))))

/-- Every fair execution ends, each buffer at what the operations leave in it, every counter at zero. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after line (launchContents m c) (Proc.devRef .tc b) :=
  run_seq scopedRefs_eq scopedSems_eq defs main (fun _ => line) main_line (fun _ => line_sub) m ρ
    (fun _ => List.forall_iff_forall_mem.mp line_fresh)

/-- An argument keeps its contents. -/
theorem keeps (V : Valuation τ sig (Elt F)) {r : Ref sig .tc} (hA : r ∉ lineA_refs) (hW : r ∉ lineWhere_refs) (hB : r ∉ lineB_refs)
    (hC : r ∉ lineC_refs) (hW' : r ∉ lineWhere2_refs) (hD : r ∉ lineD_refs) : after line V (Proc.devRef .tc r) = V (Proc.devRef .tc r) := by
  rw [after_line, lineD_keeps _ hD, lineWhere2_keeps _ hW', lineC_keeps _ hC, lineB_keeps _ hB, lineWhere_keeps _ hW, lineA_keeps _ hA]

end Cert.ReferenceIdeal.Attn

end
-- ==== Proof.AttnPay.lean ====
module

public import proofs.«01_k».proof.Proof.Gen.KernelIdeal.Skeleton
public import Idealize.ShloMosaic.Lib.Pointwise
public import Idealize.ShloMosaic.Lib.WordCmp

/-! What one step of the attention gradient's kernel stores, read at an index: every stored value is a sum of
products over the rows (or the columns) of the step's tile. -/

@[expose] public section

set_option maxRecDepth 16384

noncomputable section

namespace Cert.KernelIdeal.Attn

open Cert.KernelIdeal Cert.KernelIdeal.Gen
open Idealize.ShloMosaic Idealize.ShloMosaic.TcCoe

/-- The vector `x` as a function of its two coordinates. -/
def mat {R C : ℕ} (x : (⟨2, ![R, C]⟩ : Shape).Idx → EReal) (t : Fin R) (d : Fin C) : EReal := x (ix2 t d)

/-- `a` in the lanes of the first head, `b` in those of the second. -/
def pick (l : Fin 128) (a b : EReal) : EReal := if l.val < 64 then a else b

/-- The weight of one pair of rows: the exponential of the scores less the row's logarithm of the total. -/
def pw {R C : ℕ} (L : Fin R → Fin 128 → EReal) (q : Fin R → Fin 128 → EReal) (k : Fin C → Fin 128 → EReal)
    (lane : Fin 128) (t : Fin R) (s : Fin C) : EReal :=
  Ideal.exp ((∑ d : Fin 128, q t d * k s d) - L t lane)

/-- The gradient of the weight less the row's mean of it; `first` says which half of the lanes is the head's own. -/
def dw {R C : ℕ} (D O : Fin R → Fin 128 → EReal) (v : Fin C → Fin 128 → EReal) (first : Bool)
    (t : Fin R) (s : Fin C) : EReal :=
  (∑ d : Fin 128, D t d * v s d)
    - ∑ d : Fin 128, if first = true then pick d (D t d * O t d) 0 else pick d 0 (D t d * O t d)

/-- The first lane of a head's half. -/
def lane0 (first : Bool) : Fin 128 := if first = true then 0 else 64

/-- The weight, zero where the mask (asked for by `m`) drops the pair. -/
def pS {R C : ℕ} (m : Bool) (L : Fin R → Fin 128 → EReal) (q : Fin R → Fin 128 → EReal) (k : Fin C → Fin 128 → EReal)
    (first : Bool) (t : Fin R) (s : Fin C) : EReal :=
  if (m = true → s.val ≤ t.val) then pw L q k (lane0 first) t s else 0

/-- The gradient of the score, zero where the mask drops the pair. -/
def dS {R C : ℕ} (m : Bool) (D O L : Fin R → Fin 128 → EReal) (q : Fin R → Fin 128 → EReal)
    (k v : Fin C → Fin 128 → EReal) (first : Bool) (t : Fin R) (s : Fin C) : EReal :=
  pS m L q k first t s * dw D O v first t s

theorem sel_lane (l : Fin 128) (a b : EReal) :
    Scalar.select (IntOp.cmpi .slt (BitVec.ofNat 32 l.val) 64#32) a b = pick l a b := by
  have h : IntOp.cmpi .slt (BitVec.ofNat 32 l.val) 64#32 = if l.val < 64 then 1#1 else 0#1 := by
    revert l; decide +kernel
  rw [h]; unfold pick; split <;> rfl

theorem sel_lane_not (l : Fin 128) (a b : EReal) :
    Scalar.select (IntOp.xori (IntOp.cmpi .slt (BitVec.ofNat 32 l.val) 64#32) 1#1) a b = pick l b a := by
  have h : IntOp.xori (IntOp.cmpi .slt (BitVec.ofNat 32 l.val) 64#32) 1#1 = if l.val < 64 then 0#1 else 1#1 := by
    revert l; decide +kernel
  rw [h]; unfold pick; split <;> rfl

theorem sel_mask (t s : Fin 512) (a b : EReal) :
    Scalar.select (IntOp.cmpi .sge (BitVec.ofNat 32 t.val) (BitVec.ofNat 32 s.val)) a b
      = if s.val ≤ t.val then a else b := by
  have h : IntOp.cmpi .sge (BitVec.ofNat 32 t.val) (BitVec.ofNat 32 s.val) = if s.val ≤ t.val then 1#1 else 0#1 := by
    have ht := t.isLt
    have hs := s.isLt
    unfold IntOp.cmpi
    simp only [BitVec.sle, decide_eq_true_eq]
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    by_cases hst : s.val ≤ t.val
    · simp [hst]
    · simp [hst]
  rw [h]; split <;> rfl

theorem named_mask : (Named.named (F := Ideal) (φ := .f32) κ "mask" 4048155338#32 : EReal) = ⊥ :=
  IdealRules.named_const.ideal_named_scalar _ _ _ _ rfl

theorem exp_mask (p : Prop) [Decidable p] (a b : EReal) :
    Ideal.exp ((if p then a else ⊥) - b) = if p then Ideal.exp (a - b) else 0 := by
  split
  · rfl
  · rw [EReal.bot_sub]; exact Ideal.exp_bot

theorem dS_true {R C : ℕ} (D O L q : Fin R → Fin 128 → EReal) (k v : Fin C → Fin 128 → EReal) (t : Fin R) (s : Fin C) :
    dS false D O L q k v true t s = Ideal.exp ((∑ d : Fin 128, q t d * k s d) - L t 0)
      * ((∑ d : Fin 128, D t d * v s d) - ∑ d : Fin 128, pick d (D t d * O t d) 0) := rfl

theorem payA8 (D q q' k k' v v' : Vec Ideal S512x128 .bf16) (L O : Vec Ideal S512x128 .f32) (old : Vec Ideal S512x128 .f32) (r : Fin 512) (l : Fin 128) :
    k0_pay67 k0_pay43 (k0_pay59 (k0_pay46 D) (k0_pay51 k) (k0_pay52 v) (k0_pay53 D O) (k0_pay54 L q k)) (k0_pay66 k0_pay43 (k0_pay46 D) (k0_pay47 L) (k0_pay48 D O) k0_pay49 q' k' v') old (ix2 r l)
      = old (ix2 r l) + (pick l (∑ s : Fin 512, dS true (mat D) (mat O) (mat L) (mat q) (mat k) (mat v) true r s * mat k s l)
          (∑ s : Fin 512, dS true (mat D) (mat O) (mat L) (mat q') (mat k') (mat v') false r s * mat k' s l)) * Ideal.ofBits .f32 0x3E000000#32 := by
  pointwise [k0_pay43, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payA11 (D q q' k k' v v' : Vec Ideal S512x128 .bf16) (L O : Vec Ideal S512x128 .f32) (old : Vec Ideal S512x128 .f32) (r : Fin 512) (l : Fin 128) :
    k0_pay68 k0_pay43 (k0_pay59 (k0_pay46 D) (k0_pay51 k) (k0_pay52 v) (k0_pay53 D O) (k0_pay54 L q k)) (k0_pay66 k0_pay43 (k0_pay46 D) (k0_pay47 L) (k0_pay48 D O) k0_pay49 q' k' v') old (ix2 r l)
      = old (ix2 r l) + pick l (∑ s : Fin 512, dS true (mat D) (mat O) (mat L) (mat q') (mat k') (mat v') false r s * mat k' s l)
          (∑ s : Fin 512, dS true (mat D) (mat O) (mat L) (mat q) (mat k) (mat v) true r s * mat k s l) := by
  pointwise [k0_pay43, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payA13 (D q q' k k' v v' : Vec Ideal S512x128 .bf16) (L O : Vec Ideal S512x128 .f32) (r : Fin 512) (l : Fin 128) :
    k0_pay69 k0_pay43 (k0_pay58 (k0_pay46 D) (k0_pay50 q) (k0_pay52 v) (k0_pay53 D O) (k0_pay54 L q k)) (k0_pay65 k0_pay43 (k0_pay46 D) (k0_pay47 L) (k0_pay48 D O) k0_pay49 q' k' v') (ix2 r l)
      = pick l (∑ t : Fin 512, dS true (mat D) (mat O) (mat L) (mat q) (mat k) (mat v) true t r * mat q t l)
          (∑ t : Fin 512, dS true (mat D) (mat O) (mat L) (mat q') (mat k') (mat v') false t r * mat q' t l) := by
  pointwise [k0_pay43, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payA15 (D q q' k k' v v' : Vec Ideal S512x128 .bf16) (L O : Vec Ideal S512x128 .f32) (r : Fin 512) (l : Fin 128) :
    k0_pay70 k0_pay43 (k0_pay58 (k0_pay46 D) (k0_pay50 q) (k0_pay52 v) (k0_pay53 D O) (k0_pay54 L q k)) (k0_pay65 k0_pay43 (k0_pay46 D) (k0_pay47 L) (k0_pay48 D O) k0_pay49 q' k' v') (ix2 r l)
      = pick l (∑ t : Fin 512, dS true (mat D) (mat O) (mat L) (mat q') (mat k') (mat v') false t r * mat q' t l)
          (∑ t : Fin 512, dS true (mat D) (mat O) (mat L) (mat q) (mat k) (mat v) true t r * mat q t l) := by
  pointwise [k0_pay43, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payA14 (D q q' k k' : Vec Ideal S512x128 .bf16) (L : Vec Ideal S512x128 .f32) (r : Fin 512) (l : Fin 128) :
    k0_pay71 k0_pay43 (k0_pay57 (k0_pay46 D) (k0_pay54 L q k)) (k0_pay64 (k0_pay46 D) (k0_pay47 L) k0_pay49 q' k') (ix2 r l)
      = pick l (∑ t : Fin 512, pS true (mat L) (mat q) (mat k) true t r * mat D t l)
          (∑ t : Fin 512, pS true (mat L) (mat q') (mat k') false t r * mat D t l) := by
  pointwise [k0_pay43, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payB8 (D q q' k k' v v' : Vec Ideal S512x128 .bf16) (L O : Vec Ideal S512x128 .f32) (old : Vec Ideal S512x128 .f32) (r : Fin 512) (l : Fin 128) :
    k0_pay90 k0_pay43 (k0_pay72 D) (k0_pay73 L) (k0_pay74 D O) (k0_pay81 k0_pay43 D L O q k v) (k0_pay82 k0_pay43) (k0_pay83 q') (k0_pay84 k') v' old (ix2 r l)
      = old (ix2 r l) + (pick l (∑ s : Fin 512, dS false (mat D) (mat O) (mat L) (mat q) (mat k) (mat v) true r s * mat k s l)
          (∑ s : Fin 512, dS false (mat D) (mat O) (mat L) (mat q') (mat k') (mat v') false r s * mat k' s l)) * Ideal.ofBits .f32 0x3E000000#32 := by
  pointwise [k0_pay43, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payB11 (D q q' k k' v v' : Vec Ideal S512x128 .bf16) (L O : Vec Ideal S512x128 .f32) (old : Vec Ideal S512x128 .f32) (r : Fin 512) (l : Fin 128) :
    k0_pay91 k0_pay43 (k0_pay72 D) (k0_pay73 L) (k0_pay74 D O) (k0_pay81 k0_pay43 D L O q k v) (k0_pay82 k0_pay43) (k0_pay83 q') (k0_pay84 k') v' old (ix2 r l)
      = old (ix2 r l) + pick l (∑ s : Fin 512, dS false (mat D) (mat O) (mat L) (mat q') (mat k') (mat v') false r s * mat k' s l)
          (∑ s : Fin 512, dS false (mat D) (mat O) (mat L) (mat q) (mat k) (mat v) true r s * mat k s l) := by
  pointwise [k0_pay43, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payB13 (D q q' k k' v v' : Vec Ideal S512x128 .bf16) (L O : Vec Ideal S512x128 .f32) (old : Vec Ideal S512x128 .f32) (r : Fin 512) (l : Fin 128) :
    k0_pay93 (k0_pay80 k0_pay43 D L O q k v) (k0_pay88 (k0_pay72 D) (k0_pay73 L) (k0_pay74 D O) (k0_pay82 k0_pay43) (k0_pay83 q') (k0_pay84 k') v') (k0_pay92 k0_pay43) old (ix2 r l)
      = old (ix2 r l) + pick l (∑ t : Fin 512, dS false (mat D) (mat O) (mat L) (mat q) (mat k) (mat v) true t r * mat q t l)
          (∑ t : Fin 512, dS false (mat D) (mat O) (mat L) (mat q') (mat k') (mat v') false t r * mat q' t l) := by
  pointwise [k0_pay43, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payB15 (D q q' k k' v v' : Vec Ideal S512x128 .bf16) (L O : Vec Ideal S512x128 .f32) (old : Vec Ideal S512x128 .f32) (r : Fin 512) (l : Fin 128) :
    k0_pay94 k0_pay43 (k0_pay80 k0_pay43 D L O q k v) (k0_pay88 (k0_pay72 D) (k0_pay73 L) (k0_pay74 D O) (k0_pay82 k0_pay43) (k0_pay83 q') (k0_pay84 k') v') old (ix2 r l)
      = old (ix2 r l) + pick l (∑ t : Fin 512, dS false (mat D) (mat O) (mat L) (mat q') (mat k') (mat v') false t r * mat q' t l)
          (∑ t : Fin 512, dS false (mat D) (mat O) (mat L) (mat q) (mat k) (mat v) true t r * mat q t l) := by
  pointwise [k0_pay43, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payB14 (D q q' k k' : Vec Ideal S512x128 .bf16) (L : Vec Ideal S512x128 .f32) (old : Vec Ideal S512x128 .f32) (r : Fin 512) (l : Fin 128) :
    k0_pay95 k0_pay43 (k0_pay79 D L q k) (k0_pay87 (k0_pay72 D) (k0_pay73 L) (k0_pay83 q') (k0_pay84 k')) old (ix2 r l)
      = old (ix2 r l) + pick l (∑ t : Fin 512, pS false (mat L) (mat q) (mat k) true t r * mat D t l)
          (∑ t : Fin 512, pS false (mat L) (mat q') (mat k') false t r * mat D t l) := by
  pointwise [k0_pay43, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payC8 (D q q' k k' v v' : Vec Ideal S512x128 .bf16) (L O : Vec Ideal S512x128 .f32) (old : Vec Ideal S512x128 .f32) (r : Fin 512) (l : Fin 128) :
    k0_pay116 k0_pay43 (k0_pay96 D) (k0_pay97 L) k0_pay99 (k0_pay106 k0_pay43 (k0_pay96 D) (k0_pay97 L) (k0_pay98 D O) k0_pay99 q k v) (k0_pay107 q') (k0_pay108 k') (k0_pay109 v') (k0_pay110 k0_pay43 (k0_pay98 D O)) old (ix2 r l)
      = old (ix2 r l) + (pick l (∑ s : Fin 512, dS true (mat D) (mat O) (mat L) (mat q) (mat k) (mat v) true r s * mat k s l)
          (∑ s : Fin 512, dS true (mat D) (mat O) (mat L) (mat q') (mat k') (mat v') false r s * mat k' s l)) * Ideal.ofBits .f32 0x3E000000#32 := by
  pointwise [k0_pay43, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payC11 (D q q' k k' v v' : Vec Ideal S512x128 .bf16) (L O : Vec Ideal S512x128 .f32) (old : Vec Ideal S512x128 .f32) (r : Fin 512) (l : Fin 128) :
    k0_pay117 k0_pay43 (k0_pay96 D) (k0_pay97 L) k0_pay99 (k0_pay106 k0_pay43 (k0_pay96 D) (k0_pay97 L) (k0_pay98 D O) k0_pay99 q k v) (k0_pay107 q') (k0_pay108 k') (k0_pay109 v') (k0_pay110 k0_pay43 (k0_pay98 D O)) old (ix2 r l)
      = old (ix2 r l) + pick l (∑ s : Fin 512, dS true (mat D) (mat O) (mat L) (mat q') (mat k') (mat v') false r s * mat k' s l)
          (∑ s : Fin 512, dS true (mat D) (mat O) (mat L) (mat q) (mat k) (mat v) true r s * mat k s l) := by
  pointwise [k0_pay43, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payC13 (D q q' k k' v v' : Vec Ideal S512x128 .bf16) (L O : Vec Ideal S512x128 .f32) (r : Fin 512) (l : Fin 128) :
    k0_pay121 (k0_pay118 k0_pay43 (k0_pay96 D) (k0_pay97 L) k0_pay99 (k0_pay105 k0_pay43 (k0_pay96 D) (k0_pay97 L) (k0_pay98 D O) k0_pay99 q k v) (k0_pay107 q') (k0_pay108 k') (k0_pay109 v') (k0_pay110 k0_pay43 (k0_pay98 D O))) (ix2 r l)
      = pick l (∑ t : Fin 512, dS true (mat D) (mat O) (mat L) (mat q) (mat k) (mat v) true t r * mat q t l)
          (∑ t : Fin 512, dS true (mat D) (mat O) (mat L) (mat q') (mat k') (mat v') false t r * mat q' t l) := by
  pointwise [k0_pay43, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payC15 (D q q' k k' v v' : Vec Ideal S512x128 .bf16) (L O : Vec Ideal S512x128 .f32) (r : Fin 512) (l : Fin 128) :
    k0_pay122 (k0_pay119 k0_pay43 (k0_pay96 D) (k0_pay97 L) k0_pay99 (k0_pay105 k0_pay43 (k0_pay96 D) (k0_pay97 L) (k0_pay98 D O) k0_pay99 q k v) (k0_pay107 q') (k0_pay108 k') (k0_pay109 v') (k0_pay110 k0_pay43 (k0_pay98 D O))) (ix2 r l)
      = pick l (∑ t : Fin 512, dS true (mat D) (mat O) (mat L) (mat q') (mat k') (mat v') false t r * mat q' t l)
          (∑ t : Fin 512, dS true (mat D) (mat O) (mat L) (mat q) (mat k) (mat v) true t r * mat q t l) := by
  pointwise [k0_pay43, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payC14 (D q q' k k' : Vec Ideal S512x128 .bf16) (L : Vec Ideal S512x128 .f32) (r : Fin 512) (l : Fin 128) :
    k0_pay123 (k0_pay104 (k0_pay96 D) (k0_pay97 L) k0_pay99 q k) (k0_pay113 (k0_pay96 D) (k0_pay97 L) k0_pay99 (k0_pay107 q') (k0_pay108 k')) (k0_pay120 k0_pay43) (ix2 r l)
      = pick l (∑ t : Fin 512, pS true (mat L) (mat q) (mat k) true t r * mat D t l)
          (∑ t : Fin 512, pS true (mat L) (mat q') (mat k') false t r * mat D t l) := by
  pointwise [k0_pay43, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payL8 (D q q' k k' v v' : Vec Ideal S1024x128 .bf16) (L O : Vec Ideal S1024x128 .f32) (old : Vec Ideal S1024x128 .f32) (r : Fin 1024) (l : Fin 128) :
    k0_pay19 k0_pay43 (k0_pay1 D) (k0_pay2 L) (k0_pay3 D O) (k0_pay10 k0_pay43 D L O q k v) (k0_pay11 k0_pay43) q' k' v' old (ix2 r l)
      = old (ix2 r l) + (pick l (∑ s : Fin 1024, dS false (mat D) (mat O) (mat L) (mat q) (mat k) (mat v) true r s * mat k s l)
          (∑ s : Fin 1024, dS false (mat D) (mat O) (mat L) (mat q') (mat k') (mat v') false r s * mat k' s l)) * Ideal.ofBits .f32 0x3E000000#32 := by
  pointwise [k0_pay43, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay124, k0_pay125, k0_pay126, k0_pay127]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payL11 (D q q' k k' v v' : Vec Ideal S1024x128 .bf16) (L O : Vec Ideal S1024x128 .f32) (old : Vec Ideal S1024x128 .f32) (r : Fin 1024) (l : Fin 128) :
    k0_pay124 (k0_pay20 old) (k0_pay21 k0_pay43 (k0_pay1 D) (k0_pay2 L) (k0_pay3 D O) (k0_pay10 k0_pay43 D L O q k v) (k0_pay11 k0_pay43) q' k' v') (ix2 r l)
      = old (ix2 r l) + pick l (∑ s : Fin 1024, dS false (mat D) (mat O) (mat L) (mat q') (mat k') (mat v') false r s * mat k' s l)
          (∑ s : Fin 1024, dS false (mat D) (mat O) (mat L) (mat q) (mat k) (mat v) true r s * mat k s l) := by
  pointwise [k0_pay43, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay124, k0_pay125, k0_pay126, k0_pay127]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payL13 (D q q' k k' v v' : Vec Ideal S1024x128 .bf16) (L O : Vec Ideal S1024x128 .f32) (old : Vec Ideal S1024x128 .f32) (r : Fin 1024) (l : Fin 128) :
    k0_pay125 k0_pay43 (k0_pay9 k0_pay43 D L O q k v) (k0_pay17 (k0_pay1 D) (k0_pay2 L) (k0_pay3 D O) (k0_pay11 k0_pay43) q' k' v') old (ix2 r l)
      = old (ix2 r l) + pick l (∑ t : Fin 1024, dS false (mat D) (mat O) (mat L) (mat q) (mat k) (mat v) true t r * mat q t l)
          (∑ t : Fin 1024, dS false (mat D) (mat O) (mat L) (mat q') (mat k') (mat v') false t r * mat q' t l) := by
  pointwise [k0_pay43, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay124, k0_pay125, k0_pay126, k0_pay127]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payL15 (D q q' k k' v v' : Vec Ideal S1024x128 .bf16) (L O : Vec Ideal S1024x128 .f32) (old : Vec Ideal S1024x128 .f32) (r : Fin 1024) (l : Fin 128) :
    k0_pay126 k0_pay43 (k0_pay9 k0_pay43 D L O q k v) (k0_pay17 (k0_pay1 D) (k0_pay2 L) (k0_pay3 D O) (k0_pay11 k0_pay43) q' k' v') old (ix2 r l)
      = old (ix2 r l) + pick l (∑ t : Fin 1024, dS false (mat D) (mat O) (mat L) (mat q') (mat k') (mat v') false t r * mat q' t l)
          (∑ t : Fin 1024, dS false (mat D) (mat O) (mat L) (mat q) (mat k) (mat v) true t r * mat q t l) := by
  pointwise [k0_pay43, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay124, k0_pay125, k0_pay126, k0_pay127]
  simp only [sel_lane, sel_lane_not, sel_mask, named_mask, exp_mask]
  simp only [dS, pS, pw, dw, mat, lane0, forall_const, Bool.false_eq_true, false_implies, if_true, if_false, reduceCtorEq, IsEmpty.forall_iff]
  try rfl

theorem payL14 (D q q' k k' : Vec Ideal S1024x128 .bf16) (L : Vec Ideal S1024x128 .f32) (old : Vec Ideal S1024x128 .f32) (r : Fin 1024) (l : Fin 128) :
    k0_pay127 k0_pay43 (k0_pay8 D L q k) (k0_pay16 (k0_pay1 D) (k0_pay2 L) q' k') old (ix2 r l)
      = old (ix2 r l) + pick l (∑ t : Fin 1024, pS false (mat L) (mat q) (mat k) true t r * mat D t l)
          (∑ t : Fin 1024, pS false (mat L) (mat q') (mat k') false t r * mat D t l) := by
  pointwise [k0_pay43, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay124, k0_pay125, k0_pay126, k0_pay127]
  simp only [sel_lane, sel_lane_not, sel_mask, named_mask, exp_mask]
  simp only [dS, pS, pw, dw, mat, lane0, forall_const, Bool.false_eq_true, false_implies, if_true, if_false, reduceCtorEq, IsEmpty.forall_iff]
  try rfl

end Cert.KernelIdeal.Attn

end
-- ==== Proof.AttnTile.lean ====
module

public import proofs.«01_k».proof.Proof.AttnPay
public import Idealize.ShloMosaic.Lib.WritesUnit
public import Idealize.ShloMosaic.Lib.VecWindow

/-! The tiles of one grid point of the attention gradient's kernel as pieces of sums over all pairs of a query row and
a key row of the point's block. -/

@[expose] public section

set_option maxRecDepth 16384

noncomputable section

namespace Cert.KernelIdeal.Attn

open Cert.KernelIdeal Cert.KernelIdeal.Gen
open Idealize.ShloMosaic Idealize.ShloMosaic.TcCoe

/-- A vector as a function of two natural numbers, zero outside its extents. -/
def ext {R C : ℕ} (x : (⟨2, ![R, C]⟩ : Shape).Idx → EReal) (t d : ℕ) : EReal :=
  if h : t < R ∧ d < C then x (ix2 ⟨t, h.1⟩ ⟨d, h.2⟩) else 0

theorem ext_ix {R C : ℕ} (x : (⟨2, ![R, C]⟩ : Shape).Idx → EReal) (t : Fin R) (d : Fin C) :
    ext x t.val d.val = x (ix2 t d) := dif_pos ⟨t.isLt, d.isLt⟩

theorem ext_ix' {R C : ℕ} (x : (⟨2, ![R, C]⟩ : Shape).Idx → EReal) (t d : ℕ) (ht : t < R) (hd : d < C) :
    ext x t d = x (ix2 ⟨t, ht⟩ ⟨d, hd⟩) := dif_pos ⟨ht, hd⟩

/-- What one grid point reads: the queries, keys, values, output gradients, outputs and logarithms of totals of its pair
of heads, and the number of its block of keys. -/
structure In where
  q : ℕ → ℕ → EReal
  k : ℕ → ℕ → EReal
  v : ℕ → ℕ → EReal
  D : ℕ → ℕ → EReal
  O : ℕ → ℕ → EReal
  L : ℕ → ℕ → EReal
  b : ℕ

/-- The first column of a head. -/
def col0 (first : Bool) : ℕ := if first = true then 0 else 128

namespace In

variable (X : In)

/-- The attention weight of query row `t` and key row `s` of the block. -/
def p (first : Bool) (t s : ℕ) : EReal :=
  if 1024 * X.b + s ≤ t then
    Ideal.exp ((∑ d : Fin 128, X.q t (col0 first + d.val) * X.k s (col0 first + d.val)) - X.L t (lane0 first).val)
  else 0

/-- The gradient of the score of that pair. -/
def d (first : Bool) (t s : ℕ) : EReal :=
  X.p first t s * ((∑ d : Fin 128, X.D t d.val * X.v s (col0 first + d.val))
    - ∑ d : Fin 128, if first = true then pick d (X.D t d.val * X.O t d.val) 0 else pick d 0 (X.D t d.val * X.O t d.val))

/-- The pair's contributions to the gradients of the queries, of the keys and of the values, and the same with the two
heads exchanged. -/
def w8 (t s : ℕ) (l : Fin 128) : EReal := pick l (X.d true t s * X.k s l.val) (X.d false t s * X.k s (128 + l.val))
def w11 (t s : ℕ) (l : Fin 128) : EReal := pick l (X.d false t s * X.k s (128 + l.val)) (X.d true t s * X.k s l.val)
def w13 (t s : ℕ) (l : Fin 128) : EReal := pick l (X.d true t s * X.q t l.val) (X.d false t s * X.q t (128 + l.val))
def w15 (t s : ℕ) (l : Fin 128) : EReal := pick l (X.d false t s * X.q t (128 + l.val)) (X.d true t s * X.q t l.val)
def w14 (t s : ℕ) (l : Fin 128) : EReal := pick l (X.p true t s * X.D t l.val) (X.p false t s * X.D t l.val)

variable {X}

theorem p_zero {first : Bool} {t s : ℕ} (h : t < 1024 * X.b + s) : X.p first t s = 0 := if_neg (by omega)

theorem d_zero {first : Bool} {t s : ℕ} (h : t < 1024 * X.b + s) : X.d first t s = 0 := by
  unfold d; rw [p_zero h, zero_mul]

theorem w8_zero {t s : ℕ} (l : Fin 128) (h : t < 1024 * X.b + s) : X.w8 t s l = 0 := by
  unfold w8; rw [d_zero h, d_zero h, zero_mul, zero_mul]; unfold pick; split <;> rfl
theorem w11_zero {t s : ℕ} (l : Fin 128) (h : t < 1024 * X.b + s) : X.w11 t s l = 0 := by
  unfold w11; rw [d_zero h, d_zero h, zero_mul, zero_mul]; unfold pick; split <;> rfl
theorem w13_zero {t s : ℕ} (l : Fin 128) (h : t < 1024 * X.b + s) : X.w13 t s l = 0 := by
  unfold w13; rw [d_zero h, d_zero h, zero_mul, zero_mul]; unfold pick; split <;> rfl
theorem w15_zero {t s : ℕ} (l : Fin 128) (h : t < 1024 * X.b + s) : X.w15 t s l = 0 := by
  unfold w15; rw [d_zero h, d_zero h, zero_mul, zero_mul]; unfold pick; split <;> rfl
theorem w14_zero {t s : ℕ} (l : Fin 128) (h : t < 1024 * X.b + s) : X.w14 t s l = 0 := by
  unfold w14; rw [p_zero h, p_zero h, zero_mul]; unfold pick; split <;> rfl

end In

theorem pick_sum {n : ℕ} (l : Fin 128) (f g : Fin n → EReal) :
    pick l (∑ s, f s) (∑ s, g s) = ∑ s, pick l (f s) (g s) := by
  unfold pick; split <;> rfl

section Tiles

/-- A tile of the point: its operands are the rows from `o` and the keys from `o'`, and its mask (asked for by `m`) is
the point's. -/
structure Tile {R C : ℕ} (X : In) (o o' : ℕ) (m : Bool) (D O L q q' : Fin R → Fin 128 → EReal)
    (k k' v v' : Fin C → Fin 128 → EReal) : Prop where
  hD : ∀ t d, D t d = X.D (o + t.val) d.val
  hO : ∀ t d, O t d = X.O (o + t.val) d.val
  hL : ∀ t d, L t d = X.L (o + t.val) d.val
  hq : ∀ t d, q t d = X.q (o + t.val) d.val
  hq' : ∀ t d, q' t d = X.q (o + t.val) (128 + d.val)
  hk : ∀ s d, k s d = X.k (o' + s.val) d.val
  hk' : ∀ s d, k' s d = X.k (o' + s.val) (128 + d.val)
  hv : ∀ s d, v s d = X.v (o' + s.val) d.val
  hv' : ∀ s d, v' s d = X.v (o' + s.val) (128 + d.val)
  hm : ∀ (t : Fin R) (s : Fin C), (m = true → s.val ≤ t.val) ↔ 1024 * X.b + (o' + s.val) ≤ o + t.val

variable {R C : ℕ} {X : In} {o o' : ℕ} {m : Bool} {D O L q q' : Fin R → Fin 128 → EReal}
  {k k' v v' : Fin C → Fin 128 → EReal} (T : Tile X o o' m D O L q q' k k' v v')

include T

theorem Tile.pS_true (t : Fin R) (s : Fin C) : pS m L q k true t s = X.p true (o + t.val) (o' + s.val) := by
  unfold pS In.p pw
  rw [if_congr (T.hm t s) rfl rfl]
  simp only [T.hq, T.hk, T.hL, col0, if_true, Nat.zero_add]

theorem Tile.pS_false (t : Fin R) (s : Fin C) : pS m L q' k' false t s = X.p false (o + t.val) (o' + s.val) := by
  unfold pS In.p pw
  rw [if_congr (T.hm t s) rfl rfl]
  simp only [T.hq', T.hk', T.hL, col0, Bool.false_eq_true, if_false]

theorem Tile.dS_true (t : Fin R) (s : Fin C) : dS m D O L q k v true t s = X.d true (o + t.val) (o' + s.val) := by
  unfold dS In.d
  rw [T.pS_true]
  unfold dw
  simp only [T.hD, T.hO, T.hv, col0, if_true, Nat.zero_add]

theorem Tile.dS_false (t : Fin R) (s : Fin C) : dS m D O L q' k' v' false t s = X.d false (o + t.val) (o' + s.val) := by
  unfold dS In.d
  rw [T.pS_false]
  unfold dw
  simp only [T.hD, T.hO, T.hv', col0, Bool.false_eq_true, if_false]

theorem Tile.s8 (r : Fin R) (l : Fin 128) :
    pick l (∑ s : Fin C, dS m D O L q k v true r s * k s l) (∑ s : Fin C, dS m D O L q' k' v' false r s * k' s l)
      = ∑ s : Fin C, X.w8 (o + r.val) (o' + s.val) l := by
  rw [pick_sum]; refine Finset.sum_congr rfl fun s _ => ?_
  rw [T.dS_true, T.dS_false, T.hk, T.hk']; rfl

theorem Tile.s11 (r : Fin R) (l : Fin 128) :
    pick l (∑ s : Fin C, dS m D O L q' k' v' false r s * k' s l) (∑ s : Fin C, dS m D O L q k v true r s * k s l)
      = ∑ s : Fin C, X.w11 (o + r.val) (o' + s.val) l := by
  rw [pick_sum]; refine Finset.sum_congr rfl fun s _ => ?_
  rw [T.dS_true, T.dS_false, T.hk, T.hk']; rfl

theorem Tile.s13 (s : Fin C) (l : Fin 128) :
    pick l (∑ t : Fin R, dS m D O L q k v true t s * q t l) (∑ t : Fin R, dS m D O L q' k' v' false t s * q' t l)
      = ∑ t : Fin R, X.w13 (o + t.val) (o' + s.val) l := by
  rw [pick_sum]; refine Finset.sum_congr rfl fun t _ => ?_
  rw [T.dS_true, T.dS_false, T.hq, T.hq']; rfl

theorem Tile.s15 (s : Fin C) (l : Fin 128) :
    pick l (∑ t : Fin R, dS m D O L q' k' v' false t s * q' t l) (∑ t : Fin R, dS m D O L q k v true t s * q t l)
      = ∑ t : Fin R, X.w15 (o + t.val) (o' + s.val) l := by
  rw [pick_sum]; refine Finset.sum_congr rfl fun t _ => ?_
  rw [T.dS_true, T.dS_false, T.hq, T.hq']; rfl

theorem Tile.s14 (s : Fin C) (l : Fin 128) :
    pick l (∑ t : Fin R, pS m L q k true t s * D t l) (∑ t : Fin R, pS m L q' k' false t s * D t l)
      = ∑ t : Fin R, X.w14 (o + t.val) (o' + s.val) l := by
  rw [pick_sum]; refine Finset.sum_congr rfl fun t _ => ?_
  rw [T.pS_true, T.pS_false, T.hD]; rfl

end Tiles

/-! The offsets of the loads and stores. -/

theorem off1_eq (i : grid0.Coords) : k0_off1 i = ![1024 * (i 1).val, 0] := by
  have h : ∀ b : Fin 4, (Scalar.indexCast (Scalar.muli (BitVec.ofNat 32 b.val) 1024#32) : BitVec 32).toNat = 1024 * b.val := by decide +kernel
  exact congrArg (fun n => (![n, 0] : Fin 2 → ℕ)) (h (i 1))

theorem off2_eq (i : grid0.Coords) : k0_off2 i = ![1024 * (i 1).val, 0] := off1_eq i

theorem off3_eq (i : grid0.Coords) : k0_off3 i = ![1024 * (i 1).val, 128] := by
  have h : ∀ b : Fin 4, (Scalar.indexCast (Scalar.muli (BitVec.ofNat 32 b.val) 1024#32) : BitVec 32).toNat = 1024 * b.val := by decide +kernel
  exact congrArg (fun n => (![n, 128] : Fin 2 → ℕ)) (h (i 1))

theorem row4 : ∀ b : Fin 4, (Scalar.indexCast (Scalar.addi (Scalar.muli (BitVec.ofNat 32 b.val) 1024#32) 512#32) : BitVec 32).toNat = 1024 * b.val + 512 := by
  decide +kernel

theorem off4_eq (i : grid0.Coords) : k0_off4 i = ![1024 * (i 1).val + 512, 0] :=
  congrArg (fun n => (![n, 0] : Fin 2 → ℕ)) (row4 (i 1))

theorem off5_eq (i : grid0.Coords) : k0_off5 i = ![1024 * (i 1).val + 512, 0] :=
  congrArg (fun n => (![n, 0] : Fin 2 → ℕ)) (row4 (i 1))

theorem off6_eq (i : grid0.Coords) : k0_off6 i = ![1024 * (i 1).val + 512, 128] :=
  congrArg (fun n => (![n, 128] : Fin 2 → ℕ)) (row4 (i 1))

theorem trips1 (i : grid0.Coords) : (k0_t1_loop i).trips = 3 - (i 1).val := by
  have h : ∀ b : Fin 4, Scf.trips (Scalar.addi (BitVec.ofNat 32 b.val) 1#32)
      (Scalar.addi (Scalar.addi (BitVec.ofNat 32 b.val) 1#32) (Scalar.muli (Scalar.divsi (Scalar.subi 4#32 (Scalar.addi (BitVec.ofNat 32 b.val) 1#32)) 1#32) 1#32)) 1#32 = 3 - b.val := by
    decide +kernel
  exact h (i 1)

theorem row7 (i : grid0.Coords) (k : Fin (k0_t1_loop i).trips) :
    (Scalar.indexCast (Scalar.muli (Scf.iv (Scalar.addi (BitVec.ofNat 32 (i 1).val) 1#32) 1#32 k.val) 1024#32) : BitVec 32).toNat
      = 1024 * ((i 1).val + 1 + k.val) := by
  have h : ∀ (b : Fin 4) (j : Fin 3), (Scalar.indexCast (Scalar.muli (Scf.iv (Scalar.addi (BitVec.ofNat 32 b.val) 1#32) 1#32 j.val) 1024#32) : BitVec 32).toNat = 1024 * (b.val + 1 + j.val) := by
    decide +kernel
  have hk : k.val < 3 := lt_of_lt_of_le k.isLt (by rw [trips1]; omega)
  exact h (i 1) ⟨k.val, hk⟩

theorem off7_eq (i : grid0.Coords) (k : Fin (k0_t1_loop i).trips) : k0_off7 i k = ![1024 * ((i 1).val + 1 + k.val), 0] :=
  congrArg (fun n => (![n, 0] : Fin 2 → ℕ)) (row7 i k)

theorem off8_eq (i : grid0.Coords) (k : Fin (k0_t1_loop i).trips) : k0_off8 i k = ![1024 * ((i 1).val + 1 + k.val), 0] :=
  congrArg (fun n => (![n, 0] : Fin 2 → ℕ)) (row7 i k)

theorem off9_eq (i : grid0.Coords) (k : Fin (k0_t1_loop i).trips) : k0_off9 i k = ![1024 * ((i 1).val + 1 + k.val), 128] :=
  congrArg (fun n => (![n, 128] : Fin 2 → ℕ)) (row7 i k)

theorem trips2 (i : grid0.Coords) : (k0_t2_loop i).trips = 0 := by
  have h : ∀ b : Fin 4, Scf.trips (Scalar.addi (Scalar.addi (BitVec.ofNat 32 b.val) 1#32) (Scalar.muli (Scalar.divsi (Scalar.subi 4#32 (Scalar.addi (BitVec.ofNat 32 b.val) 1#32)) 1#32) 1#32))
      (Scalar.addi (Scalar.addi (BitVec.ofNat 32 b.val) 1#32) (Scalar.subi 4#32 (Scalar.addi (BitVec.ofNat 32 b.val) 1#32))) 1#32 = 0 := by
    decide +kernel
  exact h (i 1)

/-- A load of a rectangle of rows and columns of a view, at an index. -/
theorem readAt_ext {sig : RefSig} {κ : Kind} {sp : Space} {e : EltTy} {R C : ℕ} {Val : EltTy → Type}
    (v : View sig κ sp (⟨2, ![R, C]⟩ : Shape) e) (f : v.ty.Contents Val) {off : Fin 2 → ℕ} {o c : ℕ} {R' C' : ℕ}
    (inb : ∀ a : Fin 2, off a + (⟨2, ![R', C']⟩ : Shape).size a ≤ (⟨2, ![R, C]⟩ : Shape).size a) (hoff : off = ![o, c])
    (r : Fin R') (d : Fin C') (hr : o + r.val < R) (hd : c + d.val < C) :
    v.readAt Val (Rect.unit (s := (⟨2, ![R, C]⟩ : Shape)) off (⟨2, ![R', C']⟩ : Shape).size inb).toLoadRect f (ix2 r d)
      = v.read Val f (ix2 ⟨o + r.val, hr⟩ ⟨c + d.val, hd⟩) := by
  subst hoff
  refine congrArg (v.read Val f) (funext fun a => Fin.ext ?_)
  match a with
  | 0 => show o + 1 * r.val = o + r.val; rw [Nat.one_mul]
  | 1 => show c + 1 * d.val = c + d.val; rw [Nat.one_mul]

/-- A store of whole rows read back at an index: its payload inside the rows, what was there before outside. -/
theorem read_rows {sig : RefSig} {κ : Kind} {sp : Space} {e : EltTy} {R C W : ℕ} {Val : EltTy → Type}
    (v : View sig κ sp (⟨2, ![R, C]⟩ : Shape) e) (f : v.ty.Contents Val) {off : Fin 2 → ℕ} {o : ℕ}
    (inb : ∀ a : Fin 2, off a + (⟨2, ![W, C]⟩ : Shape).size a ≤ (⟨2, ![R, C]⟩ : Shape).size a)
    (w : (⟨2, ![W, C]⟩ : Shape).Idx → Val e) (L : List (View.Piece Val (⟨2, ![R, C]⟩ : Shape) e)) (hoff : off = ![o, 0])
    (t : Fin R) (l : Fin C) {g : Val e}
    (h1 : ∀ r : Fin W, o + r.val = t.val → w (ix2 r l) = g)
    (h2 : (t.val < o ∨ o + W ≤ t.val) → v.read Val (v.writes Val f L) (ix2 t l) = g) :
    v.read Val (v.writes Val f ((⟨Rect.unit (s := (⟨2, ![R, C]⟩ : Shape)) off (⟨2, ![W, C]⟩ : Shape).size inb, w⟩ : View.Piece Val (⟨2, ![R, C]⟩ : Shape) e) :: L)) (ix2 t l) = g := by
  by_cases h : o ≤ t.val ∧ t.val < o + W
  · refine (View.read_writes_cons_rows_of_mem v f inb w L (ix2 t l) (ix2 (⟨t.val - o, by omega⟩ : Fin W) l) hoff ?_ rfl).trans
      (h1 ⟨t.val - o, by omega⟩ (by show o + (t.val - o) = _; omega))
    show t.val = o + (t.val - o)
    omega
  · refine (View.read_writes_cons_rows_of_not_mem v f inb w L (ix2 t l) hoff (W := W) rfl ?_).trans (h2 (by omega))
    show t.val < o ∨ o + W ≤ t.val
    omega

end Cert.KernelIdeal.Attn

end
-- ==== Proof.AttnLoop.lean ====
module

public import proofs.«01_k».proof.Proof.Gen.KernelIdeal.Loops
public import proofs.«01_k».proof.Proof.AttnTile

/-! The trips over the blocks of queries below the diagonal: what they add to each buffer. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.SL.ProofMode Idealize.SL.Sem

variable {F : FTy → Type} [FloatOps F] [Named F]

/-- The pieces one trip writes, of the contents it finds. -/
theorem trip_eq (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v2 : IVec S1x128 1) (v346 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin (k0_t1_loop i).trips) (f_arg8 : BufTy.Contents (Elt F) arg8.view.ty) (f_arg11 : BufTy.Contents (Elt F) arg11.view.ty) (f_arg13 : BufTy.Contents (Elt F) arg13.view.ty) (f_arg14 : BufTy.Contents (Elt F) arg14.view.ty) (f_arg15 : BufTy.Contents (Elt F) arg15.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v2 v346 X_arg2 X_arg3 X_arg4 X_arg5 X_arg6 X_arg7 k f_arg8 f_arg11 f_arg13 f_arg14 f_arg15)
      = ([⟨Rect.unit (s := S4096x128) (k0_off7 i k) S1024x128.size (k0_off7_inb i k), (k0_pay19 v2 (k0_pay1 (arg5.view.readAt (Elt F) (Rect.unit (s := S4096x128) (k0_off7 i k) S1024x128.size (k0_off7_inb i k)).toLoadRect X_arg5)) (k0_pay2 (arg7.view.readAt (Elt F) (Rect.unit (s := S4096x128) (k0_off7 i k) S1024x128.size (k0_off7_inb i k)).toLoadRect X_arg7)) (k0_pay3 (arg5.view.readAt (Elt F) (Rect.unit (s := S4096x128) (k0_off7 i k) S1024x128.size (k0_off7_inb i k)).toLoadRect X_arg5) (arg6.view.readAt (Elt F) (Rect.unit (s := S4096x128) (k0_off7 i k) S1024x128.size (k0_off7_inb i k)).toLoadRect X_arg6)) (k0_pay10 v2 (arg5.view.readAt (Elt F) (Rect.unit (s := S4096x128) (k0_off7 i k) S1024x128.size (k0_off7_inb i k)).toLoadRect X_arg5) (arg7.view.readAt (Elt F) (Rect.unit (s := S4096x128) (k0_off7 i k) S1024x128.size (k0_off7_inb i k)).toLoadRect X_arg7) (arg6.view.readAt (Elt F) (Rect.unit (s := S4096x128) (k0_off7 i k) S1024x128.size (k0_off7_inb i k)).toLoadRect X_arg6) (arg2.view.readAt (Elt F) (Rect.unit (s := S4096x256) (k0_off8 i k) S1024x128.size (k0_off8_inb i k)).toLoadRect X_arg2) (arg3.view.readAt (Elt F) (Rect.unit (s := S1024x256) ![0, 0] S1024x128.size inb_S1024x256_S1024x128_0_0).toLoadRect X_arg3) (arg4.view.readAt (Elt F) (Rect.unit (s := S1024x256) ![0, 0] S1024x128.size inb_S1024x256_S1024x128_0_0).toLoadRect X_arg4)) (k0_pay11 v2) (arg2.view.readAt (Elt F) (Rect.unit (s := S4096x256) (k0_off9 i k) S1024x128.size (k0_off9_inb i k)).toLoadRect X_arg2) (arg3.view.readAt (Elt F) (Rect.unit (s := S1024x256) ![0, 128] S1024x128.size inb_S1024x256_S1024x128_0_128).toLoadRect X_arg3) (arg4.view.readAt (Elt F) (Rect.unit (s := S1024x256) ![0, 128] S1024x128.size inb_S1024x256_S1024x128_0_128).toLoadRect X_arg4) (arg8.view.readAt (Elt F) (Rect.unit (s := S4096x128) (k0_off7 i k) S1024x128.size (k0_off7_inb i k)).toLoadRect f_arg8))⟩],
         [⟨Rect.unit (s := S4096x128) (k0_off7 i k) S1024x128.size (k0_off7_inb i k), (k0_pay124 (k0_pay20 (arg11.view.readAt (Elt F) (Rect.unit (s := S4096x128) (k0_off7 i k) S1024x128.size (k0_off7_inb i k)).toLoadRect f_arg11)) (k0_pay21 v2 (k0_pay1 (arg5.view.readAt (Elt F) (Rect.unit (s := S4096x128) (k0_off7 i k) S1024x128.size (k0_off7_inb i k)).toLoadRect X_arg5)) (k0_pay2 (arg7.view.readAt (Elt F) (Rect.unit (s := S4096x128) (k0_off7 i k) S1024x128.size (k0_off7_inb i k)).toLoadRect X_arg7)) (k0_pay3 (arg5.view.readAt (Elt F) (Rect.unit (s := S4096x128) (k0_off7 i k) S1024x128.size (k0_off7_inb i k)).toLoadRect X_arg5) (arg6.view.readAt (Elt F) (Rect.unit (s := S4096x128) (k0_off7 i k) S1024x128.size (k0_off7_inb i k)).toLoadRect X_arg6)) (k0_pay10 v2 (arg5.view.readAt (Elt F) (Rect.unit (s := S4096x128) (k0_off7 i k) S1024x128.size (k0_off7_inb i k)).toLoadRect X_arg5) (arg7.view.readAt (Elt F) (Rect.unit (s := S4096x128) (k0_off7 i k) S1024x128.size (k0_off7_inb i k)).toLoadRect X_arg7) (arg6.view.readAt (Elt F) (Rect.unit (s := S4096x128) (k0_off7 i k) S1024x128.size (k0_off7_inb i k)).toLoadRect X_arg6) (arg2.view.readAt (Elt F) (Rect.unit (s := S4096x256) (k0_off8 i k) S1024x128.size (k0_off8_inb i k)).toLoadRect X_arg2) (arg3.view.readAt (Elt F) (Rect.unit (s := S1024x256) ![0, 0] S1024x128.size inb_S1024x256_S1024x128_0_0).toLoadRect X_arg3) (arg4.view.readAt (Elt F) (Rect.unit (s := S1024x256) ![0, 0] S1024x128.size inb_S1024x256_S1024x128_0_0).toLoadRect X_arg4)) (k0_pay11 v2) (arg2.view.readAt (Elt F) (Rect.unit (s := S4096x256) (k0_off9 i k) S1024x128.size (k0_off9_inb i k)).toLoadRect X_arg2) (arg3.view.readAt (Elt F) (Rect.unit (s := S1024x256) ![0, 128] S1024x128.size inb_S1024x256_S1024x128_0_128).toLoadRect X_arg3) (arg4.view.readAt (Elt F) (Rect.unit (s := S1024x256) ![0, 128] S1024x128.size inb_S1024x256_S1024x128_0_128).toLoadRect X_arg4)))⟩],
         [⟨Rect.unit (s := S1024x128) ![0, 0] S1024x128.size inb_S1024x128_S1024x128_0_0, (k0_pay125 v2 (k0_pay9 v2 (arg5.view.readAt (Elt F) (Rect.unit (s := S4096x128) (k0_off7 i k) S1024x128.size (k0_off7_inb i k)).toLoadRect X_arg5) (arg7.view.readAt (Elt F) (Rect.unit (s := S4096x128) (k0_off7 i k) S1024x128.size (k0_off7_inb i k)).toLoadRect X_arg7) (arg6.view.readAt (Elt F) (Rect.unit (s := S4096x128) (k0_off7 i k) S1024x128.size (k0_off7_inb i k)).toLoadRect X_arg6) (arg2.view.readAt (Elt F) (Rect.unit (s := S4096x256) (k0_off8 i k) S1024x128.size (k0_off8_inb i k)).toLoadRect X_arg2) (arg3.view.readAt (Elt F) (Rect.unit (s := S1024x256) ![0, 0] S1024x128.size inb_S1024x256_S1024x128_0_0).toLoadRect X_arg3) (arg4.view.readAt (Elt F) (Rect.unit (s := S1024x256) ![0, 0] S1024x128.size inb_S1024x256_S1024x128_0_0).toLoadRect X_arg4)) (k0_pay17 (k0_pay1 (arg5.view.readAt (Elt F) (Rect.unit (s := S4096x128) (k0_off7 i k) S1024x128.size (k0_off7_inb i k)).toLoadRect X_arg5)) (k0_pay2 (arg7.view.readAt (Elt F) (Rect.unit (s := S4096x128) (k0_off7 i k) S1024x128.size (k0_off7_inb i k)).toLoadRect X_arg7)) (k0_pay3 (arg5.view.readAt (Elt F) (Rect.unit (s := S4096x128) (k0_off7 i k) S1024x128.size (k0_off7_inb i k)).toLoadRect X_arg5) (arg6.view.readAt (Elt F) (Rect.unit (s := S4096x128) (k0_off7 i k) S1024x128.size (k0_off7_inb i k)).toLoadRect X_arg6)) (k0_pay11 v2) (arg2.view.readAt (Elt F) (Rect.unit (s := S4096x256) (k0_off9 i k) S1024x128.size (k0_off9_inb i k)).toLoadRect X_arg2) (arg3.view.readAt (Elt F) (Rect.unit (s := S1024x256) ![0, 128] S1024x128.size inb_S1024x256_S1024x128_0_128).toLoadRect X_arg3) (arg4.view.readAt (Elt F) (Rect.unit (s := S1024x256) ![0, 128] S1024x128.size inb_S1024x256_S1024x128_0_128).toLoadRect X_arg4)) (arg13.view.readAt (Elt F) (Rect.unit (s := S1024x128) ![0, 0] S1024x128.size inb_S1024x128_S1024x128_0_0).toLoadRect f_arg13))⟩],
         [⟨Rect.unit (s := S1024x128) ![0, 0] S1024x128.size inb_S1024x128_S1024x128_0_0, (k0_pay127 v2 (k0_pay8 (arg5.view.readAt (Elt F) (Rect.unit (s := S4096x128) (k0_off7 i k) S1024x128.size (k0_off7_inb i k)).toLoadRect X_arg5) (arg7.view.readAt (Elt F) (Rect.unit (s := S4096x128) (k0_off7 i k) S1024x128.size (k0_off7_inb i k)).toLoadRect X_arg7) (arg2.view.readAt (Elt F) (Rect.unit (s := S4096x256) (k0_off8 i k) S1024x128.size (k0_off8_inb i k)).toLoadRect X_arg2) (arg3.view.readAt (Elt F) (Rect.unit (s := S1024x256) ![0, 0] S1024x128.size inb_S1024x256_S1024x128_0_0).toLoadRect X_arg3)) (k0_pay16 (k0_pay1 (arg5.view.readAt (Elt F) (Rect.unit (s := S4096x128) (k0_off7 i k) S1024x128.size (k0_off7_inb i k)).toLoadRect X_arg5)) (k0_pay2 (arg7.view.readAt (Elt F) (Rect.unit (s := S4096x128) (k0_off7 i k) S1024x128.size (k0_off7_inb i k)).toLoadRect X_arg7)) (arg2.view.readAt (Elt F) (Rect.unit (s := S4096x256) (k0_off9 i k) S1024x128.size (k0_off9_inb i k)).toLoadRect X_arg2) (arg3.view.readAt (Elt F) (Rect.unit (s := S1024x256) ![0, 128] S1024x128.size inb_S1024x256_S1024x128_0_128).toLoadRect X_arg3)) (arg14.view.readAt (Elt F) (Rect.unit (s := S1024x128) ![0, 0] S1024x128.size inb_S1024x128_S1024x128_0_0).toLoadRect f_arg14))⟩],
         [⟨Rect.unit (s := S1024x128) ![0, 0] S1024x128.size inb_S1024x128_S1024x128_0_0, (k0_pay126 v2 (k0_pay9 v2 (arg5.view.readAt (Elt F) (Rect.unit (s := S4096x128) (k0_off7 i k) S1024x128.size (k0_off7_inb i k)).toLoadRect X_arg5) (arg7.view.readAt (Elt F) (Rect.unit (s := S4096x128) (k0_off7 i k) S1024x128.size (k0_off7_inb i k)).toLoadRect X_arg7) (arg6.view.readAt (Elt F) (Rect.unit (s := S4096x128) (k0_off7 i k) S1024x128.size (k0_off7_inb i k)).toLoadRect X_arg6) (arg2.view.readAt (Elt F) (Rect.unit (s := S4096x256) (k0_off8 i k) S1024x128.size (k0_off8_inb i k)).toLoadRect X_arg2) (arg3.view.readAt (Elt F) (Rect.unit (s := S1024x256) ![0, 0] S1024x128.size inb_S1024x256_S1024x128_0_0).toLoadRect X_arg3) (arg4.view.readAt (Elt F) (Rect.unit (s := S1024x256) ![0, 0] S1024x128.size inb_S1024x256_S1024x128_0_0).toLoadRect X_arg4)) (k0_pay17 (k0_pay1 (arg5.view.readAt (Elt F) (Rect.unit (s := S4096x128) (k0_off7 i k) S1024x128.size (k0_off7_inb i k)).toLoadRect X_arg5)) (k0_pay2 (arg7.view.readAt (Elt F) (Rect.unit (s := S4096x128) (k0_off7 i k) S1024x128.size (k0_off7_inb i k)).toLoadRect X_arg7)) (k0_pay3 (arg5.view.readAt (Elt F) (Rect.unit (s := S4096x128) (k0_off7 i k) S1024x128.size (k0_off7_inb i k)).toLoadRect X_arg5) (arg6.view.readAt (Elt F) (Rect.unit (s := S4096x128) (k0_off7 i k) S1024x128.size (k0_off7_inb i k)).toLoadRect X_arg6)) (k0_pay11 v2) (arg2.view.readAt (Elt F) (Rect.unit (s := S4096x256) (k0_off9 i k) S1024x128.size (k0_off9_inb i k)).toLoadRect X_arg2) (arg3.view.readAt (Elt F) (Rect.unit (s := S1024x256) ![0, 128] S1024x128.size inb_S1024x256_S1024x128_0_128).toLoadRect X_arg3) (arg4.view.readAt (Elt F) (Rect.unit (s := S1024x256) ![0, 128] S1024x128.size inb_S1024x256_S1024x128_0_128).toLoadRect X_arg4)) (arg15.view.readAt (Elt F) (Rect.unit (s := S1024x128) ![0, 0] S1024x128.size inb_S1024x128_S1024x128_0_0).toLoadRect f_arg15))⟩]) := by
  unfold tripL_k0_t1 trip_k0_t1
  rfl

/-- What a point reads, of the contents of its windows. -/
def inOf (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (b : ℕ) : In := ⟨ext x0, ext x1, ext x2, ext x3, ext x4, ext x5, b⟩

/-- The scale of the gradient of the queries. -/
def c8 : EReal := Ideal.ofBits .f32 0x3E000000#32

theorem mat_bf {R C R' C' : ℕ} {arg : Memref sig .tc .vmem (⟨2, ![R, C]⟩ : Shape) .bf16} (harg : arg.IsWhole)
    (x : Vec Ideal (⟨2, ![R, C]⟩ : Shape) .bf16) {off : Fin 2 → ℕ} {o c : ℕ}
    (inb : ∀ a : Fin 2, off a + (⟨2, ![R', C']⟩ : Shape).size a ≤ (⟨2, ![R, C]⟩ : Shape).size a) (hoff : off = ![o, c])
    (r : Fin R') (d : Fin C') :
    mat (arg.view.readAt (Elt Ideal) (Rect.unit (s := (⟨2, ![R, C]⟩ : Shape)) off (⟨2, ![R', C']⟩ : Shape).size inb).toLoadRect (harg.unread x)) r d
      = ext x (o + r.val) (c + d.val) := by
  have h0 : o + R' ≤ R := by have := inb 0; rw [hoff] at this; exact this
  have h1 : c + C' ≤ C := by have := inb 1; rw [hoff] at this; exact this
  unfold mat
  rw [ext_ix' x _ _ (by omega) (by omega)]
  exact (readAt_ext arg.view (harg.unread x) inb hoff r d _ _).trans (congrFun (harg.read_unread x) _)

theorem mat_f32 {R C R' C' : ℕ} {arg : Memref sig .tc .vmem (⟨2, ![R, C]⟩ : Shape) .f32} (harg : arg.IsWhole)
    (x : Vec Ideal (⟨2, ![R, C]⟩ : Shape) .f32) {off : Fin 2 → ℕ} {o c : ℕ}
    (inb : ∀ a : Fin 2, off a + (⟨2, ![R', C']⟩ : Shape).size a ≤ (⟨2, ![R, C]⟩ : Shape).size a) (hoff : off = ![o, c])
    (r : Fin R') (d : Fin C') :
    mat (arg.view.readAt (Elt Ideal) (Rect.unit (s := (⟨2, ![R, C]⟩ : Shape)) off (⟨2, ![R', C']⟩ : Shape).size inb).toLoadRect (harg.unread x)) r d
      = ext x (o + r.val) (c + d.val) := by
  have h0 : o + R' ≤ R := by have := inb 0; rw [hoff] at this; exact this
  have h1 : c + C' ≤ C := by have := inb 1; rw [hoff] at this; exact this
  unfold mat
  rw [ext_ix' x _ _ (by omega) (by omega)]
  exact (readAt_ext arg.view (harg.unread x) inb hoff r d _ _).trans (congrFun (harg.read_unread x) _)

theorem sum_Ico_fin (n o : ℕ) (f : ℕ → EReal) : (∑ t : Fin n, f (o + t.val)) = ∑ t ∈ Finset.Ico o (o + n), f t := by
  rw [Finset.sum_Ico_eq_sum_range, Nat.add_sub_cancel_left]
  exact Fin.sum_univ_eq_sum_range (fun t => f (o + t)) n

/-- A trip's operands are a tile below the diagonal. -/
theorem tile_trip (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (k : Fin (k0_t1_loop i).trips) :
    Tile (R := 1024) (C := 1024) (inOf x0 x1 x2 x3 x4 x5 (i 1).val) (1024 * ((i 1).val + 1 + k.val)) 0 false
      (mat (arg5.view.readAt (Elt Ideal) (Rect.unit (s := S4096x128) (k0_off7 i k) S1024x128.size (k0_off7_inb i k)).toLoadRect (harg5.unread x3))) (mat (arg6.view.readAt (Elt Ideal) (Rect.unit (s := S4096x128) (k0_off7 i k) S1024x128.size (k0_off7_inb i k)).toLoadRect (harg6.unread x4))) (mat (arg7.view.readAt (Elt Ideal) (Rect.unit (s := S4096x128) (k0_off7 i k) S1024x128.size (k0_off7_inb i k)).toLoadRect (harg7.unread x5))) (mat (arg2.view.readAt (Elt Ideal) (Rect.unit (s := S4096x256) (k0_off8 i k) S1024x128.size (k0_off8_inb i k)).toLoadRect (harg2.unread x0))) (mat (arg2.view.readAt (Elt Ideal) (Rect.unit (s := S4096x256) (k0_off9 i k) S1024x128.size (k0_off9_inb i k)).toLoadRect (harg2.unread x0))) (mat (arg3.view.readAt (Elt Ideal) (Rect.unit (s := S1024x256) ![0, 0] S1024x128.size inb_S1024x256_S1024x128_0_0).toLoadRect (harg3.unread x1))) (mat (arg3.view.readAt (Elt Ideal) (Rect.unit (s := S1024x256) ![0, 128] S1024x128.size inb_S1024x256_S1024x128_0_128).toLoadRect (harg3.unread x1))) (mat (arg4.view.readAt (Elt Ideal) (Rect.unit (s := S1024x256) ![0, 0] S1024x128.size inb_S1024x256_S1024x128_0_0).toLoadRect (harg4.unread x2))) (mat (arg4.view.readAt (Elt Ideal) (Rect.unit (s := S1024x256) ![0, 128] S1024x128.size inb_S1024x256_S1024x128_0_128).toLoadRect (harg4.unread x2))) where
  hD t d := (mat_bf harg5 x3 _ (off7_eq i k) t d).trans (by rw [Nat.zero_add]; rfl)
  hO t d := (mat_f32 harg6 x4 _ (off7_eq i k) t d).trans (by rw [Nat.zero_add]; rfl)
  hL t d := (mat_f32 harg7 x5 _ (off7_eq i k) t d).trans (by rw [Nat.zero_add]; rfl)
  hq t d := (mat_bf harg2 x0 _ (off8_eq i k) t d).trans (by rw [Nat.zero_add]; rfl)
  hq' t d := mat_bf harg2 x0 _ (off9_eq i k) t d
  hk s d := (mat_bf harg3 x1 _ rfl s d).trans (by rw [Nat.zero_add d.val]; rfl)
  hk' s d := mat_bf harg3 x1 _ rfl s d
  hv s d := (mat_bf harg4 x2 _ rfl s d).trans (by rw [Nat.zero_add d.val]; rfl)
  hv' s d := mat_bf harg4 x2 _ rfl s d
  hm t s := by
    have hs := s.isLt
    refine ⟨fun _ => ?_, fun _ h => by cases h⟩
    show 1024 * (i 1).val + _ ≤ _
    omega

/-- What the trips before `n` have added: to the rows of their blocks, and to the keys' buffers. -/
theorem loop_inv (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (G_arg8 : BufTy.Contents (Elt Ideal) arg8.view.ty) (G_arg11 : BufTy.Contents (Elt Ideal) arg11.view.ty) (G_arg13 : BufTy.Contents (Elt Ideal) arg13.view.ty) (G_arg14 : BufTy.Contents (Elt Ideal) arg14.view.ty) (G_arg15 : BufTy.Contents (Elt Ideal) arg15.view.ty) :
    ∀ n : ℕ, n ≤ (k0_t1_loop i).trips →
      (∀ (t : Fin 4096) (l : Fin 128), arg8.view.read (Elt Ideal) (arg8.view.writes (Elt Ideal) G_arg8 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 n).1) (ix2 t l) = if 1024 * ((i 1).val + 1) ≤ t.val ∧ t.val < 1024 * ((i 1).val + 1 + n) then arg8.view.read (Elt Ideal) G_arg8 (ix2 t l) + (∑ s : Fin 1024, (inOf x0 x1 x2 x3 x4 x5 (i 1).val).w8 t.val (0 + s.val) l) * c8 else arg8.view.read (Elt Ideal) G_arg8 (ix2 t l))
      ∧ (∀ (t : Fin 4096) (l : Fin 128), arg11.view.read (Elt Ideal) (arg11.view.writes (Elt Ideal) G_arg11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 n).2.1) (ix2 t l) = if 1024 * ((i 1).val + 1) ≤ t.val ∧ t.val < 1024 * ((i 1).val + 1 + n) then arg11.view.read (Elt Ideal) G_arg11 (ix2 t l) + (∑ s : Fin 1024, (inOf x0 x1 x2 x3 x4 x5 (i 1).val).w11 t.val (0 + s.val) l) else arg11.view.read (Elt Ideal) G_arg11 (ix2 t l))
      ∧ (∀ (s : Fin 1024) (l : Fin 128), arg13.view.read (Elt Ideal) (arg13.view.writes (Elt Ideal) G_arg13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 n).2.2.1) (ix2 s l) = arg13.view.read (Elt Ideal) G_arg13 (ix2 s l) + ∑ t ∈ Finset.Ico (1024 * ((i 1).val + 1)) (1024 * ((i 1).val + 1 + n)), (inOf x0 x1 x2 x3 x4 x5 (i 1).val).w13 t (0 + s.val) l)
      ∧ (∀ (s : Fin 1024) (l : Fin 128), arg14.view.read (Elt Ideal) (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 n).2.2.2.1) (ix2 s l) = arg14.view.read (Elt Ideal) G_arg14 (ix2 s l) + ∑ t ∈ Finset.Ico (1024 * ((i 1).val + 1)) (1024 * ((i 1).val + 1 + n)), (inOf x0 x1 x2 x3 x4 x5 (i 1).val).w14 t (0 + s.val) l)
      ∧ (∀ (s : Fin 1024) (l : Fin 128), arg15.view.read (Elt Ideal) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 n).2.2.2.2) (ix2 s l) = arg15.view.read (Elt Ideal) G_arg15 (ix2 s l) + ∑ t ∈ Finset.Ico (1024 * ((i 1).val + 1)) (1024 * ((i 1).val + 1 + n)), (inOf x0 x1 x2 x3 x4 x5 (i 1).val).w15 t (0 + s.val) l) := by
  have hs : ∀ k : Fin (k0_t1_loop i).trips, _ := fun k =>
    pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k
  have ht : ∀ k : Fin (k0_t1_loop i).trips, _ := fun k =>
    trip_eq (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) k (arg8.view.writes (Elt Ideal) G_arg8 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).1) (arg11.view.writes (Elt Ideal) G_arg11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.1) (arg13.view.writes (Elt Ideal) G_arg13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.2.1) (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.2.2.1) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.2.2.2)
  intro n
  induction n with
  | zero =>
    intro _
    refine ⟨fun t l => ?_, fun t l => ?_, fun s l => ?_, fun s l => ?_, fun s l => ?_⟩
    · exact (if_neg (by omega)).symm
    · exact (if_neg (by omega)).symm
    · exact (by rw [Nat.add_zero, Finset.Ico_self, Finset.sum_empty, add_zero]; rfl)
    · exact (by rw [Nat.add_zero, Finset.Ico_self, Finset.sum_empty, add_zero]; rfl)
    · exact (by rw [Nat.add_zero, Finset.Ico_self, Finset.sum_empty, add_zero]; rfl)
  | succ n ih =>
    intro hn
    obtain ⟨ih8, ih11, ih13, ih14, ih15⟩ := ih (Nat.le_of_succ_le hn)
    obtain ⟨k, rfl⟩ : ∃ k : Fin (k0_t1_loop i).trips, k.val = n := ⟨⟨n, hn⟩, rfl⟩
    refine ⟨?_, ?_, ?_, ?_, ?_⟩
    · intro t l
      have he := (congrArg (fun x => x.1) (hs k)).trans (congrArg (fun x => x.1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).1) (ht k))
      refine (congrArg (fun x => arg8.view.read (Elt Ideal) (arg8.view.writes (Elt Ideal) G_arg8 x) (ix2 t l)) he).trans ?_
      refine read_rows arg8.view G_arg8 (k0_off7_inb i k) _ _ (off7_eq i k) t l (fun r hr => ?_) (fun hout => ?_)
      · rw [if_pos (by have := r.isLt; omega)]
        have hT := (tile_trip i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 k).s8 r l
        rw [hr] at hT
        refine (payL8 _ _ _ _ _ _ _ _ _ _ r l).trans (congrArg₂ (· + ·) ?_ (congrArg (· * c8) hT))
        refine (readAt_ext arg8.view _ (k0_off7_inb i k) (off7_eq i k) r l (by have := t.isLt; omega) (by have := l.isLt; omega)).trans ?_
        refine (congrArg _ (show _ = ix2 t l from ?_)).trans ((ih8 t l).trans (if_neg (by omega)))
        exact congrArg₂ ix2 (Fin.ext hr) (Fin.ext (Nat.zero_add _))
      · refine (ih8 t l).trans ?_
        by_cases h2 : 1024 * ((i 1).val + 1) ≤ t.val ∧ t.val < 1024 * ((i 1).val + 1 + k.val)
        · rw [if_pos h2, if_pos (by omega)]
        · rw [if_neg h2, if_neg (by omega)]
    · intro t l
      have he := (congrArg (fun x => x.2.1) (hs k)).trans (congrArg (fun x => x.2.1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.1) (ht k))
      refine (congrArg (fun x => arg11.view.read (Elt Ideal) (arg11.view.writes (Elt Ideal) G_arg11 x) (ix2 t l)) he).trans ?_
      refine read_rows arg11.view G_arg11 (k0_off7_inb i k) _ _ (off7_eq i k) t l (fun r hr => ?_) (fun hout => ?_)
      · rw [if_pos (by have := r.isLt; omega)]
        have hT := (tile_trip i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 k).s11 r l
        rw [hr] at hT
        refine (payL11 _ _ _ _ _ _ _ _ _ _ r l).trans (congrArg₂ (· + ·) ?_ hT)
        refine (readAt_ext arg11.view _ (k0_off7_inb i k) (off7_eq i k) r l (by have := t.isLt; omega) (by have := l.isLt; omega)).trans ?_
        refine (congrArg _ (show _ = ix2 t l from ?_)).trans ((ih11 t l).trans (if_neg (by omega)))
        exact congrArg₂ ix2 (Fin.ext hr) (Fin.ext (Nat.zero_add _))
      · refine (ih11 t l).trans ?_
        by_cases h2 : 1024 * ((i 1).val + 1) ≤ t.val ∧ t.val < 1024 * ((i 1).val + 1 + k.val)
        · rw [if_pos h2, if_pos (by omega)]
        · rw [if_neg h2, if_neg (by omega)]
    · intro s l
      have he := (congrArg (fun x => x.2.2.1) (hs k)).trans (congrArg (fun x => x.2.2.1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.2.1) (ht k))
      refine (congrArg (fun x => arg13.view.read (Elt Ideal) (arg13.view.writes (Elt Ideal) G_arg13 x) (ix2 s l)) he).trans ?_
      refine (congrFun (View.read_writes_full arg13.view G_arg13 inb_S1024x128_S1024x128_0_0 _ _) (ix2 s l)).trans ((payL13 _ _ _ _ _ _ _ _ _ _ s l).trans ?_)
      have hT := (tile_trip i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 k).s13 s l
      refine (congrArg₂ (· + ·) ((congrFun (View.readAt_full arg13.view _ inb_S1024x128_S1024x128_0_0) (ix2 s l)).trans (ih13 s l)) (hT.trans (sum_Ico_fin 1024 _ fun t => (inOf x0 x1 x2 x3 x4 x5 (i 1).val).w13 t (0 + s.val) l))).trans ?_
      rw [show 1024 * ((i 1).val + 1 + (k.val + 1)) = 1024 * ((i 1).val + 1 + k.val) + 1024 by omega, add_assoc,
        Finset.sum_Ico_consecutive _ (by omega) (by omega)]
    · intro s l
      have he := (congrArg (fun x => x.2.2.2.1) (hs k)).trans (congrArg (fun x => x.2.2.2.1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.2.2.1) (ht k))
      refine (congrArg (fun x => arg14.view.read (Elt Ideal) (arg14.view.writes (Elt Ideal) G_arg14 x) (ix2 s l)) he).trans ?_
      refine (congrFun (View.read_writes_full arg14.view G_arg14 inb_S1024x128_S1024x128_0_0 _ _) (ix2 s l)).trans ((payL14 _ _ _ _ _ _ _ s l).trans ?_)
      have hT := (tile_trip i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 k).s14 s l
      refine (congrArg₂ (· + ·) ((congrFun (View.readAt_full arg14.view _ inb_S1024x128_S1024x128_0_0) (ix2 s l)).trans (ih14 s l)) (hT.trans (sum_Ico_fin 1024 _ fun t => (inOf x0 x1 x2 x3 x4 x5 (i 1).val).w14 t (0 + s.val) l))).trans ?_
      rw [show 1024 * ((i 1).val + 1 + (k.val + 1)) = 1024 * ((i 1).val + 1 + k.val) + 1024 by omega, add_assoc,
        Finset.sum_Ico_consecutive _ (by omega) (by omega)]
    · intro s l
      have he := (congrArg (fun x => x.2.2.2.2) (hs k)).trans (congrArg (fun x => x.2.2.2.2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) G_arg8 G_arg11 G_arg13 G_arg14 G_arg15 k.val).2.2.2.2) (ht k))
      refine (congrArg (fun x => arg15.view.read (Elt Ideal) (arg15.view.writes (Elt Ideal) G_arg15 x) (ix2 s l)) he).trans ?_
      refine (congrFun (View.read_writes_full arg15.view G_arg15 inb_S1024x128_S1024x128_0_0 _ _) (ix2 s l)).trans ((payL15 _ _ _ _ _ _ _ _ _ _ s l).trans ?_)
      have hT := (tile_trip i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 k).s15 s l
      refine (congrArg₂ (· + ·) ((congrFun (View.readAt_full arg15.view _ inb_S1024x128_S1024x128_0_0) (ix2 s l)).trans (ih15 s l)) (hT.trans (sum_Ico_fin 1024 _ fun t => (inOf x0 x1 x2 x3 x4 x5 (i 1).val).w15 t (0 + s.val) l))).trans ?_
      rw [show 1024 * ((i 1).val + 1 + (k.val + 1)) = 1024 * ((i 1).val + 1 + k.val) + 1024 by omega, add_assoc,
        Finset.sum_Ico_consecutive _ (by omega) (by omega)]

end Cert.KernelIdeal.Attn

end
-- ==== Proof.AttnChain.lean ====
module

public import proofs.«01_k».proof.Proof.AttnLoop

/-! What each buffer holds at the end of a grid point: the tiles on the diagonal, then the trips below it. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.SL.ProofMode Idealize.SL.Sem

theorem c8_val : c8 = (((1 : ℝ) / 8 : ℝ) : EReal) := by
  unfold c8
  simp [Ideal.ofBits, Ideal.ieee, -EReal.coe_mul]; norm_num

theorem c8_add (a b : EReal) : (a + b) * c8 = a * c8 + b * c8 := by
  rw [c8_val]
  exact EReal.right_distrib_of_nonneg_of_ne_top (by exact_mod_cast (by norm_num : (0 : ℝ) ≤ 1 / 8)) (EReal.coe_ne_top _) a b

theorem zero_c8 : (0 : EReal) * c8 = 0 := zero_mul _

/-- The diagonal's three tiles into a buffer of query rows. -/
theorem chain_rows (v : View sig .tc .vmem S4096x128 .f32) (f : BufTy.Contents (Elt Ideal) v.ty)
    (L0 : List (View.Piece (Elt Ideal) S4096x128 .f32)) (i : grid0.Coords) (d g g1 g2 : ℕ → Fin 128 → EReal)
    (hL0 : ∀ (t : Fin 4096) (l : Fin 128), v.read (Elt Ideal) (v.writes (Elt Ideal) f L0) (ix2 t l) = d t.val l)
    (wA wB wC : S512x128.Idx → EReal)
    (hA : ∀ (r : Fin 512) (l : Fin 128), wA (ix2 r l)
      = v.readAt (Elt Ideal) (Rect.unit (s := S4096x128) (k0_off1 i) S512x128.size (k0_off1_inb i)).toLoadRect (v.writes (Elt Ideal) f L0) (ix2 r l)
        + g1 (1024 * (i 1).val + r.val) l)
    (hB : ∀ (r : Fin 512) (l : Fin 128), wB (ix2 r l)
      = v.readAt (Elt Ideal) (Rect.unit (s := S4096x128) (k0_off4 i) S512x128.size (k0_off4_inb i)).toLoadRect (v.writes (Elt Ideal) f
          (⟨Rect.unit (s := S4096x128) (k0_off1 i) S512x128.size (k0_off1_inb i), wA⟩ :: L0)) (ix2 r l)
        + g1 (1024 * (i 1).val + 512 + r.val) l)
    (hC : ∀ (r : Fin 512) (l : Fin 128), wC (ix2 r l)
      = v.readAt (Elt Ideal) (Rect.unit (s := S4096x128) (k0_off4 i) S512x128.size (k0_off4_inb i)).toLoadRect (v.writes (Elt Ideal) f
          (⟨Rect.unit (s := S4096x128) (k0_off4 i) S512x128.size (k0_off4_inb i), wB⟩ ::
            ⟨Rect.unit (s := S4096x128) (k0_off1 i) S512x128.size (k0_off1_inb i), wA⟩ :: L0)) (ix2 r l)
        + g2 (1024 * (i 1).val + 512 + r.val) l)
    (hg0 : ∀ (t : ℕ) (l : Fin 128), t < 1024 * (i 1).val → g t l = 0)
    (hg1 : ∀ (t : ℕ) (l : Fin 128), t < 1024 * (i 1).val + 512 → g t l = g1 t l)
    (hg2 : ∀ (t : ℕ) (l : Fin 128), g t l = g1 t l + g2 t l) (t : Fin 4096) (l : Fin 128) :
    v.read (Elt Ideal) (v.writes (Elt Ideal) f
          (⟨Rect.unit (s := S4096x128) (k0_off4 i) S512x128.size (k0_off4_inb i), wC⟩ ::
            ⟨Rect.unit (s := S4096x128) (k0_off4 i) S512x128.size (k0_off4_inb i), wB⟩ ::
            ⟨Rect.unit (s := S4096x128) (k0_off1 i) S512x128.size (k0_off1_inb i), wA⟩ :: L0)) (ix2 t l)
      = if t.val < 1024 * ((i 1).val + 1) then d t.val l + g t.val l else d t.val l := by
  have hb : (i 1).val < 4 := (i 1).isLt
  have rd : ∀ (o : ℕ) (off : Fin 2 → ℕ) (inb : ∀ a : Fin 2, off a + S512x128.size a ≤ S4096x128.size a) (hoff : off = ![o, 0])
      (F : BufTy.Contents (Elt Ideal) v.ty) (r : Fin 512) (l : Fin 128) (t : Fin 4096), o + r.val = t.val →
      v.readAt (Elt Ideal) (Rect.unit (s := S4096x128) off S512x128.size inb).toLoadRect F (ix2 r l) = v.read (Elt Ideal) F (ix2 t l) := by
    intro o off inb hoff F r l t h
    refine (readAt_ext v F inb hoff r l (by have := t.isLt; omega) (by have := l.isLt; omega)).trans (congrArg _ ?_)
    exact congrArg₂ ix2 (Fin.ext h) (Fin.ext (Nat.zero_add _))
  refine read_rows v f (k0_off4_inb i) wC _ (off4_eq i) t l (fun r hr => ?_) (fun h4 => ?_)
  · rw [if_pos (by have := r.isLt; omega), hC, hg2, ← add_assoc, ← hr]
    refine congrArg (· + _) ?_
    rw [rd _ _ _ (off4_eq i) _ r l t hr]
    refine read_rows v f (k0_off4_inb i) wB _ (off4_eq i) t l (fun r' hr' => ?_) (fun h4 => absurd hr (by have := r.isLt; omega))
    obtain rfl : r' = r := Fin.ext (by omega)
    rw [hB, rd _ _ _ (off4_eq i) _ r' l t hr, hr]
    refine congrArg (· + _) (read_rows v f (k0_off1_inb i) wA _ (off1_eq i) t l (fun r'' hr'' => absurd hr (by have := r''.isLt; omega)) (fun _ => hL0 t l))
  · refine read_rows v f (k0_off4_inb i) wB _ (off4_eq i) t l (fun r hr => absurd hr (by have := r.isLt; omega)) (fun _ => ?_)
    refine read_rows v f (k0_off1_inb i) wA _ (off1_eq i) t l (fun r hr => ?_) (fun h1 => ?_)
    · rw [if_pos (by have := r.isLt; omega), hA, rd _ _ _ (off1_eq i) _ r l t hr, hL0, hr, hg1 _ _ (by have := r.isLt; omega)]
    · rw [hL0]
      by_cases ht : t.val < 1024 * ((i 1).val + 1)
      · rw [if_pos ht, hg0 _ _ (by omega), add_zero]
      · rw [if_neg ht]

/-- The diagonal's three tiles into a buffer of the block's keys. -/
theorem chain_keys (v : View sig .tc .vmem S1024x128 .f32) (f : BufTy.Contents (Elt Ideal) v.ty) (b : ℕ)
    (w : ℕ → ℕ → Fin 128 → EReal) (hz : ∀ (t s : ℕ) (l : Fin 128), t < 1024 * b + s → w t s l = 0)
    (wA wB wC : S512x128.Idx → EReal) (L0 : List (View.Piece (Elt Ideal) S1024x128 .f32))
    (hA : ∀ (r : Fin 512) (l : Fin 128), wA (ix2 r l) = ∑ t : Fin 512, w (1024 * b + t.val) (0 + r.val) l)
    (inb0 : ∀ a : Fin 2, (![0, 0] : Fin 2 → ℕ) a + S512x128.size a ≤ S1024x128.size a)
    (inb0' : ∀ a : Fin 2, (![0, 0] : Fin 2 → ℕ) a + S512x128.size a ≤ S1024x128.size a)
    (inb0'' : ∀ a : Fin 2, (![0, 0] : Fin 2 → ℕ) a + S512x128.size a ≤ S1024x128.size a)
    (inb1 : ∀ a : Fin 2, (![512, 0] : Fin 2 → ℕ) a + S512x128.size a ≤ S1024x128.size a)
    (hB : ∀ (r : Fin 512) (l : Fin 128), wB (ix2 r l)
      = v.readAt (Elt Ideal) (Rect.unit (s := S1024x128) ![0, 0] S512x128.size inb0'').toLoadRect (v.writes (Elt Ideal) f
          (⟨Rect.unit (s := S1024x128) ![0, 0] S512x128.size inb0, wA⟩ :: L0)) (ix2 r l)
        + ∑ t : Fin 512, w (1024 * b + 512 + t.val) (0 + r.val) l)
    (hC : ∀ (r : Fin 512) (l : Fin 128), wC (ix2 r l) = ∑ t : Fin 512, w (1024 * b + 512 + t.val) (512 + r.val) l)
    (s : Fin 1024) (l : Fin 128) :
    v.read (Elt Ideal) (v.writes (Elt Ideal) f
          (⟨Rect.unit (s := S1024x128) ![512, 0] S512x128.size inb1, wC⟩ ::
            ⟨Rect.unit (s := S1024x128) ![0, 0] S512x128.size inb0', wB⟩ ::
            ⟨Rect.unit (s := S1024x128) ![0, 0] S512x128.size inb0, wA⟩ :: L0)) (ix2 s l)
      = ∑ t ∈ Finset.Ico (1024 * b) (1024 * (b + 1)), w t s.val l := by
  have hsplit : (∑ t ∈ Finset.Ico (1024 * b) (1024 * (b + 1)), w t s.val l)
      = (∑ t : Fin 512, w (1024 * b + t.val) s.val l) + ∑ t : Fin 512, w (1024 * b + 512 + t.val) s.val l := by
    rw [sum_Ico_fin 512 (1024 * b) fun t => w t s.val l, sum_Ico_fin 512 (1024 * b + 512) fun t => w t s.val l,
      Finset.sum_Ico_consecutive _ (by omega) (by omega)]
    rfl
  rw [hsplit]
  refine read_rows v f inb1 wC _ rfl s l (fun r hr => ?_) (fun h1 => ?_)
  · rw [hC, hr, Finset.sum_eq_zero (s := Finset.univ) (f := fun t : Fin 512 => w (1024 * b + t.val) s.val l)
      (fun t _ => hz _ _ _ (by have := t.isLt; omega)), zero_add]
  · refine read_rows v f inb0' wB _ rfl s l (fun r hr => ?_) (fun h0 => absurd s.isLt (by omega))
    rw [hB, hr]
    refine congrArg (· + _) ?_
    refine (readAt_ext v _ inb0'' rfl r l (by have := s.isLt; omega) (by have := l.isLt; omega)).trans ?_
    refine (congrArg _ (show _ = ix2 s l from congrArg₂ ix2 (Fin.ext hr) (Fin.ext (Nat.zero_add _)))).trans ?_
    refine read_rows v f inb0 wA _ rfl s l (fun r' hr' => ?_) (fun h0 => absurd s.isLt (by have := r.isLt; omega))
    rw [hA, hr']

theorem read_app {s : Shape} (v : View sig .tc .vmem s .f32) (f : BufTy.Contents (Elt Ideal) v.ty)
    (A B L : List (View.Piece (Elt Ideal) s .f32)) (hA : A = []) (x : s.Idx) :
    v.read (Elt Ideal) (v.writes (Elt Ideal) f (A ++ (B ++ L))) x
      = v.read (Elt Ideal) (v.writes (Elt Ideal) (v.writes (Elt Ideal) f L) B) x := by
  subst hA
  rw [List.nil_append, View.writes_append]

/-- The last loop makes no trip. -/
theorem pb2_nil (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty) :
    (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)) = ([], [], [], [], []) := by
  rw [show (Scf.trips (k0_t2_loop i).lb (k0_t2_loop i).ub (k0_t2_loop i).st) = 0 from trips2 i]; rfl

/-- What the buffer holds after the loops. -/
theorem after8 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty) (t : Fin 4096) (l : Fin 128) :
    arg8.view.read (Elt Ideal) (arg8.view.writes (Elt Ideal) f_arg8 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) (Scf.trips (k0_t1_loop i).lb (k0_t1_loop i).ub (k0_t1_loop i).st)).1 ++ L_arg8))) (ix2 t l)
      = if 1024 * ((i 1).val + 1) ≤ t.val then arg8.view.read (Elt Ideal) (arg8.view.writes (Elt Ideal) f_arg8 L_arg8) (ix2 t l) + (∑ s : Fin 1024, (inOf x0 x1 x2 x3 x4 x5 (i 1).val).w8 t.val (0 + s.val) l) * c8 else arg8.view.read (Elt Ideal) (arg8.view.writes (Elt Ideal) f_arg8 L_arg8) (ix2 t l) := by
  have hl := (loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 x0 x1 x2 x3 x4 x5 (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) _ (le_refl _))
  refine (read_app arg8.view f_arg8 _ _ L_arg8 (congrArg (fun x => x.1) (pb2_nil 𝒱 c bd i arg2 harg2 arg3 harg3 arg4 harg4 arg5 harg5 arg6 harg6 arg7 harg7 arg8 harg8 arg9 harg9 arg10 harg10 arg11 harg11 arg12 harg12 arg13 harg13 arg14 harg14 arg15 harg15 v351 x0 x1 x2 x3 x4 x5 H_arg8 H_arg11 H_arg13 H_arg14 H_arg15)) _).trans ?_
  refine (hl.1 t l).trans ?_
  have hb : (i 1).val < 4 := (i 1).isLt
  have ht := t.isLt
  rw [trips1 i]
  by_cases h : 1024 * ((i 1).val + 1) ≤ t.val
  · rw [if_pos h, if_pos (by omega)]
  · rw [if_neg h, if_neg (by omega)]

/-- What the buffer holds after the loops. -/
theorem after11 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty) (t : Fin 4096) (l : Fin 128) :
    arg11.view.read (Elt Ideal) (arg11.view.writes (Elt Ideal) f_arg11 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) (Scf.trips (k0_t1_loop i).lb (k0_t1_loop i).ub (k0_t1_loop i).st)).2.1 ++ L_arg11))) (ix2 t l)
      = if 1024 * ((i 1).val + 1) ≤ t.val then arg11.view.read (Elt Ideal) (arg11.view.writes (Elt Ideal) f_arg11 L_arg11) (ix2 t l) + (∑ s : Fin 1024, (inOf x0 x1 x2 x3 x4 x5 (i 1).val).w11 t.val (0 + s.val) l) else arg11.view.read (Elt Ideal) (arg11.view.writes (Elt Ideal) f_arg11 L_arg11) (ix2 t l) := by
  have hl := (loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 x0 x1 x2 x3 x4 x5 (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) _ (le_refl _))
  refine (read_app arg11.view f_arg11 _ _ L_arg11 (congrArg (fun x => x.2.1) (pb2_nil 𝒱 c bd i arg2 harg2 arg3 harg3 arg4 harg4 arg5 harg5 arg6 harg6 arg7 harg7 arg8 harg8 arg9 harg9 arg10 harg10 arg11 harg11 arg12 harg12 arg13 harg13 arg14 harg14 arg15 harg15 v351 x0 x1 x2 x3 x4 x5 H_arg8 H_arg11 H_arg13 H_arg14 H_arg15)) _).trans ?_
  refine (hl.2.1 t l).trans ?_
  have hb : (i 1).val < 4 := (i 1).isLt
  have ht := t.isLt
  rw [trips1 i]
  by_cases h : 1024 * ((i 1).val + 1) ≤ t.val
  · rw [if_pos h, if_pos (by omega)]
  · rw [if_neg h, if_neg (by omega)]

/-- What the buffer holds after the loops. -/
theorem after13 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty) (s : Fin 1024) (l : Fin 128) :
    arg13.view.read (Elt Ideal) (arg13.view.writes (Elt Ideal) f_arg13 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) (Scf.trips (k0_t1_loop i).lb (k0_t1_loop i).ub (k0_t1_loop i).st)).2.2.1 ++ L_arg13))) (ix2 s l)
      = arg13.view.read (Elt Ideal) (arg13.view.writes (Elt Ideal) f_arg13 L_arg13) (ix2 s l) + ∑ t ∈ Finset.Ico (1024 * ((i 1).val + 1)) 4096, (inOf x0 x1 x2 x3 x4 x5 (i 1).val).w13 t s.val l := by
  have hl := (loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 x0 x1 x2 x3 x4 x5 (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) _ (le_refl _))
  refine (read_app arg13.view f_arg13 _ _ L_arg13 (congrArg (fun x => x.2.2.1) (pb2_nil 𝒱 c bd i arg2 harg2 arg3 harg3 arg4 harg4 arg5 harg5 arg6 harg6 arg7 harg7 arg8 harg8 arg9 harg9 arg10 harg10 arg11 harg11 arg12 harg12 arg13 harg13 arg14 harg14 arg15 harg15 v351 x0 x1 x2 x3 x4 x5 H_arg8 H_arg11 H_arg13 H_arg14 H_arg15)) _).trans ?_
  refine (hl.2.2.1 s l).trans ?_
  have hb : (i 1).val < 4 := (i 1).isLt
  rw [trips1 i, show 1024 * ((i 1).val + 1 + (3 - (i 1).val)) = 4096 by omega, Nat.zero_add]

/-- What the buffer holds after the loops. -/
theorem after14 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty) (s : Fin 1024) (l : Fin 128) :
    arg14.view.read (Elt Ideal) (arg14.view.writes (Elt Ideal) f_arg14 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.2.2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) (Scf.trips (k0_t1_loop i).lb (k0_t1_loop i).ub (k0_t1_loop i).st)).2.2.2.1 ++ L_arg14))) (ix2 s l)
      = arg14.view.read (Elt Ideal) (arg14.view.writes (Elt Ideal) f_arg14 L_arg14) (ix2 s l) + ∑ t ∈ Finset.Ico (1024 * ((i 1).val + 1)) 4096, (inOf x0 x1 x2 x3 x4 x5 (i 1).val).w14 t s.val l := by
  have hl := (loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 x0 x1 x2 x3 x4 x5 (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) _ (le_refl _))
  refine (read_app arg14.view f_arg14 _ _ L_arg14 (congrArg (fun x => x.2.2.2.1) (pb2_nil 𝒱 c bd i arg2 harg2 arg3 harg3 arg4 harg4 arg5 harg5 arg6 harg6 arg7 harg7 arg8 harg8 arg9 harg9 arg10 harg10 arg11 harg11 arg12 harg12 arg13 harg13 arg14 harg14 arg15 harg15 v351 x0 x1 x2 x3 x4 x5 H_arg8 H_arg11 H_arg13 H_arg14 H_arg15)) _).trans ?_
  refine (hl.2.2.2.1 s l).trans ?_
  have hb : (i 1).val < 4 := (i 1).isLt
  rw [trips1 i, show 1024 * ((i 1).val + 1 + (3 - (i 1).val)) = 4096 by omega, Nat.zero_add]

/-- What the buffer holds after the loops. -/
theorem after15 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty) (s : Fin 1024) (l : Fin 128) :
    arg15.view.read (Elt Ideal) (arg15.view.writes (Elt Ideal) f_arg15 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.2.2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) (Scf.trips (k0_t1_loop i).lb (k0_t1_loop i).ub (k0_t1_loop i).st)).2.2.2.2 ++ L_arg15))) (ix2 s l)
      = arg15.view.read (Elt Ideal) (arg15.view.writes (Elt Ideal) f_arg15 L_arg15) (ix2 s l) + ∑ t ∈ Finset.Ico (1024 * ((i 1).val + 1)) 4096, (inOf x0 x1 x2 x3 x4 x5 (i 1).val).w15 t s.val l := by
  have hl := (loop_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 x0 x1 x2 x3 x4 x5 (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 L_arg15) _ (le_refl _))
  refine (read_app arg15.view f_arg15 _ _ L_arg15 (congrArg (fun x => x.2.2.2.2) (pb2_nil 𝒱 c bd i arg2 harg2 arg3 harg3 arg4 harg4 arg5 harg5 arg6 harg6 arg7 harg7 arg8 harg8 arg9 harg9 arg10 harg10 arg11 harg11 arg12 harg12 arg13 harg13 arg14 harg14 arg15 harg15 v351 x0 x1 x2 x3 x4 x5 H_arg8 H_arg11 H_arg13 H_arg14 H_arg15)) _).trans ?_
  refine (hl.2.2.2.2 s l).trans ?_
  have hb : (i 1).val < 4 := (i 1).isLt
  rw [trips1 i, show 1024 * ((i 1).val + 1 + (3 - (i 1).val)) = 4096 by omega, Nat.zero_add]

end Cert.KernelIdeal.Attn

end
-- ==== Proof.AttnStep.lean ====
module

public import proofs.«01_k».proof.Proof.AttnChain

/-! The tiles on the diagonal of one grid point, and what each buffer holds at the point's end. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open Idealize.SL.ProofMode Idealize.SL.Sem

/-- The operands of tile A. -/
theorem tileA (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) :
    Tile (R := 512) (C := 512) (inOf x0 x1 x2 x3 x4 x5 (i 1).val) (1024 * (i 1).val) 0 true
      (mat (arg5.view.readAt (Elt Ideal) (Rect.unit (s := S4096x128) (k0_off1 i) S512x128.size (k0_off1_inb i)).toLoadRect (harg5.unread x3))) (mat (arg6.view.readAt (Elt Ideal) (Rect.unit (s := S4096x128) (k0_off1 i) S512x128.size (k0_off1_inb i)).toLoadRect (harg6.unread x4))) (mat (arg7.view.readAt (Elt Ideal) (Rect.unit (s := S4096x128) (k0_off1 i) S512x128.size (k0_off1_inb i)).toLoadRect (harg7.unread x5))) (mat (arg2.view.readAt (Elt Ideal) (Rect.unit (s := S4096x256) (k0_off2 i) S512x128.size (k0_off2_inb i)).toLoadRect (harg2.unread x0))) (mat (arg2.view.readAt (Elt Ideal) (Rect.unit (s := S4096x256) (k0_off3 i) S512x128.size (k0_off3_inb i)).toLoadRect (harg2.unread x0))) (mat (arg3.view.readAt (Elt Ideal) (Rect.unit (s := S1024x256) ![0, 0] S512x128.size inb_S1024x256_S512x128_0_0).toLoadRect (harg3.unread x1))) (mat (arg3.view.readAt (Elt Ideal) (Rect.unit (s := S1024x256) ![0, 128] S512x128.size inb_S1024x256_S512x128_0_128).toLoadRect (harg3.unread x1))) (mat (arg4.view.readAt (Elt Ideal) (Rect.unit (s := S1024x256) ![0, 0] S512x128.size inb_S1024x256_S512x128_0_0).toLoadRect (harg4.unread x2))) (mat (arg4.view.readAt (Elt Ideal) (Rect.unit (s := S1024x256) ![0, 128] S512x128.size inb_S1024x256_S512x128_0_128).toLoadRect (harg4.unread x2))) where
  hD t d := (mat_bf harg5 x3 _ (off1_eq i) t d).trans (by rw [Nat.zero_add]; rfl)
  hO t d := (mat_f32 harg6 x4 _ (off1_eq i) t d).trans (by rw [Nat.zero_add]; rfl)
  hL t d := (mat_f32 harg7 x5 _ (off1_eq i) t d).trans (by rw [Nat.zero_add]; rfl)
  hq t d := (mat_bf harg2 x0 _ (off2_eq i) t d).trans (by rw [Nat.zero_add]; rfl)
  hq' t d := mat_bf harg2 x0 _ (off3_eq i) t d
  hk s d := (mat_bf harg3 x1 _ rfl s d).trans (by rw [Nat.zero_add d.val]; rfl)
  hk' s d := mat_bf harg3 x1 _ rfl s d
  hv s d := (mat_bf harg4 x2 _ rfl s d).trans (by rw [Nat.zero_add d.val]; rfl)
  hv' s d := mat_bf harg4 x2 _ rfl s d
  hm t s := by
    refine ⟨fun h => ?_, fun h _ => ?_⟩
    · have := h rfl; show 1024 * (i 1).val + _ ≤ _; omega
    · have h' : 1024 * (i 1).val + (0 + s.val) ≤ 1024 * (i 1).val + t.val := h; omega

theorem stepA8 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay67 k0_pay43 (k0_pay59 (k0_pay46 (arg5.view.readAt (Elt Ideal) (Rect.unit (s := S4096x128) (k0_off1 i) S512x128.size (k0_off1_inb i)).toLoadRect (harg5.unread x3))) (k0_pay51 (arg3.view.readAt (Elt Ideal) (Rect.unit (s := S1024x256) ![0, 0] S512x128.size inb_S1024x256_S512x128_0_0).toLoadRect (harg3.unread x1))) (k0_pay52 (arg4.view.readAt (Elt Ideal) (Rect.unit (s := S1024x256) ![0, 0] S512x128.size inb_S1024x256_S512x128_0_0).toLoadRect (harg4.unread x2))) (k0_pay53 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) (k0_pay54 (arg7.view.readAt (Elt Ideal) (Rect.unit (s := S4096x128) (k0_off1 i) S512x128.size (k0_off1_inb i)).toLoadRect (harg7.unread x5)) (arg2.view.readAt (Elt Ideal) (Rect.unit (s := S4096x256) (k0_off2 i) S512x128.size (k0_off2_inb i)).toLoadRect (harg2.unread x0)) (arg3.view.readAt (Elt Ideal) (Rect.unit (s := S1024x256) ![0, 0] S512x128.size inb_S1024x256_S512x128_0_0).toLoadRect (harg3.unread x1)))) (k0_pay66 k0_pay43 (k0_pay46 (arg5.view.readAt (Elt Ideal) (Rect.unit (s := S4096x128) (k0_off1 i) S512x128.size (k0_off1_inb i)).toLoadRect (harg5.unread x3))) (k0_pay47 (arg7.view.readAt (Elt Ideal) (Rect.unit (s := S4096x128) (k0_off1 i) S512x128.size (k0_off1_inb i)).toLoadRect (harg7.unread x5))) (k0_pay48 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) k0_pay49 (arg2.view.readAt (Elt Ideal) (Rect.unit (s := S4096x256) (k0_off3 i) S512x128.size (k0_off3_inb i)).toLoadRect (harg2.unread x0)) (arg3.view.readAt (Elt Ideal) (Rect.unit (s := S1024x256) ![0, 128] S512x128.size inb_S1024x256_S512x128_0_128).toLoadRect (harg3.unread x1)) (arg4.view.readAt (Elt Ideal) (Rect.unit (s := S1024x256) ![0, 128] S512x128.size inb_S1024x256_S512x128_0_128).toLoadRect (harg4.unread x2))) old (ix2 r l)
      = old (ix2 r l) + (∑ s : Fin 512, (inOf x0 x1 x2 x3 x4 x5 (i 1).val).w8 ((1024 * (i 1).val) + r.val) (0 + s.val) l) * c8 :=
  (payA8 _ _ _ _ _ _ _ _ _ old r l).trans (congrArg₂ (· + ·) rfl (congrArg (· * c8) ((tileA i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s8 r l)))

theorem stepA11 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay68 k0_pay43 (k0_pay59 (k0_pay46 (arg5.view.readAt (Elt Ideal) (Rect.unit (s := S4096x128) (k0_off1 i) S512x128.size (k0_off1_inb i)).toLoadRect (harg5.unread x3))) (k0_pay51 (arg3.view.readAt (Elt Ideal) (Rect.unit (s := S1024x256) ![0, 0] S512x128.size inb_S1024x256_S512x128_0_0).toLoadRect (harg3.unread x1))) (k0_pay52 (arg4.view.readAt (Elt Ideal) (Rect.unit (s := S1024x256) ![0, 0] S512x128.size inb_S1024x256_S512x128_0_0).toLoadRect (harg4.unread x2))) (k0_pay53 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) (k0_pay54 (arg7.view.readAt (Elt Ideal) (Rect.unit (s := S4096x128) (k0_off1 i) S512x128.size (k0_off1_inb i)).toLoadRect (harg7.unread x5)) (arg2.view.readAt (Elt Ideal) (Rect.unit (s := S4096x256) (k0_off2 i) S512x128.size (k0_off2_inb i)).toLoadRect (harg2.unread x0)) (arg3.view.readAt (Elt Ideal) (Rect.unit (s := S1024x256) ![0, 0] S512x128.size inb_S1024x256_S512x128_0_0).toLoadRect (harg3.unread x1)))) (k0_pay66 k0_pay43 (k0_pay46 (arg5.view.readAt (Elt Ideal) (Rect.unit (s := S4096x128) (k0_off1 i) S512x128.size (k0_off1_inb i)).toLoadRect (harg5.unread x3))) (k0_pay47 (arg7.view.readAt (Elt Ideal) (Rect.unit (s := S4096x128) (k0_off1 i) S512x128.size (k0_off1_inb i)).toLoadRect (harg7.unread x5))) (k0_pay48 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) k0_pay49 (arg2.view.readAt (Elt Ideal) (Rect.unit (s := S4096x256) (k0_off3 i) S512x128.size (k0_off3_inb i)).toLoadRect (harg2.unread x0)) (arg3.view.readAt (Elt Ideal) (Rect.unit (s := S1024x256) ![0, 128] S512x128.size inb_S1024x256_S512x128_0_128).toLoadRect (harg3.unread x1)) (arg4.view.readAt (Elt Ideal) (Rect.unit (s := S1024x256) ![0, 128] S512x128.size inb_S1024x256_S512x128_0_128).toLoadRect (harg4.unread x2))) old (ix2 r l)
      = old (ix2 r l) + ∑ s : Fin 512, (inOf x0 x1 x2 x3 x4 x5 (i 1).val).w11 ((1024 * (i 1).val) + r.val) (0 + s.val) l :=
  (payA11 _ _ _ _ _ _ _ _ _ old r l).trans (congrArg₂ (· + ·) rfl ((tileA i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s11 r l))

theorem stepA13 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (r : Fin 512) (l : Fin 128) :
    k0_pay69 k0_pay43 (k0_pay58 (k0_pay46 (arg5.view.readAt (Elt Ideal) (Rect.unit (s := S4096x128) (k0_off1 i) S512x128.size (k0_off1_inb i)).toLoadRect (harg5.unread x3))) (k0_pay50 (arg2.view.readAt (Elt Ideal) (Rect.unit (s := S4096x256) (k0_off2 i) S512x128.size (k0_off2_inb i)).toLoadRect (harg2.unread x0))) (k0_pay52 (arg4.view.readAt (Elt Ideal) (Rect.unit (s := S1024x256) ![0, 0] S512x128.size inb_S1024x256_S512x128_0_0).toLoadRect (harg4.unread x2))) (k0_pay53 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) (k0_pay54 (arg7.view.readAt (Elt Ideal) (Rect.unit (s := S4096x128) (k0_off1 i) S512x128.size (k0_off1_inb i)).toLoadRect (harg7.unread x5)) (arg2.view.readAt (Elt Ideal) (Rect.unit (s := S4096x256) (k0_off2 i) S512x128.size (k0_off2_inb i)).toLoadRect (harg2.unread x0)) (arg3.view.readAt (Elt Ideal) (Rect.unit (s := S1024x256) ![0, 0] S512x128.size inb_S1024x256_S512x128_0_0).toLoadRect (harg3.unread x1)))) (k0_pay65 k0_pay43 (k0_pay46 (arg5.view.readAt (Elt Ideal) (Rect.unit (s := S4096x128) (k0_off1 i) S512x128.size (k0_off1_inb i)).toLoadRect (harg5.unread x3))) (k0_pay47 (arg7.view.readAt (Elt Ideal) (Rect.unit (s := S4096x128) (k0_off1 i) S512x128.size (k0_off1_inb i)).toLoadRect (harg7.unread x5))) (k0_pay48 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) k0_pay49 (arg2.view.readAt (Elt Ideal) (Rect.unit (s := S4096x256) (k0_off3 i) S512x128.size (k0_off3_inb i)).toLoadRect (harg2.unread x0)) (arg3.view.readAt (Elt Ideal) (Rect.unit (s := S1024x256) ![0, 128] S512x128.size inb_S1024x256_S512x128_0_128).toLoadRect (harg3.unread x1)) (arg4.view.readAt (Elt Ideal) (Rect.unit (s := S1024x256) ![0, 128] S512x128.size inb_S1024x256_S512x128_0_128).toLoadRect (harg4.unread x2))) (ix2 r l)
      = ∑ t : Fin 512, (inOf x0 x1 x2 x3 x4 x5 (i 1).val).w13 ((1024 * (i 1).val) + t.val) (0 + r.val) l :=
  (payA13 _ _ _ _ _ _ _ _ _ r l).trans ((tileA i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s13 r l)

theorem stepA15 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (r : Fin 512) (l : Fin 128) :
    k0_pay70 k0_pay43 (k0_pay58 (k0_pay46 (arg5.view.readAt (Elt Ideal) (Rect.unit (s := S4096x128) (k0_off1 i) S512x128.size (k0_off1_inb i)).toLoadRect (harg5.unread x3))) (k0_pay50 (arg2.view.readAt (Elt Ideal) (Rect.unit (s := S4096x256) (k0_off2 i) S512x128.size (k0_off2_inb i)).toLoadRect (harg2.unread x0))) (k0_pay52 (arg4.view.readAt (Elt Ideal) (Rect.unit (s := S1024x256) ![0, 0] S512x128.size inb_S1024x256_S512x128_0_0).toLoadRect (harg4.unread x2))) (k0_pay53 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) (k0_pay54 (arg7.view.readAt (Elt Ideal) (Rect.unit (s := S4096x128) (k0_off1 i) S512x128.size (k0_off1_inb i)).toLoadRect (harg7.unread x5)) (arg2.view.readAt (Elt Ideal) (Rect.unit (s := S4096x256) (k0_off2 i) S512x128.size (k0_off2_inb i)).toLoadRect (harg2.unread x0)) (arg3.view.readAt (Elt Ideal) (Rect.unit (s := S1024x256) ![0, 0] S512x128.size inb_S1024x256_S512x128_0_0).toLoadRect (harg3.unread x1)))) (k0_pay65 k0_pay43 (k0_pay46 (arg5.view.readAt (Elt Ideal) (Rect.unit (s := S4096x128) (k0_off1 i) S512x128.size (k0_off1_inb i)).toLoadRect (harg5.unread x3))) (k0_pay47 (arg7.view.readAt (Elt Ideal) (Rect.unit (s := S4096x128) (k0_off1 i) S512x128.size (k0_off1_inb i)).toLoadRect (harg7.unread x5))) (k0_pay48 (arg5.view.readAt (Elt Ideal) (Rect.unit (s := S4096x128) (k0_off1 i) S512x128.size (k0_off1_inb i)).toLoadRect (harg5.unread x3)) (arg6.view.readAt (Elt Ideal) (Rect.unit (s := S4096x128) (k0_off1 i) S512x128.size (k0_off1_inb i)).toLoadRect (harg6.unread x4))) k0_pay49 (arg2.view.readAt (Elt Ideal) (Rect.unit (s := S4096x256) (k0_off3 i) S512x128.size (k0_off3_inb i)).toLoadRect (harg2.unread x0)) (arg3.view.readAt (Elt Ideal) (Rect.unit (s := S1024x256) ![0, 128] S512x128.size inb_S1024x256_S512x128_0_128).toLoadRect (harg3.unread x1)) (arg4.view.readAt (Elt Ideal) (Rect.unit (s := S1024x256) ![0, 128] S512x128.size inb_S1024x256_S512x128_0_128).toLoadRect (harg4.unread x2))) (ix2 r l)
      = ∑ t : Fin 512, (inOf x0 x1 x2 x3 x4 x5 (i 1).val).w15 ((1024 * (i 1).val) + t.val) (0 + r.val) l :=
  (payA15 _ _ _ _ _ _ _ _ _ r l).trans ((tileA i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s15 r l)

theorem stepA14 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (r : Fin 512) (l : Fin 128) :
    k0_pay71 k0_pay43 (k0_pay57 (k0_pay46 (arg5.view.readAt (Elt Ideal) (Rect.unit (s := S4096x128) (k0_off1 i) S512x128.size (k0_off1_inb i)).toLoadRect (harg5.unread x3))) (k0_pay54 (arg7.view.readAt (Elt Ideal) (Rect.unit (s := S4096x128) (k0_off1 i) S512x128.size (k0_off1_inb i)).toLoadRect (harg7.unread x5)) (arg2.view.readAt (Elt Ideal) (Rect.unit (s := S4096x256) (k0_off2 i) S512x128.size (k0_off2_inb i)).toLoadRect (harg2.unread x0)) (arg3.view.readAt (Elt Ideal) (Rect.unit (s := S1024x256) ![0, 0] S512x128.size inb_S1024x256_S512x128_0_0).toLoadRect (harg3.unread x1)))) (k0_pay64 (k0_pay46 (arg5.view.readAt (Elt Ideal) (Rect.unit (s := S4096x128) (k0_off1 i) S512x128.size (k0_off1_inb i)).toLoadRect (harg5.unread x3))) (k0_pay47 (arg7.view.readAt (Elt Ideal) (Rect.unit (s := S4096x128) (k0_off1 i) S512x128.size (k0_off1_inb i)).toLoadRect (harg7.unread x5))) k0_pay49 (arg2.view.readAt (Elt Ideal) (Rect.unit (s := S4096x256) (k0_off3 i) S512x128.size (k0_off3_inb i)).toLoadRect (harg2.unread x0)) (arg3.view.readAt (Elt Ideal) (Rect.unit (s := S1024x256) ![0, 128] S512x128.size inb_S1024x256_S512x128_0_128).toLoadRect (harg3.unread x1))) (ix2 r l)
      = ∑ t : Fin 512, (inOf x0 x1 x2 x3 x4 x5 (i 1).val).w14 ((1024 * (i 1).val) + t.val) (0 + r.val) l :=
  (payA14 _ _ _ _ _ _ r l).trans ((tileA i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s14 r l)

/-- The operands of tile B. -/
theorem tileB (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) :
    Tile (R := 512) (C := 512) (inOf x0 x1 x2 x3 x4 x5 (i 1).val) (1024 * (i 1).val + 512) 0 false
      (mat (arg5.view.readAt (Elt Ideal) (Rect.unit (s := S4096x128) (k0_off4 i) S512x128.size (k0_off4_inb i)).toLoadRect (harg5.unread x3))) (mat (arg6.view.readAt (Elt Ideal) (Rect.unit (s := S4096x128) (k0_off4 i) S512x128.size (k0_off4_inb i)).toLoadRect (harg6.unread x4))) (mat (arg7.view.readAt (Elt Ideal) (Rect.unit (s := S4096x128) (k0_off4 i) S512x128.size (k0_off4_inb i)).toLoadRect (harg7.unread x5))) (mat (arg2.view.readAt (Elt Ideal) (Rect.unit (s := S4096x256) (k0_off5 i) S512x128.size (k0_off5_inb i)).toLoadRect (harg2.unread x0))) (mat (arg2.view.readAt (Elt Ideal) (Rect.unit (s := S4096x256) (k0_off6 i) S512x128.size (k0_off6_inb i)).toLoadRect (harg2.unread x0))) (mat (arg3.view.readAt (Elt Ideal) (Rect.unit (s := S1024x256) ![0, 0] S512x128.size inb_S1024x256_S512x128_0_0).toLoadRect (harg3.unread x1))) (mat (arg3.view.readAt (Elt Ideal) (Rect.unit (s := S1024x256) ![0, 128] S512x128.size inb_S1024x256_S512x128_0_128).toLoadRect (harg3.unread x1))) (mat (arg4.view.readAt (Elt Ideal) (Rect.unit (s := S1024x256) ![0, 0] S512x128.size inb_S1024x256_S512x128_0_0).toLoadRect (harg4.unread x2))) (mat (arg4.view.readAt (Elt Ideal) (Rect.unit (s := S1024x256) ![0, 128] S512x128.size inb_S1024x256_S512x128_0_128).toLoadRect (harg4.unread x2))) where
  hD t d := (mat_bf harg5 x3 _ (off4_eq i) t d).trans (by rw [Nat.zero_add]; rfl)
  hO t d := (mat_f32 harg6 x4 _ (off4_eq i) t d).trans (by rw [Nat.zero_add]; rfl)
  hL t d := (mat_f32 harg7 x5 _ (off4_eq i) t d).trans (by rw [Nat.zero_add]; rfl)
  hq t d := (mat_bf harg2 x0 _ (off5_eq i) t d).trans (by rw [Nat.zero_add]; rfl)
  hq' t d := mat_bf harg2 x0 _ (off6_eq i) t d
  hk s d := (mat_bf harg3 x1 _ rfl s d).trans (by rw [Nat.zero_add d.val]; rfl)
  hk' s d := mat_bf harg3 x1 _ rfl s d
  hv s d := (mat_bf harg4 x2 _ rfl s d).trans (by rw [Nat.zero_add d.val]; rfl)
  hv' s d := mat_bf harg4 x2 _ rfl s d
  hm t s := by
    have hs := s.isLt
    refine ⟨fun _ => ?_, fun _ h => by cases h⟩
    show 1024 * (i 1).val + _ ≤ _
    omega

theorem stepB8 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay90 k0_pay43 (k0_pay72 (arg5.view.readAt (Elt Ideal) (Rect.unit (s := S4096x128) (k0_off4 i) S512x128.size (k0_off4_inb i)).toLoadRect (harg5.unread x3))) (k0_pay73 (arg7.view.readAt (Elt Ideal) (Rect.unit (s := S4096x128) (k0_off4 i) S512x128.size (k0_off4_inb i)).toLoadRect (harg7.unread x5))) (k0_pay74 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) (k0_pay81 k0_pay43 (arg5.view.readAt (Elt Ideal) (Rect.unit (s := S4096x128) (k0_off4 i) S512x128.size (k0_off4_inb i)).toLoadRect (harg5.unread x3)) (arg7.view.readAt (Elt Ideal) (Rect.unit (s := S4096x128) (k0_off4 i) S512x128.size (k0_off4_inb i)).toLoadRect (harg7.unread x5)) (arg6.view.readAt (Elt Ideal) (Rect.unit (s := S4096x128) (k0_off4 i) S512x128.size (k0_off4_inb i)).toLoadRect (harg6.unread x4)) (arg2.view.readAt (Elt Ideal) (Rect.unit (s := S4096x256) (k0_off5 i) S512x128.size (k0_off5_inb i)).toLoadRect (harg2.unread x0)) (arg3.view.readAt (Elt Ideal) (Rect.unit (s := S1024x256) ![0, 0] S512x128.size inb_S1024x256_S512x128_0_0).toLoadRect (harg3.unread x1)) (arg4.view.readAt (Elt Ideal) (Rect.unit (s := S1024x256) ![0, 0] S512x128.size inb_S1024x256_S512x128_0_0).toLoadRect (harg4.unread x2))) (k0_pay82 k0_pay43) (k0_pay83 (arg2.view.readAt (Elt Ideal) (Rect.unit (s := S4096x256) (k0_off6 i) S512x128.size (k0_off6_inb i)).toLoadRect (harg2.unread x0))) (k0_pay84 (arg3.view.readAt (Elt Ideal) (Rect.unit (s := S1024x256) ![0, 128] S512x128.size inb_S1024x256_S512x128_0_128).toLoadRect (harg3.unread x1))) (arg4.view.readAt (Elt Ideal) (Rect.unit (s := S1024x256) ![0, 128] S512x128.size inb_S1024x256_S512x128_0_128).toLoadRect (harg4.unread x2)) old (ix2 r l)
      = old (ix2 r l) + (∑ s : Fin 512, (inOf x0 x1 x2 x3 x4 x5 (i 1).val).w8 ((1024 * (i 1).val + 512) + r.val) (0 + s.val) l) * c8 :=
  (payB8 _ _ _ _ _ _ _ _ _ old r l).trans (congrArg₂ (· + ·) rfl (congrArg (· * c8) ((tileB i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s8 r l)))

theorem stepB11 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay91 k0_pay43 (k0_pay72 (arg5.view.readAt (Elt Ideal) (Rect.unit (s := S4096x128) (k0_off4 i) S512x128.size (k0_off4_inb i)).toLoadRect (harg5.unread x3))) (k0_pay73 (arg7.view.readAt (Elt Ideal) (Rect.unit (s := S4096x128) (k0_off4 i) S512x128.size (k0_off4_inb i)).toLoadRect (harg7.unread x5))) (k0_pay74 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) (k0_pay81 k0_pay43 (arg5.view.readAt (Elt Ideal) (Rect.unit (s := S4096x128) (k0_off4 i) S512x128.size (k0_off4_inb i)).toLoadRect (harg5.unread x3)) (arg7.view.readAt (Elt Ideal) (Rect.unit (s := S4096x128) (k0_off4 i) S512x128.size (k0_off4_inb i)).toLoadRect (harg7.unread x5)) (arg6.view.readAt (Elt Ideal) (Rect.unit (s := S4096x128) (k0_off4 i) S512x128.size (k0_off4_inb i)).toLoadRect (harg6.unread x4)) (arg2.view.readAt (Elt Ideal) (Rect.unit (s := S4096x256) (k0_off5 i) S512x128.size (k0_off5_inb i)).toLoadRect (harg2.unread x0)) (arg3.view.readAt (Elt Ideal) (Rect.unit (s := S1024x256) ![0, 0] S512x128.size inb_S1024x256_S512x128_0_0).toLoadRect (harg3.unread x1)) (arg4.view.readAt (Elt Ideal) (Rect.unit (s := S1024x256) ![0, 0] S512x128.size inb_S1024x256_S512x128_0_0).toLoadRect (harg4.unread x2))) (k0_pay82 k0_pay43) (k0_pay83 (arg2.view.readAt (Elt Ideal) (Rect.unit (s := S4096x256) (k0_off6 i) S512x128.size (k0_off6_inb i)).toLoadRect (harg2.unread x0))) (k0_pay84 (arg3.view.readAt (Elt Ideal) (Rect.unit (s := S1024x256) ![0, 128] S512x128.size inb_S1024x256_S512x128_0_128).toLoadRect (harg3.unread x1))) (arg4.view.readAt (Elt Ideal) (Rect.unit (s := S1024x256) ![0, 128] S512x128.size inb_S1024x256_S512x128_0_128).toLoadRect (harg4.unread x2)) old (ix2 r l)
      = old (ix2 r l) + ∑ s : Fin 512, (inOf x0 x1 x2 x3 x4 x5 (i 1).val).w11 ((1024 * (i 1).val + 512) + r.val) (0 + s.val) l :=
  (payB11 _ _ _ _ _ _ _ _ _ old r l).trans (congrArg₂ (· + ·) rfl ((tileB i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s11 r l))

theorem stepB13 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay93 (k0_pay80 k0_pay43 (arg5.view.readAt (Elt Ideal) (Rect.unit (s := S4096x128) (k0_off4 i) S512x128.size (k0_off4_inb i)).toLoadRect (harg5.unread x3)) (arg7.view.readAt (Elt Ideal) (Rect.unit (s := S4096x128) (k0_off4 i) S512x128.size (k0_off4_inb i)).toLoadRect (harg7.unread x5)) (arg6.view.readAt (Elt Ideal) (Rect.unit (s := S4096x128) (k0_off4 i) S512x128.size (k0_off4_inb i)).toLoadRect (harg6.unread x4)) (arg2.view.readAt (Elt Ideal) (Rect.unit (s := S4096x256) (k0_off5 i) S512x128.size (k0_off5_inb i)).toLoadRect (harg2.unread x0)) (arg3.view.readAt (Elt Ideal) (Rect.unit (s := S1024x256) ![0, 0] S512x128.size inb_S1024x256_S512x128_0_0).toLoadRect (harg3.unread x1)) (arg4.view.readAt (Elt Ideal) (Rect.unit (s := S1024x256) ![0, 0] S512x128.size inb_S1024x256_S512x128_0_0).toLoadRect (harg4.unread x2))) (k0_pay88 (k0_pay72 (arg5.view.readAt (Elt Ideal) (Rect.unit (s := S4096x128) (k0_off4 i) S512x128.size (k0_off4_inb i)).toLoadRect (harg5.unread x3))) (k0_pay73 (arg7.view.readAt (Elt Ideal) (Rect.unit (s := S4096x128) (k0_off4 i) S512x128.size (k0_off4_inb i)).toLoadRect (harg7.unread x5))) (k0_pay74 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) (k0_pay82 k0_pay43) (k0_pay83 (arg2.view.readAt (Elt Ideal) (Rect.unit (s := S4096x256) (k0_off6 i) S512x128.size (k0_off6_inb i)).toLoadRect (harg2.unread x0))) (k0_pay84 (arg3.view.readAt (Elt Ideal) (Rect.unit (s := S1024x256) ![0, 128] S512x128.size inb_S1024x256_S512x128_0_128).toLoadRect (harg3.unread x1))) (arg4.view.readAt (Elt Ideal) (Rect.unit (s := S1024x256) ![0, 128] S512x128.size inb_S1024x256_S512x128_0_128).toLoadRect (harg4.unread x2))) (k0_pay92 k0_pay43) old (ix2 r l)
      = old (ix2 r l) + ∑ t : Fin 512, (inOf x0 x1 x2 x3 x4 x5 (i 1).val).w13 ((1024 * (i 1).val + 512) + t.val) (0 + r.val) l :=
  (payB13 _ _ _ _ _ _ _ _ _ old r l).trans (congrArg₂ (· + ·) rfl ((tileB i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s13 r l))

theorem stepB15 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay94 k0_pay43 (k0_pay80 k0_pay43 (arg5.view.readAt (Elt Ideal) (Rect.unit (s := S4096x128) (k0_off4 i) S512x128.size (k0_off4_inb i)).toLoadRect (harg5.unread x3)) (arg7.view.readAt (Elt Ideal) (Rect.unit (s := S4096x128) (k0_off4 i) S512x128.size (k0_off4_inb i)).toLoadRect (harg7.unread x5)) (arg6.view.readAt (Elt Ideal) (Rect.unit (s := S4096x128) (k0_off4 i) S512x128.size (k0_off4_inb i)).toLoadRect (harg6.unread x4)) (arg2.view.readAt (Elt Ideal) (Rect.unit (s := S4096x256) (k0_off5 i) S512x128.size (k0_off5_inb i)).toLoadRect (harg2.unread x0)) (arg3.view.readAt (Elt Ideal) (Rect.unit (s := S1024x256) ![0, 0] S512x128.size inb_S1024x256_S512x128_0_0).toLoadRect (harg3.unread x1)) (arg4.view.readAt (Elt Ideal) (Rect.unit (s := S1024x256) ![0, 0] S512x128.size inb_S1024x256_S512x128_0_0).toLoadRect (harg4.unread x2))) (k0_pay88 (k0_pay72 (arg5.view.readAt (Elt Ideal) (Rect.unit (s := S4096x128) (k0_off4 i) S512x128.size (k0_off4_inb i)).toLoadRect (harg5.unread x3))) (k0_pay73 (arg7.view.readAt (Elt Ideal) (Rect.unit (s := S4096x128) (k0_off4 i) S512x128.size (k0_off4_inb i)).toLoadRect (harg7.unread x5))) (k0_pay74 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) (k0_pay82 k0_pay43) (k0_pay83 (arg2.view.readAt (Elt Ideal) (Rect.unit (s := S4096x256) (k0_off6 i) S512x128.size (k0_off6_inb i)).toLoadRect (harg2.unread x0))) (k0_pay84 (arg3.view.readAt (Elt Ideal) (Rect.unit (s := S1024x256) ![0, 128] S512x128.size inb_S1024x256_S512x128_0_128).toLoadRect (harg3.unread x1))) (arg4.view.readAt (Elt Ideal) (Rect.unit (s := S1024x256) ![0, 128] S512x128.size inb_S1024x256_S512x128_0_128).toLoadRect (harg4.unread x2))) old (ix2 r l)
      = old (ix2 r l) + ∑ t : Fin 512, (inOf x0 x1 x2 x3 x4 x5 (i 1).val).w15 ((1024 * (i 1).val + 512) + t.val) (0 + r.val) l :=
  (payB15 _ _ _ _ _ _ _ _ _ old r l).trans (congrArg₂ (· + ·) rfl ((tileB i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s15 r l))

theorem stepB14 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay95 k0_pay43 (k0_pay79 (arg5.view.readAt (Elt Ideal) (Rect.unit (s := S4096x128) (k0_off4 i) S512x128.size (k0_off4_inb i)).toLoadRect (harg5.unread x3)) (arg7.view.readAt (Elt Ideal) (Rect.unit (s := S4096x128) (k0_off4 i) S512x128.size (k0_off4_inb i)).toLoadRect (harg7.unread x5)) (arg2.view.readAt (Elt Ideal) (Rect.unit (s := S4096x256) (k0_off5 i) S512x128.size (k0_off5_inb i)).toLoadRect (harg2.unread x0)) (arg3.view.readAt (Elt Ideal) (Rect.unit (s := S1024x256) ![0, 0] S512x128.size inb_S1024x256_S512x128_0_0).toLoadRect (harg3.unread x1))) (k0_pay87 (k0_pay72 (arg5.view.readAt (Elt Ideal) (Rect.unit (s := S4096x128) (k0_off4 i) S512x128.size (k0_off4_inb i)).toLoadRect (harg5.unread x3))) (k0_pay73 (arg7.view.readAt (Elt Ideal) (Rect.unit (s := S4096x128) (k0_off4 i) S512x128.size (k0_off4_inb i)).toLoadRect (harg7.unread x5))) (k0_pay83 (arg2.view.readAt (Elt Ideal) (Rect.unit (s := S4096x256) (k0_off6 i) S512x128.size (k0_off6_inb i)).toLoadRect (harg2.unread x0))) (k0_pay84 (arg3.view.readAt (Elt Ideal) (Rect.unit (s := S1024x256) ![0, 128] S512x128.size inb_S1024x256_S512x128_0_128).toLoadRect (harg3.unread x1)))) old (ix2 r l)
      = old (ix2 r l) + ∑ t : Fin 512, (inOf x0 x1 x2 x3 x4 x5 (i 1).val).w14 ((1024 * (i 1).val + 512) + t.val) (0 + r.val) l :=
  (payB14 _ _ _ _ _ _ old r l).trans (congrArg₂ (· + ·) rfl ((tileB i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s14 r l))

/-- The operands of tile C. -/
theorem tileC (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) :
    Tile (R := 512) (C := 512) (inOf x0 x1 x2 x3 x4 x5 (i 1).val) (1024 * (i 1).val + 512) 512 true
      (mat (arg5.view.readAt (Elt Ideal) (Rect.unit (s := S4096x128) (k0_off4 i) S512x128.size (k0_off4_inb i)).toLoadRect (harg5.unread x3))) (mat (arg6.view.readAt (Elt Ideal) (Rect.unit (s := S4096x128) (k0_off4 i) S512x128.size (k0_off4_inb i)).toLoadRect (harg6.unread x4))) (mat (arg7.view.readAt (Elt Ideal) (Rect.unit (s := S4096x128) (k0_off4 i) S512x128.size (k0_off4_inb i)).toLoadRect (harg7.unread x5))) (mat (arg2.view.readAt (Elt Ideal) (Rect.unit (s := S4096x256) (k0_off5 i) S512x128.size (k0_off5_inb i)).toLoadRect (harg2.unread x0))) (mat (arg2.view.readAt (Elt Ideal) (Rect.unit (s := S4096x256) (k0_off6 i) S512x128.size (k0_off6_inb i)).toLoadRect (harg2.unread x0))) (mat (arg3.view.readAt (Elt Ideal) (Rect.unit (s := S1024x256) ![512, 0] S512x128.size inb_S1024x256_S512x128_512_0).toLoadRect (harg3.unread x1))) (mat (arg3.view.readAt (Elt Ideal) (Rect.unit (s := S1024x256) ![512, 128] S512x128.size inb_S1024x256_S512x128_512_128).toLoadRect (harg3.unread x1))) (mat (arg4.view.readAt (Elt Ideal) (Rect.unit (s := S1024x256) ![512, 0] S512x128.size inb_S1024x256_S512x128_512_0).toLoadRect (harg4.unread x2))) (mat (arg4.view.readAt (Elt Ideal) (Rect.unit (s := S1024x256) ![512, 128] S512x128.size inb_S1024x256_S512x128_512_128).toLoadRect (harg4.unread x2))) where
  hD t d := (mat_bf harg5 x3 _ (off4_eq i) t d).trans (by rw [Nat.zero_add]; rfl)
  hO t d := (mat_f32 harg6 x4 _ (off4_eq i) t d).trans (by rw [Nat.zero_add]; rfl)
  hL t d := (mat_f32 harg7 x5 _ (off4_eq i) t d).trans (by rw [Nat.zero_add]; rfl)
  hq t d := (mat_bf harg2 x0 _ (off5_eq i) t d).trans (by rw [Nat.zero_add]; rfl)
  hq' t d := mat_bf harg2 x0 _ (off6_eq i) t d
  hk s d := (mat_bf harg3 x1 _ rfl s d).trans (by rw [Nat.zero_add d.val]; rfl)
  hk' s d := mat_bf harg3 x1 _ rfl s d
  hv s d := (mat_bf harg4 x2 _ rfl s d).trans (by rw [Nat.zero_add d.val]; rfl)
  hv' s d := mat_bf harg4 x2 _ rfl s d
  hm t s := by
    refine ⟨fun h => ?_, fun h _ => ?_⟩
    · have := h rfl; show 1024 * (i 1).val + _ ≤ _; omega
    · have h' : 1024 * (i 1).val + (512 + s.val) ≤ 1024 * (i 1).val + 512 + t.val := h; omega

theorem stepC8 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay116 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) k0_pay99 (k0_pay106 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) k0_pay99 (arg2.view.readAt (Elt Ideal) (Rect.unit (s := S4096x256) (k0_off5 i) S512x128.size (k0_off5_inb i)).toLoadRect (harg2.unread x0)) (arg3.view.readAt (Elt Ideal) (Rect.unit (s := S1024x256) ![512, 0] S512x128.size inb_S1024x256_S512x128_512_0).toLoadRect (harg3.unread x1)) (arg4.view.readAt (Elt Ideal) (Rect.unit (s := S1024x256) ![512, 0] S512x128.size inb_S1024x256_S512x128_512_0).toLoadRect (harg4.unread x2))) (k0_pay107 (arg2.view.readAt (Elt Ideal) (Rect.unit (s := S4096x256) (k0_off6 i) S512x128.size (k0_off6_inb i)).toLoadRect (harg2.unread x0))) (k0_pay108 (arg3.view.readAt (Elt Ideal) (Rect.unit (s := S1024x256) ![512, 128] S512x128.size inb_S1024x256_S512x128_512_128).toLoadRect (harg3.unread x1))) (k0_pay109 (arg4.view.readAt (Elt Ideal) (Rect.unit (s := S1024x256) ![512, 128] S512x128.size inb_S1024x256_S512x128_512_128).toLoadRect (harg4.unread x2))) (k0_pay110 k0_pay43 (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4)))) old (ix2 r l)
      = old (ix2 r l) + (∑ s : Fin 512, (inOf x0 x1 x2 x3 x4 x5 (i 1).val).w8 ((1024 * (i 1).val + 512) + r.val) (512 + s.val) l) * c8 :=
  (payC8 _ _ _ _ _ _ _ _ _ old r l).trans (congrArg₂ (· + ·) rfl (congrArg (· * c8) ((tileC i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s8 r l)))

theorem stepC11 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (old : Vec Ideal S512x128 .f32) (r : Fin 512) (l : Fin 128) :
    k0_pay117 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) k0_pay99 (k0_pay106 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) k0_pay99 (arg2.view.readAt (Elt Ideal) (Rect.unit (s := S4096x256) (k0_off5 i) S512x128.size (k0_off5_inb i)).toLoadRect (harg2.unread x0)) (arg3.view.readAt (Elt Ideal) (Rect.unit (s := S1024x256) ![512, 0] S512x128.size inb_S1024x256_S512x128_512_0).toLoadRect (harg3.unread x1)) (arg4.view.readAt (Elt Ideal) (Rect.unit (s := S1024x256) ![512, 0] S512x128.size inb_S1024x256_S512x128_512_0).toLoadRect (harg4.unread x2))) (k0_pay107 (arg2.view.readAt (Elt Ideal) (Rect.unit (s := S4096x256) (k0_off6 i) S512x128.size (k0_off6_inb i)).toLoadRect (harg2.unread x0))) (k0_pay108 (arg3.view.readAt (Elt Ideal) (Rect.unit (s := S1024x256) ![512, 128] S512x128.size inb_S1024x256_S512x128_512_128).toLoadRect (harg3.unread x1))) (k0_pay109 (arg4.view.readAt (Elt Ideal) (Rect.unit (s := S1024x256) ![512, 128] S512x128.size inb_S1024x256_S512x128_512_128).toLoadRect (harg4.unread x2))) (k0_pay110 k0_pay43 (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4)))) old (ix2 r l)
      = old (ix2 r l) + ∑ s : Fin 512, (inOf x0 x1 x2 x3 x4 x5 (i 1).val).w11 ((1024 * (i 1).val + 512) + r.val) (512 + s.val) l :=
  (payC11 _ _ _ _ _ _ _ _ _ old r l).trans (congrArg₂ (· + ·) rfl ((tileC i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s11 r l))

theorem stepC13 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (r : Fin 512) (l : Fin 128) :
    k0_pay121 (k0_pay118 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) k0_pay99 (k0_pay105 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) k0_pay99 (arg2.view.readAt (Elt Ideal) (Rect.unit (s := S4096x256) (k0_off5 i) S512x128.size (k0_off5_inb i)).toLoadRect (harg2.unread x0)) (arg3.view.readAt (Elt Ideal) (Rect.unit (s := S1024x256) ![512, 0] S512x128.size inb_S1024x256_S512x128_512_0).toLoadRect (harg3.unread x1)) (arg4.view.readAt (Elt Ideal) (Rect.unit (s := S1024x256) ![512, 0] S512x128.size inb_S1024x256_S512x128_512_0).toLoadRect (harg4.unread x2))) (k0_pay107 (arg2.view.readAt (Elt Ideal) (Rect.unit (s := S4096x256) (k0_off6 i) S512x128.size (k0_off6_inb i)).toLoadRect (harg2.unread x0))) (k0_pay108 (arg3.view.readAt (Elt Ideal) (Rect.unit (s := S1024x256) ![512, 128] S512x128.size inb_S1024x256_S512x128_512_128).toLoadRect (harg3.unread x1))) (k0_pay109 (arg4.view.readAt (Elt Ideal) (Rect.unit (s := S1024x256) ![512, 128] S512x128.size inb_S1024x256_S512x128_512_128).toLoadRect (harg4.unread x2))) (k0_pay110 k0_pay43 (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))))) (ix2 r l)
      = ∑ t : Fin 512, (inOf x0 x1 x2 x3 x4 x5 (i 1).val).w13 ((1024 * (i 1).val + 512) + t.val) (512 + r.val) l :=
  (payC13 _ _ _ _ _ _ _ _ _ r l).trans ((tileC i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s13 r l)

theorem stepC15 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (r : Fin 512) (l : Fin 128) :
    k0_pay122 (k0_pay119 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) k0_pay99 (k0_pay105 k0_pay43 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))) k0_pay99 (arg2.view.readAt (Elt Ideal) (Rect.unit (s := S4096x256) (k0_off5 i) S512x128.size (k0_off5_inb i)).toLoadRect (harg2.unread x0)) (arg3.view.readAt (Elt Ideal) (Rect.unit (s := S1024x256) ![512, 0] S512x128.size inb_S1024x256_S512x128_512_0).toLoadRect (harg3.unread x1)) (arg4.view.readAt (Elt Ideal) (Rect.unit (s := S1024x256) ![512, 0] S512x128.size inb_S1024x256_S512x128_512_0).toLoadRect (harg4.unread x2))) (k0_pay107 (arg2.view.readAt (Elt Ideal) (Rect.unit (s := S4096x256) (k0_off6 i) S512x128.size (k0_off6_inb i)).toLoadRect (harg2.unread x0))) (k0_pay108 (arg3.view.readAt (Elt Ideal) (Rect.unit (s := S1024x256) ![512, 128] S512x128.size inb_S1024x256_S512x128_512_128).toLoadRect (harg3.unread x1))) (k0_pay109 (arg4.view.readAt (Elt Ideal) (Rect.unit (s := S1024x256) ![512, 128] S512x128.size inb_S1024x256_S512x128_512_128).toLoadRect (harg4.unread x2))) (k0_pay110 k0_pay43 (k0_pay98 (arg5.view.readAt (Elt Ideal) (Rect.unit (s := S4096x128) (k0_off4 i) S512x128.size (k0_off4_inb i)).toLoadRect (harg5.unread x3)) (arg6.view.readAt (Elt Ideal) (Rect.unit (s := S4096x128) (k0_off4 i) S512x128.size (k0_off4_inb i)).toLoadRect (harg6.unread x4))))) (ix2 r l)
      = ∑ t : Fin 512, (inOf x0 x1 x2 x3 x4 x5 (i 1).val).w15 ((1024 * (i 1).val + 512) + t.val) (512 + r.val) l :=
  (payC15 _ _ _ _ _ _ _ _ _ r l).trans ((tileC i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s15 r l)

theorem stepC14 (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (r : Fin 512) (l : Fin 128) :
    k0_pay123 (k0_pay104 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) k0_pay99 (arg2.view.readAt (Elt Ideal) (Rect.unit (s := S4096x256) (k0_off5 i) S512x128.size (k0_off5_inb i)).toLoadRect (harg2.unread x0)) (arg3.view.readAt (Elt Ideal) (Rect.unit (s := S1024x256) ![512, 0] S512x128.size inb_S1024x256_S512x128_512_0).toLoadRect (harg3.unread x1))) (k0_pay113 (k0_pay96 (arg5.view.readAt (Elt Ideal) (Rect.unit (s := S4096x128) (k0_off4 i) S512x128.size (k0_off4_inb i)).toLoadRect (harg5.unread x3))) (k0_pay97 (arg7.view.readAt (Elt Ideal) (Rect.unit (s := S4096x128) (k0_off4 i) S512x128.size (k0_off4_inb i)).toLoadRect (harg7.unread x5))) k0_pay99 (k0_pay107 (arg2.view.readAt (Elt Ideal) (Rect.unit (s := S4096x256) (k0_off6 i) S512x128.size (k0_off6_inb i)).toLoadRect (harg2.unread x0))) (k0_pay108 (arg3.view.readAt (Elt Ideal) (Rect.unit (s := S1024x256) ![512, 128] S512x128.size inb_S1024x256_S512x128_512_128).toLoadRect (harg3.unread x1)))) (k0_pay120 k0_pay43) (ix2 r l)
      = ∑ t : Fin 512, (inOf x0 x1 x2 x3 x4 x5 (i 1).val).w14 ((1024 * (i 1).val + 512) + t.val) (512 + r.val) l :=
  (payC14 _ _ _ _ _ _ r l).trans ((tileC i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).s14 r l)

theorem ix2_self {R C : ℕ} (y : (⟨2, ![R, C]⟩ : Shape).Idx) : ix2 (y 0) (y 1) = y := by
  funext a; match a with
  | 0 => rfl
  | 1 => rfl

/-- What one point adds to its rows' gradients, and what it leaves for its block of keys. -/
def o8 (X : In) (d : Vec Ideal S4096x128 .f32) : Vec Ideal S4096x128 .f32 :=
  fun y => d y + (∑ s : Fin 1024, X.w8 (y 0).val s.val (y 1)) * c8
def o11 (X : In) (d : Vec Ideal S4096x128 .f32) : Vec Ideal S4096x128 .f32 :=
  fun y => d y + ∑ s : Fin 1024, X.w11 (y 0).val s.val (y 1)
def o13 (X : In) : Vec Ideal S1024x128 .f32 := fun y => ∑ t : Fin 4096, X.w13 t.val (y 0).val (y 1)
def o14 (X : In) : Vec Ideal S1024x128 .f32 := fun y => ∑ t : Fin 4096, X.w14 t.val (y 0).val (y 1)
def o15 (X : In) : Vec Ideal S1024x128 .f32 := fun y => ∑ t : Fin 4096, X.w15 t.val (y 0).val (y 1)

theorem halves (f : ℕ → EReal) : (∑ s : Fin 1024, f s.val) = (∑ s : Fin 512, f (0 + s.val)) + ∑ s : Fin 512, f (512 + s.val) := by
  rw [sum_Ico_fin 512 0 f, sum_Ico_fin 512 512 f, Finset.sum_Ico_consecutive _ (by omega) (by omega)]
  exact (Fin.sum_univ_eq_sum_range f 1024).trans (by rw [Finset.range_eq_Ico])

theorem all_rows (b : ℕ) (hb : b < 4) (f : ℕ → EReal) (hz : ∀ t, t < 1024 * b → f t = 0) :
    (∑ t ∈ Finset.Ico (1024 * b) (1024 * (b + 1)), f t) + (∑ t ∈ Finset.Ico (1024 * (b + 1)) 4096, f t)
      = ∑ t : Fin 4096, f t.val := by
  rw [Finset.sum_Ico_consecutive _ (by omega) (by omega), Fin.sum_univ_eq_sum_range f 4096, Finset.range_eq_Ico,
    ← Finset.sum_Ico_consecutive f (Nat.zero_le (1024 * b)) (by omega : 1024 * b ≤ 4096),
    Finset.sum_eq_zero (s := Finset.Ico 0 (1024 * b)) (fun t ht => hz t (Finset.mem_Ico.mp ht).2), zero_add]

/-- The buffer's contents at the end of a point. -/
theorem final8 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty)
    (L0 : List (View.Piece (Elt Ideal) S4096x128 .f32)) (d : Vec Ideal S4096x128 .f32)
    (wA wB wC : S512x128.Idx → EReal)
    (hL0 : ∀ (t : Fin 4096) (l : Fin 128), arg8.view.read (Elt Ideal) (arg8.view.writes (Elt Ideal) f_arg8 L0) (ix2 t l) = d (ix2 t l))
    (hA : ∀ (r : Fin 512) (l : Fin 128), wA (ix2 r l)
      = arg8.view.readAt (Elt Ideal) (Rect.unit (s := S4096x128) (k0_off1 i) S512x128.size (k0_off1_inb i)).toLoadRect (arg8.view.writes (Elt Ideal) f_arg8 L0) (ix2 r l)
        + (∑ s : Fin 512, (inOf x0 x1 x2 x3 x4 x5 (i 1).val).w8 (1024 * (i 1).val + r.val) (0 + s.val) l) * c8)
    (hB : ∀ (r : Fin 512) (l : Fin 128), wB (ix2 r l)
      = arg8.view.readAt (Elt Ideal) (Rect.unit (s := S4096x128) (k0_off4 i) S512x128.size (k0_off4_inb i)).toLoadRect (arg8.view.writes (Elt Ideal) f_arg8
          (⟨Rect.unit (s := S4096x128) (k0_off1 i) S512x128.size (k0_off1_inb i), wA⟩ :: L0)) (ix2 r l)
        + (∑ s : Fin 512, (inOf x0 x1 x2 x3 x4 x5 (i 1).val).w8 (1024 * (i 1).val + 512 + r.val) (0 + s.val) l) * c8)
    (hC : ∀ (r : Fin 512) (l : Fin 128), wC (ix2 r l)
      = arg8.view.readAt (Elt Ideal) (Rect.unit (s := S4096x128) (k0_off4 i) S512x128.size (k0_off4_inb i)).toLoadRect (arg8.view.writes (Elt Ideal) f_arg8
          (⟨Rect.unit (s := S4096x128) (k0_off4 i) S512x128.size (k0_off4_inb i), wB⟩ ::
            ⟨Rect.unit (s := S4096x128) (k0_off1 i) S512x128.size (k0_off1_inb i), wA⟩ :: L0)) (ix2 r l)
        + (∑ s : Fin 512, (inOf x0 x1 x2 x3 x4 x5 (i 1).val).w8 (1024 * (i 1).val + 512 + r.val) (512 + s.val) l) * c8) :
    arg8.view.read (Elt Ideal) (arg8.view.writes (Elt Ideal) f_arg8 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 (⟨Rect.unit (s := S4096x128) (k0_off4 i) S512x128.size (k0_off4_inb i), wC⟩ :: ⟨Rect.unit (s := S4096x128) (k0_off4 i) S512x128.size (k0_off4_inb i), wB⟩ :: ⟨Rect.unit (s := S4096x128) (k0_off1 i) S512x128.size (k0_off1_inb i), wA⟩ :: L0)) (arg11.view.writes (Elt Ideal) f_arg11 L_arg11) (arg13.view.writes (Elt Ideal) f_arg13 L_arg13) (arg14.view.writes (Elt Ideal) f_arg14 L_arg14) (arg15.view.writes (Elt Ideal) f_arg15 L_arg15) (Scf.trips (k0_t1_loop i).lb (k0_t1_loop i).ub (k0_t1_loop i).st)).1 ++ (⟨Rect.unit (s := S4096x128) (k0_off4 i) S512x128.size (k0_off4_inb i), wC⟩ :: ⟨Rect.unit (s := S4096x128) (k0_off4 i) S512x128.size (k0_off4_inb i), wB⟩ :: ⟨Rect.unit (s := S4096x128) (k0_off1 i) S512x128.size (k0_off1_inb i), wA⟩ :: L0))))
      = o8 (inOf x0 x1 x2 x3 x4 x5 (i 1).val) d := by
  have hg2 : ∀ (t : ℕ) (l : Fin 128), (fun t l => (∑ s : Fin 1024, (inOf x0 x1 x2 x3 x4 x5 (i 1).val).w8 t s.val l) * c8) t l = (fun t l => (∑ s : Fin 512, (inOf x0 x1 x2 x3 x4 x5 (i 1).val).w8 t (0 + s.val) l) * c8) t l + (fun t l => (∑ s : Fin 512, (inOf x0 x1 x2 x3 x4 x5 (i 1).val).w8 t (512 + s.val) l) * c8) t l := fun t l => ((congrArg (· * c8) (halves (fun s => (inOf x0 x1 x2 x3 x4 x5 (i 1).val).w8 t s l))).trans (c8_add _ _))
  have hch := chain_rows arg8.view f_arg8 L0 i (fun t l => ext d t l.val) (fun t l => (∑ s : Fin 1024, (inOf x0 x1 x2 x3 x4 x5 (i 1).val).w8 t s.val l) * c8) (fun t l => (∑ s : Fin 512, (inOf x0 x1 x2 x3 x4 x5 (i 1).val).w8 t (0 + s.val) l) * c8) (fun t l => (∑ s : Fin 512, (inOf x0 x1 x2 x3 x4 x5 (i 1).val).w8 t (512 + s.val) l) * c8)
    (fun t l => (hL0 t l).trans (ext_ix d t l).symm) wA wB wC hA hB hC
    (fun t l h => by
      show (∑ s : Fin 1024, _) * c8 = 0
      rw [Finset.sum_eq_zero (fun s _ => In.w8_zero l (by show t < 1024 * (i 1).val + _; omega)), zero_mul])
    (fun t l h => (hg2 t l).trans (by
      show _ + (∑ s : Fin 512, (inOf x0 x1 x2 x3 x4 x5 (i 1).val).w8 t (512 + s.val) l) * c8 = _
      rw [(Finset.sum_eq_zero (s := Finset.univ) (f := fun s : Fin 512 => (inOf x0 x1 x2 x3 x4 x5 (i 1).val).w8 t (512 + s.val) l) (fun s _ => In.w8_zero l (by show t < 1024 * (i 1).val + _; omega))), zero_mul, add_zero])) hg2
  funext y
  rw [← ix2_self y]
  generalize y 0 = t
  generalize y 1 = l
  refine (after8 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 v351 x0 x1 x2 x3 x4 x5 f_arg8 (⟨Rect.unit (s := S4096x128) (k0_off4 i) S512x128.size (k0_off4_inb i), wC⟩ :: ⟨Rect.unit (s := S4096x128) (k0_off4 i) S512x128.size (k0_off4_inb i), wB⟩ :: ⟨Rect.unit (s := S4096x128) (k0_off1 i) S512x128.size (k0_off1_inb i), wA⟩ :: L0) f_arg11 L_arg11 f_arg13 L_arg13 f_arg14 L_arg14 f_arg15 L_arg15 H_arg8 H_arg11 H_arg13 H_arg14 H_arg15 t l).trans ?_
  have h2 := hch t l
  by_cases h : 1024 * ((i 1).val + 1) ≤ t.val
  · rw [if_pos h]
    refine (congrArg₂ (· + ·) (h2.trans ((if_neg (by omega)).trans (ext_ix d t l))) ?_)
    refine congrArg (fun z => z * c8) (Finset.sum_congr rfl fun s _ => ?_)
    rw [Nat.zero_add]; rfl
  · rw [if_neg h]
    refine h2.trans ((if_pos (by omega)).trans ?_)
    rw [ext_ix d t l]; rfl

/-- The buffer's contents at the end of a point. -/
theorem final11 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty)
    (L0 : List (View.Piece (Elt Ideal) S4096x128 .f32)) (d : Vec Ideal S4096x128 .f32)
    (wA wB wC : S512x128.Idx → EReal)
    (hL0 : ∀ (t : Fin 4096) (l : Fin 128), arg11.view.read (Elt Ideal) (arg11.view.writes (Elt Ideal) f_arg11 L0) (ix2 t l) = d (ix2 t l))
    (hA : ∀ (r : Fin 512) (l : Fin 128), wA (ix2 r l)
      = arg11.view.readAt (Elt Ideal) (Rect.unit (s := S4096x128) (k0_off1 i) S512x128.size (k0_off1_inb i)).toLoadRect (arg11.view.writes (Elt Ideal) f_arg11 L0) (ix2 r l)
        + (∑ s : Fin 512, (inOf x0 x1 x2 x3 x4 x5 (i 1).val).w11 (1024 * (i 1).val + r.val) (0 + s.val) l))
    (hB : ∀ (r : Fin 512) (l : Fin 128), wB (ix2 r l)
      = arg11.view.readAt (Elt Ideal) (Rect.unit (s := S4096x128) (k0_off4 i) S512x128.size (k0_off4_inb i)).toLoadRect (arg11.view.writes (Elt Ideal) f_arg11
          (⟨Rect.unit (s := S4096x128) (k0_off1 i) S512x128.size (k0_off1_inb i), wA⟩ :: L0)) (ix2 r l)
        + (∑ s : Fin 512, (inOf x0 x1 x2 x3 x4 x5 (i 1).val).w11 (1024 * (i 1).val + 512 + r.val) (0 + s.val) l))
    (hC : ∀ (r : Fin 512) (l : Fin 128), wC (ix2 r l)
      = arg11.view.readAt (Elt Ideal) (Rect.unit (s := S4096x128) (k0_off4 i) S512x128.size (k0_off4_inb i)).toLoadRect (arg11.view.writes (Elt Ideal) f_arg11
          (⟨Rect.unit (s := S4096x128) (k0_off4 i) S512x128.size (k0_off4_inb i), wB⟩ ::
            ⟨Rect.unit (s := S4096x128) (k0_off1 i) S512x128.size (k0_off1_inb i), wA⟩ :: L0)) (ix2 r l)
        + (∑ s : Fin 512, (inOf x0 x1 x2 x3 x4 x5 (i 1).val).w11 (1024 * (i 1).val + 512 + r.val) (512 + s.val) l)) :
    arg11.view.read (Elt Ideal) (arg11.view.writes (Elt Ideal) f_arg11 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 (⟨Rect.unit (s := S4096x128) (k0_off4 i) S512x128.size (k0_off4_inb i), wC⟩ :: ⟨Rect.unit (s := S4096x128) (k0_off4 i) S512x128.size (k0_off4_inb i), wB⟩ :: ⟨Rect.unit (s := S4096x128) (k0_off1 i) S512x128.size (k0_off1_inb i), wA⟩ :: L0)) (arg13.view.writes (Elt Ideal) f_arg13 L_arg13) (arg14.view.writes (Elt Ideal) f_arg14 L_arg14) (arg15.view.writes (Elt Ideal) f_arg15 L_arg15) (Scf.trips (k0_t1_loop i).lb (k0_t1_loop i).ub (k0_t1_loop i).st)).2.1 ++ (⟨Rect.unit (s := S4096x128) (k0_off4 i) S512x128.size (k0_off4_inb i), wC⟩ :: ⟨Rect.unit (s := S4096x128) (k0_off4 i) S512x128.size (k0_off4_inb i), wB⟩ :: ⟨Rect.unit (s := S4096x128) (k0_off1 i) S512x128.size (k0_off1_inb i), wA⟩ :: L0))))
      = o11 (inOf x0 x1 x2 x3 x4 x5 (i 1).val) d := by
  have hg2 : ∀ (t : ℕ) (l : Fin 128), (fun t l => (∑ s : Fin 1024, (inOf x0 x1 x2 x3 x4 x5 (i 1).val).w11 t s.val l)) t l = (fun t l => (∑ s : Fin 512, (inOf x0 x1 x2 x3 x4 x5 (i 1).val).w11 t (0 + s.val) l)) t l + (fun t l => (∑ s : Fin 512, (inOf x0 x1 x2 x3 x4 x5 (i 1).val).w11 t (512 + s.val) l)) t l := fun t l => (halves (fun s => (inOf x0 x1 x2 x3 x4 x5 (i 1).val).w11 t s l))
  have hch := chain_rows arg11.view f_arg11 L0 i (fun t l => ext d t l.val) (fun t l => (∑ s : Fin 1024, (inOf x0 x1 x2 x3 x4 x5 (i 1).val).w11 t s.val l)) (fun t l => (∑ s : Fin 512, (inOf x0 x1 x2 x3 x4 x5 (i 1).val).w11 t (0 + s.val) l)) (fun t l => (∑ s : Fin 512, (inOf x0 x1 x2 x3 x4 x5 (i 1).val).w11 t (512 + s.val) l))
    (fun t l => (hL0 t l).trans (ext_ix d t l).symm) wA wB wC hA hB hC
    (fun t l h => Finset.sum_eq_zero (fun s _ => In.w11_zero l (by show t < 1024 * (i 1).val + _; omega)))
    (fun t l h => (hg2 t l).trans (by
      show _ + (∑ s : Fin 512, (inOf x0 x1 x2 x3 x4 x5 (i 1).val).w11 t (512 + s.val) l) = _
      rw [(Finset.sum_eq_zero (s := Finset.univ) (f := fun s : Fin 512 => (inOf x0 x1 x2 x3 x4 x5 (i 1).val).w11 t (512 + s.val) l) (fun s _ => In.w11_zero l (by show t < 1024 * (i 1).val + _; omega))), add_zero])) hg2
  funext y
  rw [← ix2_self y]
  generalize y 0 = t
  generalize y 1 = l
  refine (after11 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 v351 x0 x1 x2 x3 x4 x5 f_arg8 L_arg8 f_arg11 (⟨Rect.unit (s := S4096x128) (k0_off4 i) S512x128.size (k0_off4_inb i), wC⟩ :: ⟨Rect.unit (s := S4096x128) (k0_off4 i) S512x128.size (k0_off4_inb i), wB⟩ :: ⟨Rect.unit (s := S4096x128) (k0_off1 i) S512x128.size (k0_off1_inb i), wA⟩ :: L0) f_arg13 L_arg13 f_arg14 L_arg14 f_arg15 L_arg15 H_arg8 H_arg11 H_arg13 H_arg14 H_arg15 t l).trans ?_
  have h2 := hch t l
  by_cases h : 1024 * ((i 1).val + 1) ≤ t.val
  · rw [if_pos h]
    refine (congrArg₂ (· + ·) (h2.trans ((if_neg (by omega)).trans (ext_ix d t l))) ?_)
    refine congrArg (fun z => z) (Finset.sum_congr rfl fun s _ => ?_)
    rw [Nat.zero_add]; rfl
  · rw [if_neg h]
    refine h2.trans ((if_pos (by omega)).trans ?_)
    rw [ext_ix d t l]; rfl

/-- The buffer's contents at the end of a point. -/
theorem final13 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (f_arg14 : BufTy.Contents (Elt Ideal) arg14.view.ty) (L_arg14 : List (View.Piece (Elt Ideal) S1024x128 .f32)) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty)
    (wA wB wC : S512x128.Idx → EReal) (L0 : List (View.Piece (Elt Ideal) S1024x128 .f32))
    (inb0 inb0' inb0'' : ∀ a : Fin 2, (![0, 0] : Fin 2 → ℕ) a + S512x128.size a ≤ S1024x128.size a)
    (inb1 : ∀ a : Fin 2, (![512, 0] : Fin 2 → ℕ) a + S512x128.size a ≤ S1024x128.size a)
    (hA : ∀ (r : Fin 512) (l : Fin 128), wA (ix2 r l) = ∑ t : Fin 512, (inOf x0 x1 x2 x3 x4 x5 (i 1).val).w13 (1024 * (i 1).val + t.val) (0 + r.val) l)
    (hB : ∀ (r : Fin 512) (l : Fin 128), wB (ix2 r l)
      = arg13.view.readAt (Elt Ideal) (Rect.unit (s := S1024x128) ![0, 0] S512x128.size inb0'').toLoadRect (arg13.view.writes (Elt Ideal) f_arg13
          (⟨Rect.unit (s := S1024x128) ![0, 0] S512x128.size inb0, wA⟩ :: L0)) (ix2 r l)
        + ∑ t : Fin 512, (inOf x0 x1 x2 x3 x4 x5 (i 1).val).w13 (1024 * (i 1).val + 512 + t.val) (0 + r.val) l)
    (hC : ∀ (r : Fin 512) (l : Fin 128), wC (ix2 r l) = ∑ t : Fin 512, (inOf x0 x1 x2 x3 x4 x5 (i 1).val).w13 (1024 * (i 1).val + 512 + t.val) (512 + r.val) l) :
    arg13.view.read (Elt Ideal) (arg13.view.writes (Elt Ideal) f_arg13 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0)) (arg14.view.writes (Elt Ideal) f_arg14 L_arg14) (arg15.view.writes (Elt Ideal) f_arg15 L_arg15) (Scf.trips (k0_t1_loop i).lb (k0_t1_loop i).ub (k0_t1_loop i).st)).2.2.1 ++ (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0))))
      = o13 (inOf x0 x1 x2 x3 x4 x5 (i 1).val) := by
  have hb : (i 1).val < 4 := (i 1).isLt
  funext y
  rw [← ix2_self y]
  generalize y 0 = s
  generalize y 1 = l
  refine (after13 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 v351 x0 x1 x2 x3 x4 x5 f_arg8 L_arg8 f_arg11 L_arg11 f_arg13 (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0) f_arg14 L_arg14 f_arg15 L_arg15 H_arg8 H_arg11 H_arg13 H_arg14 H_arg15 s l).trans ?_
  refine (congrArg (· + _) (chain_keys arg13.view f_arg13 (i 1).val (inOf x0 x1 x2 x3 x4 x5 (i 1).val).w13 (fun t s l h => In.w13_zero l h) wA wB wC L0 hA inb0 inb0' inb0'' inb1 hB hC s l)).trans ?_
  exact all_rows (i 1).val hb (fun t => (inOf x0 x1 x2 x3 x4 x5 (i 1).val).w13 t s.val l) (fun t ht => In.w13_zero l (by show t < 1024 * (i 1).val + _; omega))

/-- The buffer's contents at the end of a point. -/
theorem final14 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (f_arg15 : BufTy.Contents (Elt Ideal) arg15.view.ty) (L_arg15 : List (View.Piece (Elt Ideal) S1024x128 .f32)) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty)
    (wA wB wC : S512x128.Idx → EReal) (L0 : List (View.Piece (Elt Ideal) S1024x128 .f32))
    (inb0 inb0' inb0'' : ∀ a : Fin 2, (![0, 0] : Fin 2 → ℕ) a + S512x128.size a ≤ S1024x128.size a)
    (inb1 : ∀ a : Fin 2, (![512, 0] : Fin 2 → ℕ) a + S512x128.size a ≤ S1024x128.size a)
    (hA : ∀ (r : Fin 512) (l : Fin 128), wA (ix2 r l) = ∑ t : Fin 512, (inOf x0 x1 x2 x3 x4 x5 (i 1).val).w14 (1024 * (i 1).val + t.val) (0 + r.val) l)
    (hB : ∀ (r : Fin 512) (l : Fin 128), wB (ix2 r l)
      = arg14.view.readAt (Elt Ideal) (Rect.unit (s := S1024x128) ![0, 0] S512x128.size inb0'').toLoadRect (arg14.view.writes (Elt Ideal) f_arg14
          (⟨Rect.unit (s := S1024x128) ![0, 0] S512x128.size inb0, wA⟩ :: L0)) (ix2 r l)
        + ∑ t : Fin 512, (inOf x0 x1 x2 x3 x4 x5 (i 1).val).w14 (1024 * (i 1).val + 512 + t.val) (0 + r.val) l)
    (hC : ∀ (r : Fin 512) (l : Fin 128), wC (ix2 r l) = ∑ t : Fin 512, (inOf x0 x1 x2 x3 x4 x5 (i 1).val).w14 (1024 * (i 1).val + 512 + t.val) (512 + r.val) l) :
    arg14.view.read (Elt Ideal) (arg14.view.writes (Elt Ideal) f_arg14 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.2.2.1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 L_arg13) (arg14.view.writes (Elt Ideal) f_arg14 (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0)) (arg15.view.writes (Elt Ideal) f_arg15 L_arg15) (Scf.trips (k0_t1_loop i).lb (k0_t1_loop i).ub (k0_t1_loop i).st)).2.2.2.1 ++ (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0))))
      = o14 (inOf x0 x1 x2 x3 x4 x5 (i 1).val) := by
  have hb : (i 1).val < 4 := (i 1).isLt
  funext y
  rw [← ix2_self y]
  generalize y 0 = s
  generalize y 1 = l
  refine (after14 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 v351 x0 x1 x2 x3 x4 x5 f_arg8 L_arg8 f_arg11 L_arg11 f_arg13 L_arg13 f_arg14 (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0) f_arg15 L_arg15 H_arg8 H_arg11 H_arg13 H_arg14 H_arg15 s l).trans ?_
  refine (congrArg (· + _) (chain_keys arg14.view f_arg14 (i 1).val (inOf x0 x1 x2 x3 x4 x5 (i 1).val).w14 (fun t s l h => In.w14_zero l h) wA wB wC L0 hA inb0 inb0' inb0'' inb1 hB hC s l)).trans ?_
  exact all_rows (i 1).val hb (fun t => (inOf x0 x1 x2 x3 x4 x5 (i 1).val).w14 t s.val l) (fun t ht => In.w14_zero l (by show t < 1024 * (i 1).val + _; omega))

/-- The buffer's contents at the end of a point. -/
theorem final15 (𝒱 : Variants) (c : Dev nD) (bd : Option 𝒱.V) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (v346 v351 : BitVec 32) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (f_arg8 : BufTy.Contents (Elt Ideal) arg8.view.ty) (L_arg8 : List (View.Piece (Elt Ideal) S4096x128 .f32)) (f_arg11 : BufTy.Contents (Elt Ideal) arg11.view.ty) (L_arg11 : List (View.Piece (Elt Ideal) S4096x128 .f32)) (f_arg13 : BufTy.Contents (Elt Ideal) arg13.view.ty) (L_arg13 : List (View.Piece (Elt Ideal) S1024x128 .f32)) (f_arg14 : BufTy.Contents (Elt Ideal) arg14.view.ty) (L_arg14 : List (View.Piece (Elt Ideal) S1024x128 .f32)) (f_arg15 : BufTy.Contents (Elt Ideal) arg15.view.ty) (H_arg8 : BufTy.Contents (Elt Ideal) arg8.view.ty) (H_arg11 : BufTy.Contents (Elt Ideal) arg11.view.ty) (H_arg13 : BufTy.Contents (Elt Ideal) arg13.view.ty) (H_arg14 : BufTy.Contents (Elt Ideal) arg14.view.ty) (H_arg15 : BufTy.Contents (Elt Ideal) arg15.view.ty)
    (wA wB wC : S512x128.Idx → EReal) (L0 : List (View.Piece (Elt Ideal) S1024x128 .f32))
    (inb0 inb0' inb0'' : ∀ a : Fin 2, (![0, 0] : Fin 2 → ℕ) a + S512x128.size a ≤ S1024x128.size a)
    (inb1 : ∀ a : Fin 2, (![512, 0] : Fin 2 → ℕ) a + S512x128.size a ≤ S1024x128.size a)
    (hA : ∀ (r : Fin 512) (l : Fin 128), wA (ix2 r l) = ∑ t : Fin 512, (inOf x0 x1 x2 x3 x4 x5 (i 1).val).w15 (1024 * (i 1).val + t.val) (0 + r.val) l)
    (hB : ∀ (r : Fin 512) (l : Fin 128), wB (ix2 r l)
      = arg15.view.readAt (Elt Ideal) (Rect.unit (s := S1024x128) ![0, 0] S512x128.size inb0'').toLoadRect (arg15.view.writes (Elt Ideal) f_arg15
          (⟨Rect.unit (s := S1024x128) ![0, 0] S512x128.size inb0, wA⟩ :: L0)) (ix2 r l)
        + ∑ t : Fin 512, (inOf x0 x1 x2 x3 x4 x5 (i 1).val).w15 (1024 * (i 1).val + 512 + t.val) (0 + r.val) l)
    (hC : ∀ (r : Fin 512) (l : Fin 128), wC (ix2 r l) = ∑ t : Fin 512, (inOf x0 x1 x2 x3 x4 x5 (i 1).val).w15 (1024 * (i 1).val + 512 + t.val) (512 + r.val) l) :
    arg15.view.read (Elt Ideal) (arg15.view.writes (Elt Ideal) f_arg15 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v351 (harg2.unread x0) (harg3.unread x1) (harg4.unread x2) (harg5.unread x3) (harg6.unread x4) (harg7.unread x5) H_arg8 H_arg11 H_arg13 H_arg14 H_arg15 (Scf.trips (k0_t2_loop i).lb (k0_t2_loop i).ub (k0_t2_loop i).st)).2.2.2.2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_pay43 v346 (harg2.unread x0) (harg3.unread x1) (harg4.unread x2) (harg5.unread x3) (harg6.unread x4) (harg7.unread x5) (arg8.view.writes (Elt Ideal) f_arg8 L_arg8) (arg11.view.writes (Elt Ideal) f_arg11 L_arg11) (arg13.view.writes (Elt Ideal) f_arg13 L_arg13) (arg14.view.writes (Elt Ideal) f_arg14 L_arg14) (arg15.view.writes (Elt Ideal) f_arg15 (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0)) (Scf.trips (k0_t1_loop i).lb (k0_t1_loop i).ub (k0_t1_loop i).st)).2.2.2.2 ++ (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0))))
      = o15 (inOf x0 x1 x2 x3 x4 x5 (i 1).val) := by
  have hb : (i 1).val < 4 := (i 1).isLt
  funext y
  rw [← ix2_self y]
  generalize y 0 = s
  generalize y 1 = l
  refine (after15 𝒱 c bd i arg2 harg2 arg3 harg3 arg4 harg4 arg5 harg5 arg6 harg6 arg7 harg7 arg8 harg8 arg9 harg9 arg10 harg10 arg11 harg11 arg12 harg12 arg13 harg13 arg14 harg14 arg15 harg15 v346 v351 x0 x1 x2 x3 x4 x5 f_arg8 L_arg8 f_arg11 L_arg11 f_arg13 L_arg13 f_arg14 L_arg14 f_arg15 (⟨Rect.unit (s := S1024x128) ![512, 0] S512x128.size inb1, wC⟩ :: ⟨Rect.unit (s := S1024x128) ![0, 0] S512x128.size inb0', wB⟩ :: ⟨Rect.unit (s := S1024x128) ![0, 0] S512x128.size inb0, wA⟩ :: L0) H_arg8 H_arg11 H_arg13 H_arg14 H_arg15 s l).trans ?_
  refine (congrArg (· + _) (chain_keys arg15.view f_arg15 (i 1).val (inOf x0 x1 x2 x3 x4 x5 (i 1).val).w15 (fun t s l h => In.w15_zero l h) wA wB wC L0 hA inb0 inb0' inb0'' inb1 hB hC s l)).trans ?_
  exact all_rows (i 1).val hb (fun t => (inOf x0 x1 x2 x3 x4 x5 (i 1).val).w15 t s.val l) (fun t ht => In.w15_zero l (by show t < 1024 * (i 1).val + _; omega))

end Cert.KernelIdeal.Attn

end
-- ==== Proof.AttnRunA.lean ====
module

public import proofs.«01_k».proof.Proof.AttnStep

/-! One grid point run whole, at the first block of keys of a pair (the row gradients start from zero). -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The branch's condition: the first block of keys. -/
abbrev cond0_0 (i : grid0.Coords) : Prop := (Scalar.cmpi .ne (Scalar.extui (Scalar.cmpi .eq (BitVec.ofNat 32 (i 1).val) 0#32)) 0#32) = 1#1

/-- The key and value gradients as they are stored. -/
def o13b (X : In) : Vec Ideal S1024x128 .bf16 := o13 X
def o14b (X : In) : Vec Ideal S1024x128 .bf16 := o14 X

theorem pay132_id (v : Vec Ideal S1024x128 .f32) (y : S1024x128.Idx) : k0_pay132 v y = v y := by
  simp [k0_pay132, truncf, Ideal.truncf_def]
theorem pay133_id (v : Vec Ideal S1024x128 .f32) (y : S1024x128.Idx) : k0_pay133 v y = v y := by
  simp [k0_pay133, truncf, Ideal.truncf_def]

theorem Ideal_zero : Ideal.ofBits .f32 0x00000000#32 = (0 : EReal) := by
  simp [Ideal.ofBits, Ideal.ieee]

set_option maxHeartbeats 1000000 in
/-- The point's triple. -/
theorem runA (c : Dev nD) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (hc0 : cond0_0 i) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (o8 (inOf x0 x1 x2 x3 x4 x5 (i 1).val) (fun _ => 0)) ∗ owns (c : Thread nD τ) arg9 fullShare (o13b (inOf x0 x1 x2 x3 x4 x5 (i 1).val)) ∗ owns (c : Thread nD τ) arg10 fullShare (o14b (inOf x0 x1 x2 x3 x4 x5 (i 1).val)) ∗ owns (c : Thread nD τ) arg11 fullShare (o11 (inOf x0 x1 x2 x3 x4 x5 (i 1).val) (fun _ => 0)) ∗ owns (c : Thread nD τ) arg12 fullShare (o15 (inOf x0 x1 x2 x3 x4 x5 (i 1).val)) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_attn_bwd_eq_skeleton]; unfold cc0_attn_bwd_skel
    simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine final8 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ (fun _ => 0) _ _ _
        (fun t l => (congrFun (View.read_writes_full _ _ _ _ _) _).trans Ideal_zero)
        (fun r l => stepA8 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepB8 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC8 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
    isplitl [H7]
    · iexists _; isplitr; swap; · iexact H7
      ipureintro
      refine (View.read_writes_full _ _ _ _ _).trans ?_
      refine funext fun y => (pay132_id _ y).trans (congrFun (g := o13 _) ?_ y)
      refine (View.readAt_full _ _ _).trans ?_
      exact final13 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ _ _ _ _ _ _ _
        (fun r l => stepA13 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
        (fun r l => stepB13 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC13 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
    isplitl [H8]
    · iexists _; isplitr; swap; · iexact H8
      ipureintro
      refine (View.read_writes_full _ _ _ _ _).trans ?_
      refine funext fun y => (pay133_id _ y).trans (congrFun (g := o14 _) ?_ y)
      refine (View.readAt_full _ _ _).trans ?_
      exact final14 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ _ _ _ _ _ _ _
        (fun r l => stepA14 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
        (fun r l => stepB14 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC14 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
    isplitl [H9]
    · iexists _; isplitr; swap; · iexact H9
      ipureintro
      refine final11 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ (fun _ => 0) _ _ _
        (fun t l => (congrFun (View.read_writes_full _ _ _ _ _) _).trans Ideal_zero)
        (fun r l => stepA11 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepB11 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC11 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
    isplitl [H10]
    · iexists _; isplitr; swap; · iexact H10
      ipureintro
      refine (View.read_writes_full _ _ _ _ _).trans ?_
      refine (View.readAt_full _ _ _).trans ?_
      exact final15 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ _ _ _ _ _ _ _
        (fun r l => stepA15 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
        (fun r l => stepB15 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC15 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Attn

end
-- ==== Proof.AttnRunB.lean ====
module

public import proofs.«01_k».proof.Proof.AttnRunA

/-! One grid point run whole, at a later block of keys of a pair (the row gradients add to what is there). -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A load of the lower rows is not touched by a store of the upper rows. -/
theorem skip_rows (v : View sig .tc .vmem S4096x128 .f32) (f : BufTy.Contents (Elt Ideal) v.ty) (i : grid0.Coords)
    (wA : S512x128.Idx → EReal) (L : List (View.Piece (Elt Ideal) S4096x128 .f32)) (r : Fin 512) (l : Fin 128) :
    v.readAt (Elt Ideal) (Rect.unit (s := S4096x128) (k0_off4 i) S512x128.size (k0_off4_inb i)).toLoadRect (v.writes (Elt Ideal) f
          (⟨Rect.unit (s := S4096x128) (k0_off1 i) S512x128.size (k0_off1_inb i), wA⟩ :: L)) (ix2 r l)
      = v.readAt (Elt Ideal) (Rect.unit (s := S4096x128) (k0_off4 i) S512x128.size (k0_off4_inb i)).toLoadRect (v.writes (Elt Ideal) f L) (ix2 r l) := by
  have hb : (i 1).val < 4 := (i 1).isLt
  have hr := r.isLt
  have hl := l.isLt
  refine (readAt_ext v _ (k0_off4_inb i) (off4_eq i) r l (by omega) (by omega)).trans ?_
  refine (read_rows v f (k0_off1_inb i) wA L (off1_eq i) _ _ (fun r' h => ?_) (fun _ => rfl)).trans
    (readAt_ext v _ (k0_off4_inb i) (off4_eq i) r l (by omega) (by omega)).symm
  have hr' := r'.isLt
  exact absurd (show 1024 * (i 1).val + r'.val = 1024 * (i 1).val + 512 + r.val from h) (by omega)

/-- A load of rows just stored reads the store, whatever lies beneath. -/
theorem cover_rows (v : View sig .tc .vmem S4096x128 .f32) (f f' : BufTy.Contents (Elt Ideal) v.ty) (i : grid0.Coords)
    (w : S512x128.Idx → EReal) (L L' : List (View.Piece (Elt Ideal) S4096x128 .f32)) (r : Fin 512) (l : Fin 128) :
    v.readAt (Elt Ideal) (Rect.unit (s := S4096x128) (k0_off4 i) S512x128.size (k0_off4_inb i)).toLoadRect (v.writes (Elt Ideal) f
          (⟨Rect.unit (s := S4096x128) (k0_off4 i) S512x128.size (k0_off4_inb i), w⟩ :: L)) (ix2 r l)
      = v.readAt (Elt Ideal) (Rect.unit (s := S4096x128) (k0_off4 i) S512x128.size (k0_off4_inb i)).toLoadRect (v.writes (Elt Ideal) f'
          (⟨Rect.unit (s := S4096x128) (k0_off4 i) S512x128.size (k0_off4_inb i), w⟩ :: L')) (ix2 r l) := by
  have hb : (i 1).val < 4 := (i 1).isLt
  have hr := r.isLt
  have hl := l.isLt
  have key : ∀ (f : BufTy.Contents (Elt Ideal) v.ty) (L : List (View.Piece (Elt Ideal) S4096x128 .f32)),
      v.readAt (Elt Ideal) (Rect.unit (s := S4096x128) (k0_off4 i) S512x128.size (k0_off4_inb i)).toLoadRect (v.writes (Elt Ideal) f
          (⟨Rect.unit (s := S4096x128) (k0_off4 i) S512x128.size (k0_off4_inb i), w⟩ :: L)) (ix2 r l) = w (ix2 r l) := by
    intro f L
    refine (readAt_ext v _ (k0_off4_inb i) (off4_eq i) r l (by omega) (by omega)).trans ?_
    refine read_rows v f (k0_off4_inb i) w L (off4_eq i) _ _ (fun r' h => ?_) (fun h => ?_)
    · have h' : 1024 * (i 1).val + 512 + r'.val = 1024 * (i 1).val + 512 + r.val := h
      exact congrArg w (congrArg₂ ix2 (Fin.ext (by omega)) (Fin.ext (Nat.zero_add _)))
    · have h' : 1024 * (i 1).val + 512 + r.val < 1024 * (i 1).val + 512 ∨ 1024 * (i 1).val + 512 + 512 ≤ 1024 * (i 1).val + 512 + r.val := h
      omega
  rw [key, key]

set_option maxHeartbeats 1000000 in
/-- The point's triple. -/
theorem runB (c : Dev nD) (i : grid0.Coords) (arg2 : Memref sig .tc .vmem S4096x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S4096x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (hc0 : ¬ cond0_0 i) (x0 : Vec Ideal S4096x256 .bf16) (x1 : Vec Ideal S1024x256 .bf16) (x2 : Vec Ideal S1024x256 .bf16) (x3 : Vec Ideal S4096x128 .bf16) (x4 : Vec Ideal S4096x128 .f32) (x5 : Vec Ideal S4096x128 .f32) (d6 d9 : Vec Ideal S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ owns (c : Thread nD τ) arg11 fullShare d9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (o8 (inOf x0 x1 x2 x3 x4 x5 (i 1).val) d6) ∗ owns (c : Thread nD τ) arg9 fullShare (o13b (inOf x0 x1 x2 x3 x4 x5 (i 1).val)) ∗ owns (c : Thread nD τ) arg10 fullShare (o14b (inOf x0 x1 x2 x3 x4 x5 (i 1).val)) ∗ owns (c : Thread nD τ) arg11 fullShare (o11 (inOf x0 x1 x2 x3 x4 x5 (i 1).val) d9) ∗ owns (c : Thread nD τ) arg12 fullShare (o15 (inOf x0 x1 x2 x3 x4 x5 (i 1).val)) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_attn_bwd_eq_skeleton]; unfold cc0_attn_bwd_skel
    simp only [k0_part13_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine final8 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ d6 _ _ _
        (fun t l => congrFun (harg8.read_unread d6) (ix2 t l)) (fun r l => stepA8 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => ?_) (fun r l => ?_)
      · refine (stepB8 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l).trans (congrArg (· + _) ?_)
        exact (skip_rows arg8.view (harg8.unread d6) i _ [] r l).symm
      · refine (stepC8 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l).trans (congrArg (· + _) ?_)
        exact cover_rows _ _ _ i _ _ _ r l
    isplitl [H7]
    · iexists _; isplitr; swap; · iexact H7
      ipureintro
      refine (View.read_writes_full _ _ _ _ _).trans ?_
      refine funext fun y => (pay132_id _ y).trans (congrFun (g := o13 _) ?_ y)
      refine (View.readAt_full _ _ _).trans ?_
      exact final13 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ _ _ _ _ _ _ _
        (fun r l => stepA13 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
        (fun r l => stepB13 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC13 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
    isplitl [H8]
    · iexists _; isplitr; swap; · iexact H8
      ipureintro
      refine (View.read_writes_full _ _ _ _ _).trans ?_
      refine funext fun y => (pay133_id _ y).trans (congrFun (g := o14 _) ?_ y)
      refine (View.readAt_full _ _ _).trans ?_
      exact final14 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ _ _ _ _ _ _ _
        (fun r l => stepA14 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
        (fun r l => stepB14 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC14 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
    isplitl [H9]
    · iexists _; isplitr; swap; · iexact H9
      ipureintro
      refine final11 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ d9 _ _ _
        (fun t l => congrFun (harg11.read_unread d9) (ix2 t l)) (fun r l => stepA11 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => ?_) (fun r l => ?_)
      · refine (stepB11 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l).trans (congrArg (· + _) ?_)
        exact (skip_rows arg11.view (harg11.unread d9) i _ [] r l).symm
      · refine (stepC11 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l).trans (congrArg (· + _) ?_)
        exact cover_rows _ _ _ i _ _ _ r l
    isplitl [H10]
    · iexists _; isplitr; swap; · iexact H10
      ipureintro
      refine (View.read_writes_full _ _ _ _ _).trans ?_
      refine (View.readAt_full _ _ _).trans ?_
      exact final15 Variants.none c none i arg2 harg2 arg3 harg3 arg4 harg4 arg5 harg5 arg6 harg6 arg7 harg7 arg8 harg8 arg9 harg9 arg10 harg10 arg11 harg11 arg12 harg12 arg13 harg13 arg14 harg14 arg15 harg15 _ _ x0 x1 x2 x3 x4 x5 _ _ _ _ _ _ _ _ _ _ _ _ _ _ _ _ _ _ _ _ _ _
        (fun r l => stepA15 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
        (fun r l => stepB15 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 _ r l)
        (fun r l => stepC15 i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 r l)
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Attn

end
-- ==== Proof.AttnData.lean ====
module

public import proofs.«01_k».proof.Proof.AttnRunB
public import proofs.«01_k».proof.Proof.Gen.KernelIdeal.Frame
public import Idealize.ShloMosaic.Lib.Claim

/-! What every buffer of the backward attention call holds point by point, and the run of the whole program. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- Each window's current staging memref at a point, and its wholeness. -/
abbrev ms0_0 (t : Fin cfg0.N) : Memref sig .tc .vmem S4096x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4096x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x128 .f32 := Memref.whole cc0_scratch2

/-- The invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The inputs of point `n`. -/
def ptX (c : Dev nD) (n : ℕ) : In :=
  if h : n < cfg0.N then (fun t : Fin cfg0.N => (inOf (iblk m c 0 t) (iblk m c 1 t) (iblk m c 2 t) (iblk m c 3 t) (iblk m c 4 t) (iblk m c 5 t) (grid0.coords t 1).val)) ⟨n, h⟩
  else ⟨fun _ _ => 0, fun _ _ => 0, fun _ _ => 0, fun _ _ => 0, fun _ _ => 0, fun _ _ => 0, 0⟩

theorem ptX_eq (c : Dev nD) (t : Fin cfg0.N) : ptX m c t.val = (inOf (iblk m c 0 t) (iblk m c 1 t) (iblk m c 2 t) (iblk m c 3 t) (iblk m c 4 t) (iblk m c 5 t) (grid0.coords t 1).val) := by
  unfold ptX; exact dif_pos t.isLt

/-- The row gradients accumulated over a pair's points up to `n`. -/
def acc8 (c : Dev nD) (n : ℕ) : Vec Ideal S4096x128 .f32 :=
  fun y => ∑ j ∈ Finset.range (n % 4 + 1), (∑ s : Fin 1024, (ptX m c (n - n % 4 + j)).w8 (y 0).val s.val (y 1)) * c8
def acc11 (c : Dev nD) (n : ℕ) : Vec Ideal S4096x128 .f32 :=
  fun y => ∑ j ∈ Finset.range (n % 4 + 1), ∑ s : Fin 1024, (ptX m c (n - n % 4 + j)).w11 (y 0).val s.val (y 1)

theorem acc8_first (c : Dev nD) (n : ℕ) (h : n % 4 = 0) : acc8 m c n = o8 (ptX m c n) (fun _ => 0) := by
  funext y
  show ∑ j ∈ Finset.range (n % 4 + 1), _ = (0 : EReal) + _
  rw [h, Finset.sum_range_one, Nat.sub_zero, Nat.add_zero]
  exact (zero_add _).symm

theorem acc8_next (c : Dev nD) (n : ℕ) (h : n % 4 ≠ 0) : acc8 m c n = o8 (ptX m c n) (acc8 m c (n - 1)) := by
  funext y
  show ∑ j ∈ Finset.range (n % 4 + 1), _ = (∑ j ∈ Finset.range ((n - 1) % 4 + 1), _) + _
  have h1 : (n - 1) % 4 + 1 = n % 4 := by omega
  have h2 : n - 1 - (n - 1) % 4 = n - n % 4 := by omega
  have h3 : n - n % 4 + n % 4 = n := by omega
  rw [h1, h2, Finset.sum_range_succ, h3]

theorem acc11_first (c : Dev nD) (n : ℕ) (h : n % 4 = 0) : acc11 m c n = o11 (ptX m c n) (fun _ => 0) := by
  funext y
  show ∑ j ∈ Finset.range (n % 4 + 1), _ = (0 : EReal) + _
  rw [h, Finset.sum_range_one, Nat.sub_zero, Nat.add_zero]
  exact (zero_add _).symm

theorem acc11_next (c : Dev nD) (n : ℕ) (h : n % 4 ≠ 0) : acc11 m c n = o11 (ptX m c n) (acc11 m c (n - 1)) := by
  funext y
  show ∑ j ∈ Finset.range (n % 4 + 1), _ = (∑ j ∈ Finset.range ((n - 1) % 4 + 1), _) + _
  have h1 : (n - 1) % 4 + 1 = n % 4 := by omega
  have h2 : n - 1 - (n - 1) % 4 = n - n % 4 := by omega
  have h3 : n - n % 4 + n % 4 = n := by omega
  rw [h1, h2, Finset.sum_range_succ, h3]

/-- The proof data: what the body leaves in each window's buffer. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc8 m c t.val
    | ⟨7, _⟩ => o13b (ptX m c t.val)
    | ⟨8, _⟩ => o14b (ptX m c t.val)
    | ⟨9, _⟩ => acc11 m c t.val
    | ⟨10, _⟩ => o15 (ptX m c t.val)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = acc8 m c t.val := by dsimp only [dats]
theorem after0_7 (c : Dev nD) (t : Fin cfg0.N) : (dats m 0 c).after 7 t = o13b (ptX m c t.val) := by dsimp only [dats]
theorem after0_8 (c : Dev nD) (t : Fin cfg0.N) : (dats m 0 c).after 8 t = o14b (ptX m c t.val) := by dsimp only [dats]
theorem after0_9 (c : Dev nD) (t : Fin cfg0.N) : (dats m 0 c).after 9 t = acc11 m c t.val := by dsimp only [dats]
theorem after0_10 (c : Dev nD) (t : Fin cfg0.N) : (dats m 0 c).after 10 t = o15 (ptX m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (h : t.val % 4 ≠ 0) (d) : (dats m 0 c).before 6 t d = acc8 m c (t.val - 1) := by
  refine ((dats m 0 c).before_out_kept 6 rfl t (by omega) ?_ (fun _ => rfl) (fun _ _ => rfl) d).trans (after0_6 m c _)
  refine Bool.eq_false_iff.mpr fun hf => ?_
  have := (flush0_6 _).mp hf
  have h' : (t.val - 1) % 4 = 3 := this
  omega
theorem before0_9 (c : Dev nD) (t : Fin cfg0.N) (h : t.val % 4 ≠ 0) (d) : (dats m 0 c).before 9 t d = acc11 m c (t.val - 1) := by
  refine ((dats m 0 c).before_out_kept 9 rfl t (by omega) ?_ (fun _ => rfl) (fun _ _ => rfl) d).trans (after0_9 m c _)
  refine Bool.eq_false_iff.mpr fun hf => ?_
  have := (flush0_9 _).mp hf
  have h' : (t.val - 1) % 4 = 3 := this
  omega

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  by_cases h0 : t.val % 4 = 0
  · rw [acc8_first m c t.val h0, acc11_first m c t.val h0, ptX_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc8_next m c t.val h0, acc11_next m c t.val h0, ptX_eq]
    simp only [before0_6 m c t h0, before0_9 m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (acc8 m c (t.val - 1)) (acc11 m c (t.val - 1))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array at what the proof data compute, and every counter at zero. -/
theorem run_main_quiescent : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnFinal.lean ====
module

public import proofs.«01_k».proof.Proof.AttnData
public import Idealize.ShloMosaic.Lib.Pipeline.ValueKit

/-! The five arrays the backward attention call leaves, entry by entry. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val / 4] ∧ win0_1.index t = ![t.val % 4, t.val / 4]
    ∧ win0_2.index t = ![t.val % 4, t.val / 4] ∧ win0_3.index t = ![0, t.val / 4] ∧ win0_4.index t = ![0, t.val / 4]
    ∧ win0_5.index t = ![0, t.val / 4] ∧ win0_6.index t = ![0, t.val / 4] ∧ win0_7.index t = ![t.val % 4, t.val / 4]
    ∧ win0_8.index t = ![t.val % 4, t.val / 4] ∧ win0_9.index t = ![0, t.val / 4] ∧ win0_10.index t = ![t.val % 4, t.val / 4]
    ∧ t.val / 4 < 4 ∧ (grid0.coords t 1).val = t.val % 4 :=
  (by decide +kernel : ∀ t : Fin grid0.N, _)

theorem flush6 : ∀ t : Fin cfg0.N, (cfg0.win 6).flush t = true → t.val % 4 = 3 :=
  (by decide +kernel : ∀ t : Fin grid0.N, _)
theorem flush9 : ∀ t : Fin cfg0.N, (cfg0.win 9).flush t = true → t.val % 4 = 3 :=
  (by decide +kernel : ∀ t : Fin grid0.N, _)

/-- The query gradient. -/
theorem arr6 (c : Dev nD) : (dats m 0 c).arrAt 6 (cfgs 0).N = fun y : S4096x512.Idx =>
    acc8 m c (4 * ((y 1).val / 128) + 3) (ix2 (⟨(y 0).val, (y 0).isLt⟩ : Fin 4096) (⟨(y 1).val % 128, Nat.mod_lt _ (by norm_num)⟩ : Fin 128)) := by
  refine (dats m 0 c).arrAt_eq_of_covers 6 _ (by decide +kernel) fun t hf y => ?_
  blk_simp
  rw [after0_6]
  have h3 := flush6 t hf
  have hx := idx t
  have hy0 : (y 0).val < 4096 := (y 0).isLt
  have hy1 : (y 1).val < 128 := (y 1).isLt
  have e1 : 4 * ((win0_6.index t 1 * 128 + (y 1).val) / 128) + 3 = t.val := by
    have : win0_6.index t 1 = t.val / 4 := by simp [hx]
    omega
  have e2 : (win0_6.index t 1 * 128 + (y 1).val) % 128 = (y 1).val := by omega
  have e3 : win0_6.index t 0 * 4096 + (y 0).val = (y 0).val := by simp [hx]
  simp only [e1, e2, e3]
  congr 1
  exact eq_ix2 y

/-- The gradient of the query rows' bias lanes. -/
theorem arr9 (c : Dev nD) : (dats m 0 c).arrAt 9 (cfgs 0).N = fun y : S4096x512.Idx =>
    acc11 m c (4 * ((y 1).val / 128) + 3) (ix2 (⟨(y 0).val, (y 0).isLt⟩ : Fin 4096) (⟨(y 1).val % 128, Nat.mod_lt _ (by norm_num)⟩ : Fin 128)) := by
  refine (dats m 0 c).arrAt_eq_of_covers 9 _ (by decide +kernel) fun t hf y => ?_
  blk_simp
  rw [after0_9]
  have h3 := flush9 t hf
  have hx := idx t
  have hy0 : (y 0).val < 4096 := (y 0).isLt
  have hy1 : (y 1).val < 128 := (y 1).isLt
  have e1 : 4 * ((win0_9.index t 1 * 128 + (y 1).val) / 128) + 3 = t.val := by
    have : win0_9.index t 1 = t.val / 4 := by simp [hx]
    omega
  have e2 : (win0_9.index t 1 * 128 + (y 1).val) % 128 = (y 1).val := by omega
  have e3 : win0_9.index t 0 * 4096 + (y 0).val = (y 0).val := by simp [hx]
  simp only [e1, e2, e3]
  congr 1
  exact eq_ix2 y

/-- The key gradient. -/
theorem arr7 (c : Dev nD) : (dats m 0 c).arrAt 7 (cfgs 0).N = fun y : S4096x512.Idx =>
    o13b (ptX m c (4 * ((y 1).val / 128) + (y 0).val / 1024)) (ix2 (⟨(y 0).val % 1024, Nat.mod_lt _ (by norm_num)⟩ : Fin 1024) (⟨(y 1).val % 128, Nat.mod_lt _ (by norm_num)⟩ : Fin 128)) := by
  refine (dats m 0 c).arrAt_eq_of_covers 7 _ (by decide +kernel) fun t hf y => ?_
  blk_simp
  rw [after0_7]
  have hx := idx t
  have hy0 : (y 0).val < 1024 := (y 0).isLt
  have hy1 : (y 1).val < 128 := (y 1).isLt
  have f0 : win0_7.index t 0 = t.val % 4 := by simp [hx]
  have f1 : win0_7.index t 1 = t.val / 4 := by simp [hx]
  have e1 : 4 * ((win0_7.index t 1 * 128 + (y 1).val) / 128) + (win0_7.index t 0 * 1024 + (y 0).val) / 1024 = t.val := by
    omega
  have e2 : (win0_7.index t 1 * 128 + (y 1).val) % 128 = (y 1).val := by omega
  have e3 : (win0_7.index t 0 * 1024 + (y 0).val) % 1024 = (y 0).val := by omega
  simp only [e1, e2, e3]
  congr 1
  exact eq_ix2 y

/-- The value gradient. -/
theorem arr8 (c : Dev nD) : (dats m 0 c).arrAt 8 (cfgs 0).N = fun y : S4096x512.Idx =>
    o14b (ptX m c (4 * ((y 1).val / 128) + (y 0).val / 1024)) (ix2 (⟨(y 0).val % 1024, Nat.mod_lt _ (by norm_num)⟩ : Fin 1024) (⟨(y 1).val % 128, Nat.mod_lt _ (by norm_num)⟩ : Fin 128)) := by
  refine (dats m 0 c).arrAt_eq_of_covers 8 _ (by decide +kernel) fun t hf y => ?_
  blk_simp
  rw [after0_8]
  have hx := idx t
  have hy0 : (y 0).val < 1024 := (y 0).isLt
  have hy1 : (y 1).val < 128 := (y 1).isLt
  have f0 : win0_8.index t 0 = t.val % 4 := by simp [hx]
  have f1 : win0_8.index t 1 = t.val / 4 := by simp [hx]
  have e1 : 4 * ((win0_8.index t 1 * 128 + (y 1).val) / 128) + (win0_8.index t 0 * 1024 + (y 0).val) / 1024 = t.val := by
    omega
  have e2 : (win0_8.index t 1 * 128 + (y 1).val) % 128 = (y 1).val := by omega
  have e3 : (win0_8.index t 0 * 1024 + (y 0).val) % 1024 = (y 0).val := by omega
  simp only [e1, e2, e3]
  congr 1
  exact eq_ix2 y

/-- The gradient of the key rows' bias lanes. -/
theorem arr10 (c : Dev nD) : (dats m 0 c).arrAt 10 (cfgs 0).N = fun y : S4096x512.Idx =>
    o15 (ptX m c (4 * ((y 1).val / 128) + (y 0).val / 1024)) (ix2 (⟨(y 0).val % 1024, Nat.mod_lt _ (by norm_num)⟩ : Fin 1024) (⟨(y 1).val % 128, Nat.mod_lt _ (by norm_num)⟩ : Fin 128)) := by
  refine (dats m 0 c).arrAt_eq_of_covers 10 _ (by decide +kernel) fun t hf y => ?_
  blk_simp
  rw [after0_10]
  have hx := idx t
  have hy0 : (y 0).val < 1024 := (y 0).isLt
  have hy1 : (y 1).val < 128 := (y 1).isLt
  have f0 : win0_10.index t 0 = t.val % 4 := by simp [hx]
  have f1 : win0_10.index t 1 = t.val / 4 := by simp [hx]
  have e1 : 4 * ((win0_10.index t 1 * 128 + (y 1).val) / 128) + (win0_10.index t 0 * 1024 + (y 0).val) / 1024 = t.val := by
    omega
  have e2 : (win0_10.index t 1 * 128 + (y 1).val) % 128 = (y 1).val := by omega
  have e3 : (win0_10.index t 0 * 1024 + (y 0).val) % 1024 = (y 0).val := by omega
  simp only [e1, e2, e3]
  congr 1
  exact eq_ix2 y

end Cert.KernelIdeal.Attn
-- ==== Proof.HostRun.lean ====
module

public import proofs.«01_k».proof.Proof.Gen.KernelIdeal.Frame
public import Idealize.ShloMosaic.Lib.Pipeline.ValueKit
public import Idealize.ShloMosaic.Lib.StableHlo.Run

/-! The operations the host makes before the backward attention call, in stretches. -/

@[expose] public section

set_option maxRecDepth 16384

noncomputable section

namespace Cert.KernelIdeal.Attn

open Cert.KernelIdeal Cert.KernelIdeal.Gen Idealize.ShloMosaic Idealize.ShloMosaic.TcCoe Idealize.SL.Sem Idealize.ShloMosaic.StableHlo

variable {F : FTy → Type} [FloatOps F]

/-- The operations from `main_v0` on. -/
abbrev hostQ : List (HloOp τ sig (Elt F)) :=
  [ StableHlo.unary main_arg3 main_v0 ((transpose S4096x8 [1, 0] · transposes_S8x4096_S4096x8_1_0) : (⟨S8x4096, .f32⟩ : BufTy).Contents (Elt F) → (⟨S4096x8, .f32⟩ : BufTy).Contents (Elt F)),
    StableHlo.reshape main_v0 main_v1 (rfl : (.f32 : EltTy) = .f32) shapeCasts_S4096x8_S4096x8x1,
    StableHlo.unary main_v1 main_v2 ((truncf .bf16 · bitsLt_bf16_f32) : (⟨S4096x8x1, .f32⟩ : BufTy).Contents (Elt F) → (⟨S4096x8x1, .bf16⟩ : BufTy).Contents (Elt F)),
    StableHlo.unary main_v2 main_v3 ((extf .f32 · bitsLt_bf16_f32) : (⟨S4096x8x1, .bf16⟩ : BufTy).Contents (Elt F) → (⟨S4096x8x1, .f32⟩ : BufTy).Contents (Elt F)),
    StableHlo.binary main_v1 main_v3 main_v4 (subf : (⟨S4096x8x1, .f32⟩ : BufTy).Contents (Elt F) → (⟨S4096x8x1, .f32⟩ : BufTy).Contents (Elt F) → (⟨S4096x8x1, .f32⟩ : BufTy).Contents (Elt F)),
    StableHlo.unary main_v4 main_v5 ((truncf .bf16 · bitsLt_bf16_f32) : (⟨S4096x8x1, .f32⟩ : BufTy).Contents (Elt F) → (⟨S4096x8x1, .bf16⟩ : BufTy).Contents (Elt F)),
    StableHlo.unary main_v5 main_v6 ((extf .f32 · bitsLt_bf16_f32) : (⟨S4096x8x1, .bf16⟩ : BufTy).Contents (Elt F) → (⟨S4096x8x1, .f32⟩ : BufTy).Contents (Elt F)),
    StableHlo.binary main_v4 main_v6 main_v7 (subf : (⟨S4096x8x1, .f32⟩ : BufTy).Contents (Elt F) → (⟨S4096x8x1, .f32⟩ : BufTy).Contents (Elt F) → (⟨S4096x8x1, .f32⟩ : BufTy).Contents (Elt F)),
    StableHlo.unary main_v7 main_v8 ((truncf .bf16 · bitsLt_bf16_f32) : (⟨S4096x8x1, .f32⟩ : BufTy).Contents (Elt F) → (⟨S4096x8x1, .bf16⟩ : BufTy).Contents (Elt F)),
    StableHlo.nullary main_cst (constant S_ .bf16 0x3F80#16),
    StableHlo.unary main_cst main_v9 (broadcastInDim S4096x8x1 ![] bcast_S_S4096x8x1 : (⟨S_, .bf16⟩ : BufTy).Contents (Elt F) → (⟨S4096x8x1, .bf16⟩ : BufTy).Contents (Elt F)),
    StableHlo.nullary main_cst_0 (constant S_ .bf16 0x0000#16),
    StableHlo.unary main_cst_0 main_v10 (broadcastInDim S4096x8x64 ![] bcast_S_S4096x8x64 : (⟨S_, .bf16⟩ : BufTy).Contents (Elt F) → (⟨S4096x8x64, .bf16⟩ : BufTy).Contents (Elt F)),
    StableHlo.nullary main_cst_1 (constant S_ .f32 0x3E000000#32),
    StableHlo.unary main_cst_1 main_v11 (broadcastInDim S4096x512 ![] bcast_S_S4096x512 : (⟨S_, .f32⟩ : BufTy).Contents (Elt F) → (⟨S4096x512, .f32⟩ : BufTy).Contents (Elt F)),
    StableHlo.binary main_arg0 main_v11 main_v12 (mulf : (⟨S4096x512, .f32⟩ : BufTy).Contents (Elt F) → (⟨S4096x512, .f32⟩ : BufTy).Contents (Elt F) → (⟨S4096x512, .f32⟩ : BufTy).Contents (Elt F)),
    StableHlo.unary main_v12 main_v13 ((truncf .bf16 · bitsLt_bf16_f32) : (⟨S4096x512, .f32⟩ : BufTy).Contents (Elt F) → (⟨S4096x512, .bf16⟩ : BufTy).Contents (Elt F)),
    StableHlo.nullary main_cst_2 (constant S_ .bf16 0x0000#16),
    StableHlo.unary main_cst_2 main_v14 (broadcastInDim S4096x8x58 ![] bcast_S_S4096x8x58 : (⟨S_, .bf16⟩ : BufTy).Contents (Elt F) → (⟨S4096x8x58, .bf16⟩ : BufTy).Contents (Elt F)),
    StableHlo.nary ![main_v2, main_v5, main_v8, main_v9, main_v9, main_v9, main_v14] main_v15 (fun u => (concatenate S4096x8x64 2 [⟨S4096x8x1, (u 0 : (⟨S4096x8x1, .bf16⟩ : BufTy).Contents (Elt F))⟩, ⟨S4096x8x1, (u 1 : (⟨S4096x8x1, .bf16⟩ : BufTy).Contents (Elt F))⟩, ⟨S4096x8x1, (u 2 : (⟨S4096x8x1, .bf16⟩ : BufTy).Contents (Elt F))⟩, ⟨S4096x8x1, (u 3 : (⟨S4096x8x1, .bf16⟩ : BufTy).Contents (Elt F))⟩, ⟨S4096x8x1, (u 4 : (⟨S4096x8x1, .bf16⟩ : BufTy).Contents (Elt F))⟩, ⟨S4096x8x1, (u 5 : (⟨S4096x8x1, .bf16⟩ : BufTy).Contents (Elt F))⟩, ⟨S4096x8x58, (u 6 : (⟨S4096x8x58, .bf16⟩ : BufTy).Contents (Elt F))⟩] concatenates_S4096x8x1_S4096x8x1_S4096x8x1_S4096x8x1_S4096x8x1_S4096x8x1_S4096x8x58_S4096x8x64_d2 : (⟨S4096x8x64, .bf16⟩ : BufTy).Contents (Elt F))),
    StableHlo.reshape main_v13 main_v16 (rfl : (.bf16 : EltTy) = .bf16) shapeCasts_S4096x512_S4096x4x2x64,
    StableHlo.reshape main_v15 main_v17 (rfl : (.bf16 : EltTy) = .bf16) shapeCasts_S4096x8x64_S4096x4x2x64,
    StableHlo.unary main_v16 main_v18 ((extractStridedSlice S4096x4x1x64 ![0, 0, 0, 0] · slices_S4096x4x2x64_S4096x4x1x64_0_0_0_0) : (⟨S4096x4x2x64, .bf16⟩ : BufTy).Contents (Elt F) → (⟨S4096x4x1x64, .bf16⟩ : BufTy).Contents (Elt F)),
    StableHlo.unary main_v17 main_v19 ((extractStridedSlice S4096x4x1x64 ![0, 0, 0, 0] · slices_S4096x4x2x64_S4096x4x1x64_0_0_0_0) : (⟨S4096x4x2x64, .bf16⟩ : BufTy).Contents (Elt F) → (⟨S4096x4x1x64, .bf16⟩ : BufTy).Contents (Elt F)),
    StableHlo.unary main_v17 main_v20 ((extractStridedSlice S4096x4x1x64 ![0, 0, 1, 0] · slices_S4096x4x2x64_S4096x4x1x64_0_0_1_0) : (⟨S4096x4x2x64, .bf16⟩ : BufTy).Contents (Elt F) → (⟨S4096x4x1x64, .bf16⟩ : BufTy).Contents (Elt F)),
    StableHlo.unary main_v16 main_v21 ((extractStridedSlice S4096x4x1x64 ![0, 0, 1, 0] · slices_S4096x4x2x64_S4096x4x1x64_0_0_1_0) : (⟨S4096x4x2x64, .bf16⟩ : BufTy).Contents (Elt F) → (⟨S4096x4x1x64, .bf16⟩ : BufTy).Contents (Elt F)),
    StableHlo.nary ![main_v18, main_v19, main_v20, main_v21] main_v22 (fun u => (concatenate S4096x4x4x64 2 [⟨S4096x4x1x64, (u 0 : (⟨S4096x4x1x64, .bf16⟩ : BufTy).Contents (Elt F))⟩, ⟨S4096x4x1x64, (u 1 : (⟨S4096x4x1x64, .bf16⟩ : BufTy).Contents (Elt F))⟩, ⟨S4096x4x1x64, (u 2 : (⟨S4096x4x1x64, .bf16⟩ : BufTy).Contents (Elt F))⟩, ⟨S4096x4x1x64, (u 3 : (⟨S4096x4x1x64, .bf16⟩ : BufTy).Contents (Elt F))⟩] concatenates_S4096x4x1x64_S4096x4x1x64_S4096x4x1x64_S4096x4x1x64_S4096x4x4x64_d2 : (⟨S4096x4x4x64, .bf16⟩ : BufTy).Contents (Elt F))),
    StableHlo.reshape main_v22 main_v23 (rfl : (.bf16 : EltTy) = .bf16) shapeCasts_S4096x4x4x64_S4096x1024 ]

/-- What they write. -/
abbrev hostQ_refs : List (Ref sig .tc) := [main_v0, main_v1, main_v2, main_v3, main_v4, main_v5, main_v6, main_v7, main_v8, main_cst, main_v9, main_cst_0, main_v10, main_cst_1, main_v11, main_v12, main_v13, main_cst_2, main_v14, main_v15, main_v16, main_v17, main_v18, main_v19, main_v20, main_v21, main_v22, main_v23]
theorem hostQ_writes : (hostQ : List (HloOp τ sig (Elt F))).Forall fun op => op.writes ⊆ (hostQ_refs.map (Proc.devRef (τ := τ) .tc)).toFinset :=
  forall_writes_sub_of_map rfl
/-- They leave every other reference alone. -/
theorem hostQ_keeps (V : Valuation τ sig (Elt F)) {r : Ref sig .tc} (hr : r ∉ hostQ_refs) : after hostQ V (Proc.devRef .tc r) = V (Proc.devRef .tc r) :=
  after_of_writes_sub hostQ V hostQ_writes hr

/-- The operations from `main_v24` on. -/
abbrev hostK : List (HloOp τ sig (Elt F)) :=
  [ StableHlo.unary main_arg1 main_v24 ((truncf .bf16 · bitsLt_bf16_f32) : (⟨S4096x512, .f32⟩ : BufTy).Contents (Elt F) → (⟨S4096x512, .bf16⟩ : BufTy).Contents (Elt F)),
    StableHlo.unary main_v2 main_v25 (Host.negf : (⟨S4096x8x1, .bf16⟩ : BufTy).Contents (Elt F) → (⟨S4096x8x1, .bf16⟩ : BufTy).Contents (Elt F)),
    StableHlo.unary main_v5 main_v26 (Host.negf : (⟨S4096x8x1, .bf16⟩ : BufTy).Contents (Elt F) → (⟨S4096x8x1, .bf16⟩ : BufTy).Contents (Elt F)),
    StableHlo.unary main_v8 main_v27 (Host.negf : (⟨S4096x8x1, .bf16⟩ : BufTy).Contents (Elt F) → (⟨S4096x8x1, .bf16⟩ : BufTy).Contents (Elt F)),
    StableHlo.nullary main_cst_3 (constant S_ .bf16 0x0000#16),
    StableHlo.unary main_cst_3 main_v28 (broadcastInDim S4096x8x58 ![] bcast_S_S4096x8x58 : (⟨S_, .bf16⟩ : BufTy).Contents (Elt F) → (⟨S4096x8x58, .bf16⟩ : BufTy).Contents (Elt F)),
    StableHlo.nary ![main_v9, main_v9, main_v9, main_v25, main_v26, main_v27, main_v28] main_v29 (fun u => (concatenate S4096x8x64 2 [⟨S4096x8x1, (u 0 : (⟨S4096x8x1, .bf16⟩ : BufTy).Contents (Elt F))⟩, ⟨S4096x8x1, (u 1 : (⟨S4096x8x1, .bf16⟩ : BufTy).Contents (Elt F))⟩, ⟨S4096x8x1, (u 2 : (⟨S4096x8x1, .bf16⟩ : BufTy).Contents (Elt F))⟩, ⟨S4096x8x1, (u 3 : (⟨S4096x8x1, .bf16⟩ : BufTy).Contents (Elt F))⟩, ⟨S4096x8x1, (u 4 : (⟨S4096x8x1, .bf16⟩ : BufTy).Contents (Elt F))⟩, ⟨S4096x8x1, (u 5 : (⟨S4096x8x1, .bf16⟩ : BufTy).Contents (Elt F))⟩, ⟨S4096x8x58, (u 6 : (⟨S4096x8x58, .bf16⟩ : BufTy).Contents (Elt F))⟩] concatenates_S4096x8x1_S4096x8x1_S4096x8x1_S4096x8x1_S4096x8x1_S4096x8x1_S4096x8x58_S4096x8x64_d2 : (⟨S4096x8x64, .bf16⟩ : BufTy).Contents (Elt F))),
    StableHlo.reshape main_v24 main_v30 (rfl : (.bf16 : EltTy) = .bf16) shapeCasts_S4096x512_S4096x4x2x64,
    StableHlo.reshape main_v29 main_v31 (rfl : (.bf16 : EltTy) = .bf16) shapeCasts_S4096x8x64_S4096x4x2x64,
    StableHlo.unary main_v30 main_v32 ((extractStridedSlice S4096x4x1x64 ![0, 0, 0, 0] · slices_S4096x4x2x64_S4096x4x1x64_0_0_0_0) : (⟨S4096x4x2x64, .bf16⟩ : BufTy).Contents (Elt F) → (⟨S4096x4x1x64, .bf16⟩ : BufTy).Contents (Elt F)),
    StableHlo.unary main_v31 main_v33 ((extractStridedSlice S4096x4x1x64 ![0, 0, 0, 0] · slices_S4096x4x2x64_S4096x4x1x64_0_0_0_0) : (⟨S4096x4x2x64, .bf16⟩ : BufTy).Contents (Elt F) → (⟨S4096x4x1x64, .bf16⟩ : BufTy).Contents (Elt F)),
    StableHlo.unary main_v31 main_v34 ((extractStridedSlice S4096x4x1x64 ![0, 0, 1, 0] · slices_S4096x4x2x64_S4096x4x1x64_0_0_1_0) : (⟨S4096x4x2x64, .bf16⟩ : BufTy).Contents (Elt F) → (⟨S4096x4x1x64, .bf16⟩ : BufTy).Contents (Elt F)),
    StableHlo.unary main_v30 main_v35 ((extractStridedSlice S4096x4x1x64 ![0, 0, 1, 0] · slices_S4096x4x2x64_S4096x4x1x64_0_0_1_0) : (⟨S4096x4x2x64, .bf16⟩ : BufTy).Contents (Elt F) → (⟨S4096x4x1x64, .bf16⟩ : BufTy).Contents (Elt F)),
    StableHlo.nary ![main_v32, main_v33, main_v34, main_v35] main_v36 (fun u => (concatenate S4096x4x4x64 2 [⟨S4096x4x1x64, (u 0 : (⟨S4096x4x1x64, .bf16⟩ : BufTy).Contents (Elt F))⟩, ⟨S4096x4x1x64, (u 1 : (⟨S4096x4x1x64, .bf16⟩ : BufTy).Contents (Elt F))⟩, ⟨S4096x4x1x64, (u 2 : (⟨S4096x4x1x64, .bf16⟩ : BufTy).Contents (Elt F))⟩, ⟨S4096x4x1x64, (u 3 : (⟨S4096x4x1x64, .bf16⟩ : BufTy).Contents (Elt F))⟩] concatenates_S4096x4x1x64_S4096x4x1x64_S4096x4x1x64_S4096x4x1x64_S4096x4x4x64_d2 : (⟨S4096x4x4x64, .bf16⟩ : BufTy).Contents (Elt F))),
    StableHlo.reshape main_v36 main_v37 (rfl : (.bf16 : EltTy) = .bf16) shapeCasts_S4096x4x4x64_S4096x1024 ]

/-- What they write. -/
abbrev hostK_refs : List (Ref sig .tc) := [main_v24, main_v25, main_v26, main_v27, main_cst_3, main_v28, main_v29, main_v30, main_v31, main_v32, main_v33, main_v34, main_v35, main_v36, main_v37]
theorem hostK_writes : (hostK : List (HloOp τ sig (Elt F))).Forall fun op => op.writes ⊆ (hostK_refs.map (Proc.devRef (τ := τ) .tc)).toFinset :=
  forall_writes_sub_of_map rfl
/-- They leave every other reference alone. -/
theorem hostK_keeps (V : Valuation τ sig (Elt F)) {r : Ref sig .tc} (hr : r ∉ hostK_refs) : after hostK V (Proc.devRef .tc r) = V (Proc.devRef .tc r) :=
  after_of_writes_sub hostK V hostK_writes hr

/-- The operations from `main_v38` on. -/
abbrev hostV : List (HloOp τ sig (Elt F)) :=
  [ StableHlo.unary main_arg2 main_v38 ((truncf .bf16 · bitsLt_bf16_f32) : (⟨S4096x512, .f32⟩ : BufTy).Contents (Elt F) → (⟨S4096x512, .bf16⟩ : BufTy).Contents (Elt F)),
    StableHlo.reshape main_v38 main_v39 (rfl : (.bf16 : EltTy) = .bf16) shapeCasts_S4096x512_S4096x4x2x64,
    StableHlo.reshape main_v10 main_v40 (rfl : (.bf16 : EltTy) = .bf16) shapeCasts_S4096x8x64_S4096x4x2x64,
    StableHlo.unary main_v39 main_v41 ((extractStridedSlice S4096x4x1x64 ![0, 0, 0, 0] · slices_S4096x4x2x64_S4096x4x1x64_0_0_0_0) : (⟨S4096x4x2x64, .bf16⟩ : BufTy).Contents (Elt F) → (⟨S4096x4x1x64, .bf16⟩ : BufTy).Contents (Elt F)),
    StableHlo.unary main_v40 main_v42 ((extractStridedSlice S4096x4x1x64 ![0, 0, 0, 0] · slices_S4096x4x2x64_S4096x4x1x64_0_0_0_0) : (⟨S4096x4x2x64, .bf16⟩ : BufTy).Contents (Elt F) → (⟨S4096x4x1x64, .bf16⟩ : BufTy).Contents (Elt F)),
    StableHlo.unary main_v40 main_v43 ((extractStridedSlice S4096x4x1x64 ![0, 0, 1, 0] · slices_S4096x4x2x64_S4096x4x1x64_0_0_1_0) : (⟨S4096x4x2x64, .bf16⟩ : BufTy).Contents (Elt F) → (⟨S4096x4x1x64, .bf16⟩ : BufTy).Contents (Elt F)),
    StableHlo.unary main_v39 main_v44 ((extractStridedSlice S4096x4x1x64 ![0, 0, 1, 0] · slices_S4096x4x2x64_S4096x4x1x64_0_0_1_0) : (⟨S4096x4x2x64, .bf16⟩ : BufTy).Contents (Elt F) → (⟨S4096x4x1x64, .bf16⟩ : BufTy).Contents (Elt F)),
    StableHlo.nary ![main_v41, main_v42, main_v43, main_v44] main_v45 (fun u => (concatenate S4096x4x4x64 2 [⟨S4096x4x1x64, (u 0 : (⟨S4096x4x1x64, .bf16⟩ : BufTy).Contents (Elt F))⟩, ⟨S4096x4x1x64, (u 1 : (⟨S4096x4x1x64, .bf16⟩ : BufTy).Contents (Elt F))⟩, ⟨S4096x4x1x64, (u 2 : (⟨S4096x4x1x64, .bf16⟩ : BufTy).Contents (Elt F))⟩, ⟨S4096x4x1x64, (u 3 : (⟨S4096x4x1x64, .bf16⟩ : BufTy).Contents (Elt F))⟩] concatenates_S4096x4x1x64_S4096x4x1x64_S4096x4x1x64_S4096x4x1x64_S4096x4x4x64_d2 : (⟨S4096x4x4x64, .bf16⟩ : BufTy).Contents (Elt F))),
    StableHlo.reshape main_v45 main_v46 (rfl : (.bf16 : EltTy) = .bf16) shapeCasts_S4096x4x4x64_S4096x1024 ]

/-- What they write. -/
abbrev hostV_refs : List (Ref sig .tc) := [main_v38, main_v39, main_v40, main_v41, main_v42, main_v43, main_v44, main_v45, main_v46]
theorem hostV_writes : (hostV : List (HloOp τ sig (Elt F))).Forall fun op => op.writes ⊆ (hostV_refs.map (Proc.devRef (τ := τ) .tc)).toFinset :=
  forall_writes_sub_of_map rfl
/-- They leave every other reference alone. -/
theorem hostV_keeps (V : Valuation τ sig (Elt F)) {r : Ref sig .tc} (hr : r ∉ hostV_refs) : after hostV V (Proc.devRef .tc r) = V (Proc.devRef .tc r) :=
  after_of_writes_sub hostV V hostV_writes hr

/-- The operations from `main_v47` on. -/
abbrev hostS : List (HloOp τ sig (Elt F)) :=
  [ StableHlo.reshape main_arg0 main_v47 (rfl : (.f32 : EltTy) = .f32) shapeCasts_S4096x512_S4096x8x64,
    StableHlo.reshape main_arg1 main_v48 (rfl : (.f32 : EltTy) = .f32) shapeCasts_S4096x512_S4096x8x64,
    StableHlo.binary main_v47 main_v48 main_v49 ((fun l r => Host.dotGeneral dot_S4096x8x64_S4096x8x64_S8x4096x4096_2_2_0_0_1_1 none l r) : (⟨S4096x8x64, .f32⟩ : BufTy).Contents (Elt F) → (⟨S4096x8x64, .f32⟩ : BufTy).Contents (Elt F) → (⟨S8x4096x4096, .f32⟩ : BufTy).Contents (Elt F)),
    StableHlo.nullary main_cst_4 (constant S_ .f32 0x3E000000#32),
    StableHlo.unary main_cst_4 main_v50 (broadcastInDim S8x4096x4096 ![] bcast_S_S8x4096x4096 : (⟨S_, .f32⟩ : BufTy).Contents (Elt F) → (⟨S8x4096x4096, .f32⟩ : BufTy).Contents (Elt F)),
    StableHlo.binary main_v49 main_v50 main_v51 (mulf : (⟨S8x4096x4096, .f32⟩ : BufTy).Contents (Elt F) → (⟨S8x4096x4096, .f32⟩ : BufTy).Contents (Elt F) → (⟨S8x4096x4096, .f32⟩ : BufTy).Contents (Elt F)),
    StableHlo.unary main_arg3 main_v52 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v52 main_v53 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.binary main_v51 main_v53 main_v54 (addf : (⟨S8x4096x4096, .f32⟩ : BufTy).Contents (Elt F) → (⟨S8x4096x4096, .f32⟩ : BufTy).Contents (Elt F) → (⟨S8x4096x4096, .f32⟩ : BufTy).Contents (Elt F)),
    StableHlo.unary main_arg3 main_v55 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v55 main_v56 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    StableHlo.binary main_v54 main_v56 main_v57 (subf : (⟨S8x4096x4096, .f32⟩ : BufTy).Contents (Elt F) → (⟨S8x4096x4096, .f32⟩ : BufTy).Contents (Elt F) → (⟨S8x4096x4096, .f32⟩ : BufTy).Contents (Elt F)),
    StableHlo.nullary main_v58 (iotaInDim S4096 32 0),
    StableHlo.unary main_v58 main_v59 (broadcastInDim S1x4096 ![1] bcast_S4096_S1x4096_1 : (⟨S4096, .i32⟩ : BufTy).Contents (Elt F) → (⟨S1x4096, .i32⟩ : BufTy).Contents (Elt F)),
    StableHlo.unary main_v58 main_v60 (broadcastInDim S4096x1 ![0] bcast_S4096_S4096x1_0 : (⟨S4096, .i32⟩ : BufTy).Contents (Elt F) → (⟨S4096x1, .i32⟩ : BufTy).Contents (Elt F)),
    StableHlo.unary main_v59 main_v61 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v60 main_v62 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v61 main_v62 main_v63 (cmpi .sle : (⟨S4096x4096, .i32⟩ : BufTy).Contents (Elt F) → (⟨S4096x4096, .i32⟩ : BufTy).Contents (Elt F) → (⟨S4096x4096, .i1⟩ : BufTy).Contents (Elt F)),
    StableHlo.nullary main_cst_5 (constant S_ .f32 0xFF800000#32) ]

/-- What they write. -/
abbrev hostS_refs : List (Ref sig .tc) := [main_v47, main_v48, main_v49, main_cst_4, main_v50, main_v51, main_v52, main_v53, main_v54, main_v55, main_v56, main_v57, main_v58, main_v59, main_v60, main_v61, main_v62, main_v63, main_cst_5]
theorem hostS_writes : (hostS : List (HloOp τ sig (Elt F))).Forall fun op => op.writes ⊆ (hostS_refs.map (Proc.devRef (τ := τ) .tc)).toFinset :=
  forall_writes_sub_of_map rfl
/-- They leave every other reference alone. -/
theorem hostS_keeps (V : Valuation τ sig (Elt F)) {r : Ref sig .tc} (hr : r ∉ hostS_refs) : after hostS V (Proc.devRef .tc r) = V (Proc.devRef .tc r) :=
  after_of_writes_sub hostS V hostS_writes hr

/-- The operations from `main_cst_6` on. -/
abbrev hostE : List (HloOp τ sig (Elt F)) :=
  [ StableHlo.nullary main_cst_6 (constant S_ .f32 0xFF800000#32),
    StableHlo.binary main_v64 main_cst_6 main_v65 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.unary main_v65 main_v66 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v66 main_v67 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.binary main_v64 main_v67 main_v68 (subf : (⟨S8x4096x4096, .f32⟩ : BufTy).Contents (Elt F) → (⟨S8x4096x4096, .f32⟩ : BufTy).Contents (Elt F) → (⟨S8x4096x4096, .f32⟩ : BufTy).Contents (Elt F)),
    StableHlo.unary main_v68 main_v69 (Host.exp : (⟨S8x4096x4096, .f32⟩ : BufTy).Contents (Elt F) → (⟨S8x4096x4096, .f32⟩ : BufTy).Contents (Elt F)),
    StableHlo.nullary main_cst_7 (constant S_ .f32 0x00000000#32),
    StableHlo.binary main_v69 main_cst_7 main_v70 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    StableHlo.unary main_v70 main_v71 (broadcastInDim S8x4096x1 ![0, 1] bcast_S8x4096_S8x4096x1_0_1 : (⟨S8x4096, .f32⟩ : BufTy).Contents (Elt F) → (⟨S8x4096x1, .f32⟩ : BufTy).Contents (Elt F)),
    StableHlo.unary main_v71 main_v72 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    StableHlo.binary main_v69 main_v72 main_v73 (Host.divf : (⟨S8x4096x4096, .f32⟩ : BufTy).Contents (Elt F) → (⟨S8x4096x4096, .f32⟩ : BufTy).Contents (Elt F) → (⟨S8x4096x4096, .f32⟩ : BufTy).Contents (Elt F)) ]

/-- What they write. -/
abbrev hostE_refs : List (Ref sig .tc) := [main_cst_6, main_v65, main_v66, main_v67, main_v68, main_v69, main_cst_7, main_v70, main_v71, main_v72, main_v73]
theorem hostE_writes : (hostE : List (HloOp τ sig (Elt F))).Forall fun op => op.writes ⊆ (hostE_refs.map (Proc.devRef (τ := τ) .tc)).toFinset :=
  forall_writes_sub_of_map rfl
/-- They leave every other reference alone. -/
theorem hostE_keeps (V : Valuation τ sig (Elt F)) {r : Ref sig .tc} (hr : r ∉ hostE_refs) : after hostE V (Proc.devRef .tc r) = V (Proc.devRef .tc r) :=
  after_of_writes_sub hostE V hostE_writes hr

/-- The operations from `main_v74` on. -/
abbrev hostO : List (HloOp τ sig (Elt F)) :=
  [ StableHlo.reshape main_arg2 main_v74 (rfl : (.f32 : EltTy) = .f32) shapeCasts_S4096x512_S4096x8x64,
    StableHlo.binary main_v74 main_v73 main_v75 ((fun l r => Host.dotGeneral dot_S4096x8x64_S8x4096x4096_S8x64x4096_0_2_2_1_1_0 none l r) : (⟨S4096x8x64, .f32⟩ : BufTy).Contents (Elt F) → (⟨S8x4096x4096, .f32⟩ : BufTy).Contents (Elt F) → (⟨S8x64x4096, .f32⟩ : BufTy).Contents (Elt F)),
    StableHlo.unary main_v75 main_v76 ((transpose S4096x8x64 [2, 0, 1] · transposes_S8x64x4096_S4096x8x64_2_0_1) : (⟨S8x64x4096, .f32⟩ : BufTy).Contents (Elt F) → (⟨S4096x8x64, .f32⟩ : BufTy).Contents (Elt F)),
    StableHlo.reshape main_v76 main_v77 (rfl : (.f32 : EltTy) = .f32) shapeCasts_S4096x8x64_S4096x512 ]

/-- What they write. -/
abbrev hostO_refs : List (Ref sig .tc) := [main_v74, main_v75, main_v76, main_v77]
theorem hostO_writes : (hostO : List (HloOp τ sig (Elt F))).Forall fun op => op.writes ⊆ (hostO_refs.map (Proc.devRef (τ := τ) .tc)).toFinset :=
  forall_writes_sub_of_map rfl
/-- They leave every other reference alone. -/
theorem hostO_keeps (V : Valuation τ sig (Elt F)) {r : Ref sig .tc} (hr : r ∉ hostO_refs) : after hostO V (Proc.devRef .tc r) = V (Proc.devRef .tc r) :=
  after_of_writes_sub hostO V hostO_writes hr

/-- The operations from `main_v78` on. -/
abbrev hostL : List (HloOp τ sig (Elt F)) :=
  [ StableHlo.unary main_v70 main_v78 (Host.log : (⟨S8x4096, .f32⟩ : BufTy).Contents (Elt F) → (⟨S8x4096, .f32⟩ : BufTy).Contents (Elt F)),
    StableHlo.binary main_v65 main_v78 main_v79 (addf : (⟨S8x4096, .f32⟩ : BufTy).Contents (Elt F) → (⟨S8x4096, .f32⟩ : BufTy).Contents (Elt F) → (⟨S8x4096, .f32⟩ : BufTy).Contents (Elt F)),
    StableHlo.unary main_v79 main_v80 ((transpose S4096x8 [1, 0] · transposes_S8x4096_S4096x8_1_0) : (⟨S8x4096, .f32⟩ : BufTy).Contents (Elt F) → (⟨S4096x8, .f32⟩ : BufTy).Contents (Elt F)),
    StableHlo.reshape main_v80 main_v81 (rfl : (.f32 : EltTy) = .f32) shapeCasts_S4096x8_S4096x8x1,
    StableHlo.unary main_v81 main_v82 (broadcastInDim S4096x8x64 ![0, 1, 2] bcast_S4096x8x1_S4096x8x64_0_1_2 : (⟨S4096x8x1, .f32⟩ : BufTy).Contents (Elt F) → (⟨S4096x8x64, .f32⟩ : BufTy).Contents (Elt F)),
    StableHlo.reshape main_v82 main_v83 (rfl : (.f32 : EltTy) = .f32) shapeCasts_S4096x8x64_S4096x512,
    StableHlo.unary main_arg4 main_v84 ((truncf .bf16 · bitsLt_bf16_f32) : (⟨S4096x512, .f32⟩ : BufTy).Contents (Elt F) → (⟨S4096x512, .bf16⟩ : BufTy).Contents (Elt F)) ]

/-- What they write. -/
abbrev hostL_refs : List (Ref sig .tc) := [main_v78, main_v79, main_v80, main_v81, main_v82, main_v83, main_v84]
theorem hostL_writes : (hostL : List (HloOp τ sig (Elt F))).Forall fun op => op.writes ⊆ (hostL_refs.map (Proc.devRef (τ := τ) .tc)).toFinset :=
  forall_writes_sub_of_map rfl
/-- They leave every other reference alone. -/
theorem hostL_keeps (V : Valuation τ sig (Elt F)) {r : Ref sig .tc} (hr : r ∉ hostL_refs) : after hostL V (Proc.devRef .tc r) = V (Proc.devRef .tc r) :=
  after_of_writes_sub hostL V hostL_writes hr

/-- What they write. -/
abbrev hostW_refs : List (Ref sig .tc) := [main_call0_v0, main_call0_v1, main_call0_v2, main_v64]
theorem hostW_writes : (hostOps0_1 : List (HloOp τ sig (Elt F))).Forall fun op => op.writes ⊆ (hostW_refs.map (Proc.devRef (τ := τ) .tc)).toFinset :=
  forall_writes_sub_of_map rfl
/-- They leave every other reference alone. -/
theorem hostW_keeps (V : Valuation τ sig (Elt F)) {r : Ref sig .tc} (hr : r ∉ hostW_refs) : after hostOps0_1 V (Proc.devRef .tc r) = V (Proc.devRef .tc r) :=
  after_of_writes_sub hostOps0_1 V hostW_writes hr

theorem after_join (l₁ l₂ : List (HloOp τ sig (Elt F))) (V : Valuation τ sig (Elt F)) : after (l₁ ++ l₂) V = after l₂ (after l₁ V) := by
  induction l₁ generalizing V with
  | nil => rfl
  | cons op l ih => exact ih _

theorem host_line : List.flatten [hostOps0, hostOps0_1, hostOps0_2]
    = (hostQ ++ (hostK ++ (hostV ++ (hostS ++ (hostOps0_1 ++ (hostE ++ (hostO ++ hostL)))))) : List (HloOp τ sig (Elt F))) := rfl

/-- What the buffers hold when the call starts. -/
theorem V0_line (m : (ℓ : Loc nD τ sig) → Buf (Elt F) ℓ) (c : Dev nD) : V0 m c
    = after hostL (after hostO (after hostE (after hostOps0_1 (after hostS (after hostV (after hostK (after hostQ fun b => m (c, b)))))))) := by
  show after (List.flatten [hostOps0, hostOps0_1, hostOps0_2]) _ = _
  rw [host_line, after_join, after_join, after_join, after_join, after_join, after_join, after_join]

end Cert.KernelIdeal.Attn

end
-- ==== Proof.AttnReal.lean ====
module

public import Idealize.ShloMosaic.PureOps.Ideal
public import Idealize.ShloMosaic.Lib.Pointwise

/-! The attention and its gradient over the real numbers, and the steps that carry them to extended reals. -/

@[expose] public section

set_option maxRecDepth 16384

noncomputable section

namespace Cert.AttnReal

open Idealize.ShloMosaic

/-- The five arguments as real numbers: query, key, value, the cotangent of the output, the decay. -/
structure Args where
  q : ℕ → ℕ → ℝ
  k : ℕ → ℕ → ℝ
  v : ℕ → ℕ → ℝ
  D : ℕ → ℕ → ℝ
  F : ℕ → ℕ → ℝ

variable (A : Args)

/-- The score of key `u` for query `t` in head `h`. -/
def sc (h t u : ℕ) : ℝ := (∑ d : Fin 64, A.q t (64 * h + d.val) * A.k u (64 * h + d.val)) * (1 / 8) + A.F h t - A.F h u
/-- The score with the keys after the query masked out. -/
def ms (h t u : ℕ) : EReal := if u ≤ t then (sc A h t u : EReal) else ⊥
/-- The softmax's denominator. -/
def Z (h t : ℕ) : ℝ := ∑ u : Fin 4096, if u.val ≤ t then Real.exp (sc A h t u.val) else 0
/-- The attention weight. -/
def P (h t u : ℕ) : ℝ := if u ≤ t then Real.exp (sc A h t u) / Z A h t else 0
/-- The weight's cotangent. -/
def dP (h t u : ℕ) : ℝ := ∑ d : Fin 64, A.D t (64 * h + d.val) * A.v u (64 * h + d.val)
/-- The attention's output. -/
def O (h t d : ℕ) : ℝ := ∑ u : Fin 4096, A.v u.val (64 * h + d) * P A h t u.val
/-- Output times its cotangent, summed over the head. -/
def Δ (h t : ℕ) : ℝ := ∑ d : Fin 64, A.D t (64 * h + d.val) * O A h t d.val
/-- The score's cotangent. -/
def dS (h t u : ℕ) : ℝ := P A h t u * (dP A h t u - Δ A h t)
/-- The gradient of the query. -/
def DQ (h t d : ℕ) : ℝ := ∑ u : Fin 4096, dS A h t u.val * (1 / 8) * A.k u.val (64 * h + d)
/-- The gradient of the key. -/
def DK (h u d : ℕ) : ℝ := ∑ t : Fin 4096, dS A h t.val u * (1 / 8) * A.q t.val (64 * h + d)
/-- The gradient of the value. -/
def DV (h u d : ℕ) : ℝ := ∑ t : Fin 4096, P A h t.val u * A.D t.val (64 * h + d)
/-- The gradient of the decay. -/
def DF (h t : ℕ) : ℝ := (∑ u : Fin 4096, dS A h t u.val) - ∑ u : Fin 4096, dS A h u.val t

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Z_pos (h : ℕ) (t : Fin 4096) : 0 < Z A h t.val := by
  unfold Z
  refine Finset.sum_pos' (fun u _ => ?_) ⟨t, Finset.mem_univ _, ?_⟩
  · split
    · exact (Real.exp_pos _).le
    · exact le_rfl
  · rw [if_pos le_rfl]; exact Real.exp_pos _

theorem ms_of_le {h t u : ℕ} (hu : u ≤ t) : ms A h t u = (sc A h t u : EReal) := if_pos hu
theorem ms_of_not_le {h t u : ℕ} (hu : ¬ u ≤ t) : ms A h t u = ⊥ := if_neg hu

/-- The largest score is a real number. -/
theorem fold_ms (h : ℕ) (t : Fin 4096) : ∃ M : ℝ, Finset.univ.fold max (⊥ : EReal) (fun u : Fin 4096 => ms A h t.val u.val) = (M : EReal) := by
  have key : ∀ s : Finset (Fin 4096), s.fold max (⊥ : EReal) (fun u : Fin 4096 => ms A h t.val u.val) ≠ ⊤ := by
    intro s
    induction s using Finset.induction_on with
    | empty => simp
    | insert a s ha ih =>
      rw [Finset.fold_insert ha]
      intro hmax
      rcases max_choice (ms A h t.val a.val) (s.fold max (⊥ : EReal) (fun u : Fin 4096 => ms A h t.val u.val)) with e | e
      · rw [e] at hmax
        by_cases hu : a.val ≤ t.val
        · rw [ms_of_le A hu] at hmax; exact EReal.coe_ne_top _ hmax
        · rw [ms_of_not_le A hu] at hmax; exact bot_ne_top hmax
      · rw [e] at hmax; exact ih hmax
  have low : (sc A h t.val t.val : EReal) ≤ Finset.univ.fold max (⊥ : EReal) (fun u : Fin 4096 => ms A h t.val u.val) :=
    (Finset.le_fold_max _).mpr (Or.inr ⟨t, Finset.mem_univ _, by rw [ms_of_le A le_rfl]⟩)
  refine ⟨_, (EReal.coe_toReal (key _) ?_).symm⟩
  intro hb
  rw [hb] at low
  exact EReal.coe_ne_bot _ (le_bot_iff.mp low)

/-- The exponential of a masked score less a real number. -/
def E (M : ℝ) (h t u : ℕ) : ℝ := if u ≤ t then Real.exp (sc A h t u - M) else 0

theorem exp_ms (M : ℝ) (h t u : ℕ) : Ideal.exp (ms A h t u - (M : EReal)) = (E A M h t u : EReal) := by
  by_cases hu : u ≤ t
  · rw [ms_of_le A hu, E, if_pos hu, ← EReal.coe_sub, Ideal.exp_coe]
  · rw [ms_of_not_le A hu, E, if_neg hu, EReal.bot_sub]; rfl

theorem E_eq (M : ℝ) (h t u : ℕ) : E A M h t u = (if u ≤ t then Real.exp (sc A h t u) else 0) * Real.exp (-M) := by
  unfold E
  split
  · rw [sub_eq_add_neg, Real.exp_add]
  · rw [zero_mul]

theorem sum_E (M : ℝ) (h t : ℕ) : ∑ u : Fin 4096, (E A M h t u.val : EReal) = ((Z A h t * Real.exp (-M) : ℝ) : EReal) := by
  rw [← coe_sum, Z, Finset.sum_mul]
  simp only [E_eq]

theorem ZM_pos (M : ℝ) (h : ℕ) (t : Fin 4096) : 0 < Z A h t.val * Real.exp (-M) := mul_pos (Z_pos A h t) (Real.exp_pos _)

theorem E_div (M : ℝ) (h : ℕ) (t : Fin 4096) (u : ℕ) : E A M h t.val u / (Z A h t.val * Real.exp (-M)) = P A h t.val u := by
  have hZ := (Z_pos A h t).ne'
  have hM := (Real.exp_pos (-M)).ne'
  rw [E_eq, P]
  split
  · field_simp
  · simp

theorem div_E (M : ℝ) (h : ℕ) (t : Fin 4096) (u : ℕ) :
    Ideal.div (E A M h t.val u : EReal) ((Z A h t.val * Real.exp (-M) : ℝ) : EReal) = (P A h t.val u : EReal) := by
  rw [Ideal.div_coe (ZM_pos A M h t).ne', ← EReal.coe_mul, ← E_div A M h t u, mul_one_div]

theorem lse (M : ℝ) (h : ℕ) (t : Fin 4096) :
    (M : EReal) + Ideal.log ((Z A h t.val * Real.exp (-M) : ℝ) : EReal) = (Real.log (Z A h t.val) : EReal) := by
  rw [Ideal.log_coe, if_neg (not_le.mpr (ZM_pos A M h t)), ← EReal.coe_add, Real.log_mul (Z_pos A h t).ne' (Real.exp_pos _).ne', Real.log_exp]
  congr 1; ring

theorem P_log (h : ℕ) (t : Fin 4096) (u : ℕ) (hu : u ≤ t.val) : Real.exp (sc A h t.val u - Real.log (Z A h t.val)) = P A h t.val u := by
  rw [P, if_pos hu, Real.exp_sub, Real.exp_log (Z_pos A h t)]

/-- The weights times their cotangents sum to the output times its cotangent. -/
theorem sum_P_dP (h t : ℕ) : ∑ u : Fin 4096, P A h t u.val * dP A h t u.val = Δ A h t := by
  unfold Δ O dP
  simp only [Finset.mul_sum]
  rw [Finset.sum_comm]
  refine Finset.sum_congr rfl fun d _ => Finset.sum_congr rfl fun u _ => ?_
  ring

/-- The score's cotangent as the derivative of a quotient gives it. -/
theorem dS_quot (M : ℝ) (h : ℕ) (t : Fin 4096) (u : ℕ) (hu : u ≤ t.val) :
    (dP A h t.val u * (1 / (Z A h t.val * Real.exp (-M)))
      + -(∑ w : Fin 4096, dP A h t.val w.val * (1 * (1 / (Z A h t.val * Real.exp (-M) * (Z A h t.val * Real.exp (-M))))) * E A M h t.val w.val)) * E A M h t.val u
    = dS A h t.val u := by
  have hL := (ZM_pos A M h t).ne'
  have e : ∀ w : ℕ, E A M h t.val w = P A h t.val w * (Z A h t.val * Real.exp (-M)) := fun w => by
    rw [← E_div A M h t w, div_mul_cancel₀ _ hL]
  have s : ∑ w : Fin 4096, dP A h t.val w.val * (1 * (1 / (Z A h t.val * Real.exp (-M) * (Z A h t.val * Real.exp (-M))))) * E A M h t.val w.val
      = Δ A h t.val * (1 / (Z A h t.val * Real.exp (-M))) := by
    rw [← sum_P_dP, Finset.sum_mul]
    refine Finset.sum_congr rfl fun w _ => ?_
    rw [e]
    generalize Z A h t.val * Real.exp (-M) = L at hL
    field_simp
  rw [s, e, dS]
  generalize Z A h t.val * Real.exp (-M) = L at hL
  field_simp
  ring

theorem dS_masked (h t u : ℕ) (hu : ¬ u ≤ t) : dS A h t u = 0 := by
  rw [dS, P, if_neg hu, zero_mul]

end Cert.AttnReal

end
-- ==== Proof.HostIn.lean ====
module

public import proofs.«01_k».proof.Proof.HostRun
public import proofs.«01_k».proof.Proof.AttnReal

/-! The arrays the host prepares for the backward attention call, read entry by entry at real arguments. -/

@[expose] public section

set_option maxRecDepth 16384

noncomputable section

namespace Cert.KernelIdeal.Attn

open Cert.KernelIdeal Cert.KernelIdeal.Gen Cert.AttnReal
open Idealize.ShloMosaic Idealize.ShloMosaic.TcCoe Idealize.SL.Sem Idealize.ShloMosaic.StableHlo

/-- The arguments' arrays hold the real numbers `A`. -/
structure Holds (A : Args) (V : Valuation τ sig (Elt Ideal)) : Prop where
  a0 : (V (Proc.devRef .tc main_arg0) : FVec Ideal S4096x512 .f32) = fun i => (A.q (i 0).val (i 1).val : EReal)
  a1 : (V (Proc.devRef .tc main_arg1) : FVec Ideal S4096x512 .f32) = fun i => (A.k (i 0).val (i 1).val : EReal)
  a2 : (V (Proc.devRef .tc main_arg2) : FVec Ideal S4096x512 .f32) = fun i => (A.v (i 0).val (i 1).val : EReal)
  a3 : (V (Proc.devRef .tc main_arg3) : FVec Ideal S8x4096 .f32) = fun i => (A.F (i 0).val (i 1).val : EReal)
  a4 : (V (Proc.devRef .tc main_arg4) : FVec Ideal S4096x512 .f32) = fun i => (A.D (i 0).val (i 1).val : EReal)

theorem eighth : Ideal.ofBits FTy.f32 1040187392#32 = ((1 / 8 : ℝ) : EReal) := by
  simp [Ideal.ofBits, Ideal.ieee, -EReal.coe_mul]; norm_num

/-- The query's side of the decay's lanes: the decay, two remainders that are zero, three ones. -/
def bq (A : Args) (h t d : ℕ) : ℝ := if d = 0 then A.F h t else if d < 3 then 0 else if d < 6 then 1 else 0
/-- The key's side: three ones, the decay negated, two remainders that are zero. -/
def bk (A : Args) (h t d : ℕ) : ℝ := if d < 3 then 1 else if d = 3 then - A.F h t else 0

theorem hostQ_0 (A : Args) (V : Valuation τ sig (Elt Ideal)) (hA : Holds A V) (t : Fin 4096) (p : Fin 4) (d : Fin 64) :
    (after hostQ V (Proc.devRef .tc main_v23) : FVec Ideal S4096x1024 .bf16) (ix2 t (⟨256 * p.val + d.val, by omega⟩ : Fin 1024)) = ((A.q t.val (64 * (2 * p.val) + d.val) * (1 / 8) : ℝ) : EReal) := by
  have h : (256 * p.val + d.val) / 64 % 4 = 0 := by omega
  after_results_simp
  pointwise [h, hA.a0, hA.a3]
  after_results_simp
  pointwise [h, hA.a0, hA.a3]
  rw [eighth, ← EReal.coe_mul]
  congr 3; omega

theorem hostQ_1 (A : Args) (V : Valuation τ sig (Elt Ideal)) (hA : Holds A V) (t : Fin 4096) (p : Fin 4) (d : Fin 64) :
    (after hostQ V (Proc.devRef .tc main_v23) : FVec Ideal S4096x1024 .bf16) (ix2 t (⟨256 * p.val + 64 + d.val, by omega⟩ : Fin 1024)) = (bq A (2 * p.val) t.val d.val : EReal) := by
  have h : (256 * p.val + 64 + d.val) / 64 % 4 = 1 := by omega
  after_results_simp
  pointwise [h, hA.a0, hA.a3]
  after_results_simp
  pointwise [h, hA.a0, hA.a3]
  after_results_simp
  pointwise [h, hA.a0, hA.a3]
  rw [bq, Nat.mul_comm 2 p.val]
  have e0 : (A.F (p.val * 2) t.val : EReal) - (A.F (p.val * 2) t.val : EReal) = 0 := by rw [← EReal.coe_sub, sub_self, EReal.coe_zero]
  simp only [e0, sub_zero]
  split_ifs <;> first | omega | rfl

theorem hostQ_2 (A : Args) (V : Valuation τ sig (Elt Ideal)) (hA : Holds A V) (t : Fin 4096) (p : Fin 4) (d : Fin 64) :
    (after hostQ V (Proc.devRef .tc main_v23) : FVec Ideal S4096x1024 .bf16) (ix2 t (⟨256 * p.val + 128 + d.val, by omega⟩ : Fin 1024)) = (bq A (2 * p.val + 1) t.val d.val : EReal) := by
  have h : (256 * p.val + 128 + d.val) / 64 % 4 = 2 := by omega
  after_results_simp
  pointwise [h, hA.a0, hA.a3]
  after_results_simp
  pointwise [h, hA.a0, hA.a3]
  after_results_simp
  pointwise [h, hA.a0, hA.a3]
  rw [bq, Nat.mul_comm 2 p.val]
  have e0 : (A.F (p.val * 2 + 1) t.val : EReal) - (A.F (p.val * 2 + 1) t.val : EReal) = 0 := by rw [← EReal.coe_sub, sub_self, EReal.coe_zero]
  simp only [e0, sub_zero]
  split_ifs <;> first | omega | rfl

theorem hostQ_3 (A : Args) (V : Valuation τ sig (Elt Ideal)) (hA : Holds A V) (t : Fin 4096) (p : Fin 4) (d : Fin 64) :
    (after hostQ V (Proc.devRef .tc main_v23) : FVec Ideal S4096x1024 .bf16) (ix2 t (⟨256 * p.val + 192 + d.val, by omega⟩ : Fin 1024)) = ((A.q t.val (64 * (2 * p.val + 1) + d.val) * (1 / 8) : ℝ) : EReal) := by
  have h : (256 * p.val + 192 + d.val) / 64 % 4 = 3 := by omega
  after_results_simp
  pointwise [h, hA.a0, hA.a3]
  after_results_simp
  pointwise [h, hA.a0, hA.a3]
  rw [eighth, ← EReal.coe_mul]
  congr 3; omega

/-- The decay's three parts and the constants that the query's and the key's lanes share. -/
structure Bias (A : Args) (V : Valuation τ sig (Elt Ideal)) : Prop where
  hi : (V (Proc.devRef .tc main_v2) : FVec Ideal S4096x8x1 .bf16) = fun i => (A.F (i 1).val (i 0).val : EReal)
  mid : (V (Proc.devRef .tc main_v5) : FVec Ideal S4096x8x1 .bf16) = fun _ => (0 : EReal)
  lo : (V (Proc.devRef .tc main_v8) : FVec Ideal S4096x8x1 .bf16) = fun _ => (0 : EReal)
  one : (V (Proc.devRef .tc main_v9) : FVec Ideal S4096x8x1 .bf16) = fun _ => (1 : EReal)
  zero : (V (Proc.devRef .tc main_v10) : FVec Ideal S4096x8x64 .bf16) = fun _ => (0 : EReal)

theorem sub_same (x : ℝ) : (x : EReal) - (x : EReal) = 0 := by rw [← EReal.coe_sub, sub_self, EReal.coe_zero]

theorem hostQ_bias (A : Args) (V : Valuation τ sig (Elt Ideal)) (hA : Holds A V) : Bias A (after hostQ V) where
  hi := by
    funext i; obtain ⟨t, h, z, rfl⟩ : ∃ t h z, i = ix3 t h z := ⟨_, _, _, eq_ix3 i⟩
    after_results_simp; pointwise [hA.a3]
  mid := by
    funext i; obtain ⟨t, h, z, rfl⟩ : ∃ t h z, i = ix3 t h z := ⟨_, _, _, eq_ix3 i⟩
    after_results_simp; pointwise [hA.a3, sub_same]
  lo := by
    funext i; obtain ⟨t, h, z, rfl⟩ : ∃ t h z, i = ix3 t h z := ⟨_, _, _, eq_ix3 i⟩
    after_results_simp; pointwise [hA.a3, sub_same]
  one := by
    funext i; obtain ⟨t, h, z, rfl⟩ : ∃ t h z, i = ix3 t h z := ⟨_, _, _, eq_ix3 i⟩
    after_results_simp; pointwise
  zero := by
    funext i; obtain ⟨t, h, z, rfl⟩ : ∃ t h z, i = ix3 t h z := ⟨_, _, _, eq_ix3 i⟩
    after_results_simp; pointwise

theorem hostK_0 (A : Args) (V : Valuation τ sig (Elt Ideal)) (hA : Holds A V) (hB : Bias A V) (t : Fin 4096) (p : Fin 4) (d : Fin 64) :
    (after hostK V (Proc.devRef .tc main_v37) : FVec Ideal S4096x1024 .bf16) (ix2 t (⟨256 * p.val + d.val, by omega⟩ : Fin 1024)) = (A.k t.val (64 * (2 * p.val) + d.val) : EReal) := by
  have h : (256 * p.val + d.val) / 64 % 4 = 0 := by omega
  after_results_simp
  pointwise [h, hA.a1, hB.hi, hB.mid, hB.lo, hB.one]
  after_results_simp
  pointwise [h, hA.a1, hB.hi, hB.mid, hB.lo, hB.one]
  congr 2; omega

theorem hostK_1 (A : Args) (V : Valuation τ sig (Elt Ideal)) (hA : Holds A V) (hB : Bias A V) (t : Fin 4096) (p : Fin 4) (d : Fin 64) :
    (after hostK V (Proc.devRef .tc main_v37) : FVec Ideal S4096x1024 .bf16) (ix2 t (⟨256 * p.val + 64 + d.val, by omega⟩ : Fin 1024)) = (bk A (2 * p.val) t.val d.val : EReal) := by
  have h : (256 * p.val + 64 + d.val) / 64 % 4 = 1 := by omega
  after_results_simp
  pointwise [h, hA.a1, hB.hi, hB.mid, hB.lo, hB.one]
  after_results_simp
  pointwise [h, hA.a1, hB.hi, hB.mid, hB.lo, hB.one]
  after_results_simp
  pointwise [h, hA.a1, hB.hi, hB.mid, hB.lo, hB.one]
  rw [bk, Nat.mul_comm 2 p.val]
  split_ifs <;> first | omega | rfl | simp only [neg_zero, EReal.coe_zero, EReal.coe_neg]

theorem hostK_2 (A : Args) (V : Valuation τ sig (Elt Ideal)) (hA : Holds A V) (hB : Bias A V) (t : Fin 4096) (p : Fin 4) (d : Fin 64) :
    (after hostK V (Proc.devRef .tc main_v37) : FVec Ideal S4096x1024 .bf16) (ix2 t (⟨256 * p.val + 128 + d.val, by omega⟩ : Fin 1024)) = (bk A (2 * p.val + 1) t.val d.val : EReal) := by
  have h : (256 * p.val + 128 + d.val) / 64 % 4 = 2 := by omega
  after_results_simp
  pointwise [h, hA.a1, hB.hi, hB.mid, hB.lo, hB.one]
  after_results_simp
  pointwise [h, hA.a1, hB.hi, hB.mid, hB.lo, hB.one]
  after_results_simp
  pointwise [h, hA.a1, hB.hi, hB.mid, hB.lo, hB.one]
  rw [bk, Nat.mul_comm 2 p.val]
  split_ifs <;> first | omega | rfl | simp only [neg_zero, EReal.coe_zero, EReal.coe_neg]

theorem hostK_3 (A : Args) (V : Valuation τ sig (Elt Ideal)) (hA : Holds A V) (hB : Bias A V) (t : Fin 4096) (p : Fin 4) (d : Fin 64) :
    (after hostK V (Proc.devRef .tc main_v37) : FVec Ideal S4096x1024 .bf16) (ix2 t (⟨256 * p.val + 192 + d.val, by omega⟩ : Fin 1024)) = (A.k t.val (64 * (2 * p.val + 1) + d.val) : EReal) := by
  have h : (256 * p.val + 192 + d.val) / 64 % 4 = 3 := by omega
  after_results_simp
  pointwise [h, hA.a1, hB.hi, hB.mid, hB.lo, hB.one]
  after_results_simp
  pointwise [h, hA.a1, hB.hi, hB.mid, hB.lo, hB.one]
  congr 2; omega

theorem hostV_0 (A : Args) (V : Valuation τ sig (Elt Ideal)) (hA : Holds A V) (hB : Bias A V) (t : Fin 4096) (p : Fin 4) (d : Fin 64) :
    (after hostV V (Proc.devRef .tc main_v46) : FVec Ideal S4096x1024 .bf16) (ix2 t (⟨256 * p.val + d.val, by omega⟩ : Fin 1024)) = (A.v t.val (64 * (2 * p.val) + d.val) : EReal) := by
  have h : (256 * p.val + d.val) / 64 % 4 = 0 := by omega
  after_results_simp
  pointwise [h, hA.a2, hB.zero]
  after_results_simp
  pointwise [h, hA.a2, hB.zero]
  congr 2; omega

theorem hostV_1 (A : Args) (V : Valuation τ sig (Elt Ideal)) (hA : Holds A V) (hB : Bias A V) (t : Fin 4096) (p : Fin 4) (d : Fin 64) :
    (after hostV V (Proc.devRef .tc main_v46) : FVec Ideal S4096x1024 .bf16) (ix2 t (⟨256 * p.val + 64 + d.val, by omega⟩ : Fin 1024)) = ((0 : ℝ) : EReal) := by
  have h : (256 * p.val + 64 + d.val) / 64 % 4 = 1 := by omega
  after_results_simp
  pointwise [h, hA.a2, hB.zero]
  after_results_simp
  pointwise [h, hA.a2, hB.zero]
  rw [EReal.coe_zero]

theorem hostV_2 (A : Args) (V : Valuation τ sig (Elt Ideal)) (hA : Holds A V) (hB : Bias A V) (t : Fin 4096) (p : Fin 4) (d : Fin 64) :
    (after hostV V (Proc.devRef .tc main_v46) : FVec Ideal S4096x1024 .bf16) (ix2 t (⟨256 * p.val + 128 + d.val, by omega⟩ : Fin 1024)) = ((0 : ℝ) : EReal) := by
  have h : (256 * p.val + 128 + d.val) / 64 % 4 = 2 := by omega
  after_results_simp
  pointwise [h, hA.a2, hB.zero]
  after_results_simp
  pointwise [h, hA.a2, hB.zero]
  rw [EReal.coe_zero]

theorem hostV_3 (A : Args) (V : Valuation τ sig (Elt Ideal)) (hA : Holds A V) (hB : Bias A V) (t : Fin 4096) (p : Fin 4) (d : Fin 64) :
    (after hostV V (Proc.devRef .tc main_v46) : FVec Ideal S4096x1024 .bf16) (ix2 t (⟨256 * p.val + 192 + d.val, by omega⟩ : Fin 1024)) = (A.v t.val (64 * (2 * p.val + 1) + d.val) : EReal) := by
  have h : (256 * p.val + 192 + d.val) / 64 % 4 = 3 := by omega
  after_results_simp
  pointwise [h, hA.a2, hB.zero]
  after_results_simp
  pointwise [h, hA.a2, hB.zero]
  congr 2; omega

end Cert.KernelIdeal.Attn

end
-- ==== Proof.AttnValue.lean ====
module

public import proofs.«01_k».proof.Proof.AttnTile
public import proofs.«01_k».proof.Proof.HostIn

/-! One grid point's weights and score gradients, over the real numbers the arguments hold. -/

@[expose] public section

set_option maxRecDepth 16384

noncomputable section

namespace Cert.KernelIdeal.Attn

open Cert.KernelIdeal Cert.KernelIdeal.Gen Cert.AttnReal
open Idealize.ShloMosaic Idealize.ShloMosaic.TcCoe

/-- The point of the pair `p` and the key block `b` reads the arguments `A`. -/
structure Reads (A : Args) (X : In) (p b : ℕ) : Prop where
  q0 : ∀ (t : Fin 4096) (d : Fin 64), X.q t.val d.val = (A.q t.val (64 * (2 * p) + d.val) * (1 / 8) : ℝ)
  q1 : ∀ (t : Fin 4096) (d : Fin 64), X.q t.val (64 + d.val) = (bq A (2 * p) t.val d.val : ℝ)
  q2 : ∀ (t : Fin 4096) (d : Fin 64), X.q t.val (128 + d.val) = (bq A (2 * p + 1) t.val d.val : ℝ)
  q3 : ∀ (t : Fin 4096) (d : Fin 64), X.q t.val (128 + (64 + d.val)) = (A.q t.val (64 * (2 * p + 1) + d.val) * (1 / 8) : ℝ)
  k0 : ∀ (s : Fin 1024) (d : Fin 64), X.k s.val d.val = (A.k (1024 * b + s.val) (64 * (2 * p) + d.val) : ℝ)
  k1 : ∀ (s : Fin 1024) (d : Fin 64), X.k s.val (64 + d.val) = (bk A (2 * p) (1024 * b + s.val) d.val : ℝ)
  k2 : ∀ (s : Fin 1024) (d : Fin 64), X.k s.val (128 + d.val) = (bk A (2 * p + 1) (1024 * b + s.val) d.val : ℝ)
  k3 : ∀ (s : Fin 1024) (d : Fin 64), X.k s.val (128 + (64 + d.val)) = (A.k (1024 * b + s.val) (64 * (2 * p + 1) + d.val) : ℝ)
  v0 : ∀ (s : Fin 1024) (d : Fin 64), X.v s.val d.val = (A.v (1024 * b + s.val) (64 * (2 * p) + d.val) : ℝ)
  v1 : ∀ (s : Fin 1024) (d : Fin 64), X.v s.val (64 + d.val) = ((0 : ℝ) : EReal)
  v2 : ∀ (s : Fin 1024) (d : Fin 64), X.v s.val (128 + d.val) = ((0 : ℝ) : EReal)
  v3 : ∀ (s : Fin 1024) (d : Fin 64), X.v s.val (128 + (64 + d.val)) = (A.v (1024 * b + s.val) (64 * (2 * p + 1) + d.val) : ℝ)
  D0 : ∀ (t : Fin 4096) (d : Fin 64), X.D t.val d.val = (A.D t.val (64 * (2 * p) + d.val) : ℝ)
  D1 : ∀ (t : Fin 4096) (d : Fin 64), X.D t.val (64 + d.val) = (A.D t.val (64 * (2 * p + 1) + d.val) : ℝ)
  O0 : ∀ (t : Fin 4096) (d : Fin 64), X.O t.val d.val = (O A (2 * p) t.val d.val : ℝ)
  O1 : ∀ (t : Fin 4096) (d : Fin 64), X.O t.val (64 + d.val) = (O A (2 * p + 1) t.val d.val : ℝ)
  L0 : ∀ (t : Fin 4096), X.L t.val 0 = (Real.log (Z A (2 * p) t.val) : ℝ)
  L1 : ∀ (t : Fin 4096), X.L t.val 64 = (Real.log (Z A (2 * p + 1) t.val) : ℝ)
  b : X.b = b

theorem two_halves (f : ℕ → EReal) : (∑ d : Fin 128, f d.val) = (∑ d : Fin 64, f d.val) + ∑ d : Fin 64, f (64 + d.val) :=
  Fin.sum_univ_add (a := 64) (b := 64) (fun d : Fin (64 + 64) => f d.val)

theorem bias_dot (A : Args) (h t u : ℕ) : ∑ d : Fin 64, bq A h t d.val * bk A h u d.val = A.F h t - A.F h u := by
  have e : ∀ d : Fin 64, bq A h t d.val * bk A h u d.val = (if d = 0 then A.F h t else 0) + (if d = 3 then - A.F h u else 0) := by
    intro d
    have e0 : (d = 0) ↔ d.val = 0 := Fin.ext_iff
    have e3 : (d = 3) ↔ d.val = 3 := Fin.ext_iff
    simp only [e0, e3, bq, bk]
    split_ifs <;> first | omega | simp
  simp only [e]
  rw [Finset.sum_add_distrib, Finset.sum_ite_eq' Finset.univ (0 : Fin 64), Finset.sum_ite_eq' Finset.univ (3 : Fin 64),
    if_pos (Finset.mem_univ _), if_pos (Finset.mem_univ _), sub_eq_add_neg]

namespace Reads

variable {A : Args} {X : In} {p b : ℕ} (hX : Reads A X p b)

/-- The head of a half. -/
def head (p : ℕ) (first : Bool) : ℕ := if first = true then 2 * p else 2 * p + 1

include hX

theorem score (first : Bool) (t : Fin 4096) (s : Fin 1024) :
    (∑ d : Fin 128, X.q t.val (col0 first + d.val) * X.k s.val (col0 first + d.val)) = (sc A (head p first) t.val (1024 * b + s.val) : EReal) := by
  rw [two_halves (fun d => X.q t.val (col0 first + d) * X.k s.val (col0 first + d))]
  cases first with
  | true =>
    simp only [col0, if_true, Nat.zero_add, hX.q0, hX.k0, hX.q1, hX.k1, head, ← EReal.coe_mul, ← coe_sum, ← EReal.coe_add, bias_dot]
    rw [sc, Finset.sum_mul, add_sub_assoc]
    congr 2
    exact Finset.sum_congr rfl fun d _ => by ring
  | false =>
    simp only [col0, Bool.false_eq_true, if_false, hX.q2, hX.k2, hX.q3, hX.k3, head, ← EReal.coe_mul, ← coe_sum, ← EReal.coe_add, bias_dot]
    rw [sc, Finset.sum_mul, add_sub_assoc, add_comm]
    congr 2
    exact Finset.sum_congr rfl fun d _ => by ring

theorem lse0 (first : Bool) (t : Fin 4096) : X.L t.val (lane0 first).val = (Real.log (Z A (head p first) t.val) : EReal) := by
  cases first with
  | true => exact hX.L0 t
  | false => exact hX.L1 t

theorem p_eq (first : Bool) (t : Fin 4096) (s : Fin 1024) : X.p first t.val s.val = (P A (head p first) t.val (1024 * b + s.val) : EReal) := by
  unfold In.p
  rw [hX.b]
  by_cases hu : 1024 * b + s.val ≤ t.val
  · rw [if_pos hu, hX.score, hX.lse0, ← EReal.coe_sub, Ideal.exp_coe, P_log A _ t _ hu]
  · rw [if_neg hu, P, if_neg hu, EReal.coe_zero]

theorem dP_eq (first : Bool) (t : Fin 4096) (s : Fin 1024) :
    (∑ d : Fin 128, X.D t.val d.val * X.v s.val (col0 first + d.val)) = (AttnReal.dP A (head p first) t.val (1024 * b + s.val) : EReal) := by
  rw [two_halves (fun d => X.D t.val d * X.v s.val (col0 first + d))]
  cases first with
  | true =>
    simp only [col0, if_true, Nat.zero_add, hX.D0, hX.v0, hX.D1, hX.v1, head, ← EReal.coe_mul, ← coe_sum, ← EReal.coe_add, mul_zero, Finset.sum_const_zero, add_zero]
    rfl
  | false =>
    simp only [col0, Bool.false_eq_true, if_false, hX.D0, hX.v2, hX.D1, hX.v3, head, ← EReal.coe_mul, ← coe_sum, ← EReal.coe_add, mul_zero, Finset.sum_const_zero, zero_add]
    rfl

theorem Δ_eq (first : Bool) (t : Fin 4096) :
    (∑ d : Fin 128, if first = true then pick d (X.D t.val d.val * X.O t.val d.val) 0 else pick d 0 (X.D t.val d.val * X.O t.val d.val)) = (Δ A (head p first) t.val : EReal) := by
  have e := two_halves (fun d => if first = true then (if d < 64 then X.D t.val d * X.O t.val d else 0) else (if d < 64 then 0 else X.D t.val d * X.O t.val d))
  refine Eq.trans e ?_
  have h1 : ∀ d : Fin 64, d.val < 64 := fun d => d.isLt
  have h2 : ∀ d : Fin 64, ¬ 64 + d.val < 64 := fun d => by omega
  cases first with
  | true =>
    simp only [if_true, h1, h2, if_false, hX.D0, hX.O0, head, ← EReal.coe_mul, ← coe_sum, Finset.sum_const_zero, add_zero]
    rfl
  | false =>
    simp only [Bool.false_eq_true, if_true, h1, h2, if_false, hX.D1, hX.O1, head, ← EReal.coe_mul, ← coe_sum, Finset.sum_const_zero, zero_add]
    rfl

theorem d_eq (first : Bool) (t : Fin 4096) (s : Fin 1024) : X.d first t.val s.val = (AttnReal.dS A (head p first) t.val (1024 * b + s.val) : EReal) := by
  unfold In.d
  rw [hX.p_eq, hX.dP_eq, hX.Δ_eq, ← EReal.coe_sub, ← EReal.coe_mul]
  rfl

omit hX in
theorem lanes (l : Fin 128) (R : Fin 128 → Prop) (h0 : ∀ d : Fin 64, R ⟨d.val, by omega⟩) (h1 : ∀ d : Fin 64, R ⟨64 + d.val, by omega⟩) : R l := by
  by_cases h : l.val < 64
  · exact h0 ⟨l.val, h⟩
  · have e := h1 ⟨l.val - 64, by omega⟩
    have e2 : (⟨64 + (l.val - 64), by omega⟩ : Fin 128) = l := Fin.ext (by show 64 + (l.val - 64) = l.val; omega)
    exact e2 ▸ e

omit hX in
theorem pick_lo (d : Fin 64) (a b : EReal) : pick ⟨d.val, by omega⟩ a b = a := if_pos d.isLt
omit hX in
theorem pick_hi (d : Fin 64) (a b : EReal) : pick ⟨64 + d.val, by omega⟩ a b = b := if_neg (by show ¬ 64 + d.val < 64; omega)

omit hX in
theorem head_lo (p : ℕ) (d : Fin 64) : 2 * p + d.val / 64 = 2 * p := by omega
omit hX in
theorem head_hi (p : ℕ) (d : Fin 64) : 2 * p + (64 + d.val) / 64 = 2 * p + 1 := by omega
omit hX in
theorem lane_lo (p : ℕ) (d : Fin 64) : 128 * p + d.val = 64 * (2 * p) + d.val := by omega
omit hX in
theorem lane_hi (p : ℕ) (d : Fin 64) : 128 * p + (64 + d.val) = 64 * (2 * p + 1) + d.val := by omega

theorem w8_eq (t : Fin 4096) (s : Fin 1024) (l : Fin 128) :
    X.w8 t.val s.val l = (AttnReal.dS A (2 * p + l.val / 64) t.val (1024 * b + s.val) * A.k (1024 * b + s.val) (128 * p + l.val) : ℝ) := by
  refine lanes l (fun l => X.w8 t.val s.val l = (AttnReal.dS A (2 * p + l.val / 64) t.val (1024 * b + s.val) * A.k (1024 * b + s.val) (128 * p + l.val) : ℝ)) (fun d => ?_) fun d => ?_
  · rw [In.w8, pick_lo, hX.d_eq, hX.k0, head_lo, lane_lo, ← EReal.coe_mul]; rfl
  · rw [In.w8, pick_hi, hX.d_eq, hX.k3, head_hi, lane_hi, ← EReal.coe_mul]; rfl

theorem w13_eq (t : Fin 4096) (s : Fin 1024) (l : Fin 128) :
    X.w13 t.val s.val l = (AttnReal.dS A (2 * p + l.val / 64) t.val (1024 * b + s.val) * (A.q t.val (128 * p + l.val) * (1 / 8)) : ℝ) := by
  refine lanes l (fun l => X.w13 t.val s.val l = (AttnReal.dS A (2 * p + l.val / 64) t.val (1024 * b + s.val) * (A.q t.val (128 * p + l.val) * (1 / 8)) : ℝ)) (fun d => ?_) fun d => ?_
  · rw [In.w13, pick_lo, hX.d_eq, hX.q0, head_lo, lane_lo, ← EReal.coe_mul]; rfl
  · rw [In.w13, pick_hi, hX.d_eq, hX.q3, head_hi, lane_hi, ← EReal.coe_mul]; rfl

theorem w14_eq (t : Fin 4096) (s : Fin 1024) (l : Fin 128) :
    X.w14 t.val s.val l = (P A (2 * p + l.val / 64) t.val (1024 * b + s.val) * A.D t.val (128 * p + l.val) : ℝ) := by
  refine lanes l (fun l => X.w14 t.val s.val l = (P A (2 * p + l.val / 64) t.val (1024 * b + s.val) * A.D t.val (128 * p + l.val) : ℝ)) (fun d => ?_) fun d => ?_
  · rw [In.w14, pick_lo, hX.p_eq, hX.D0, head_lo, lane_lo, ← EReal.coe_mul]; rfl
  · rw [In.w14, pick_hi, hX.p_eq, hX.D1, head_hi, lane_hi, ← EReal.coe_mul]; rfl

/-- The lanes the decay's gradient is read from. -/
theorem w11_64 (t : Fin 4096) (s : Fin 1024) : X.w11 t.val s.val 64 = (AttnReal.dS A (2 * p) t.val (1024 * b + s.val) : ℝ) := by
  have e : X.k s.val (64 : Fin 128).val = ((1 : ℝ) : EReal) := hX.k1 s 0
  show X.d true t.val s.val * X.k s.val (64 : Fin 128).val = _
  rw [e, hX.d_eq, ← EReal.coe_mul, mul_one]; rfl
theorem w11_0 (t : Fin 4096) (s : Fin 1024) : X.w11 t.val s.val 0 = (AttnReal.dS A (2 * p + 1) t.val (1024 * b + s.val) : ℝ) := by
  have e : X.k s.val (128 + (0 : Fin 128).val) = ((1 : ℝ) : EReal) := hX.k2 s 0
  show X.d false t.val s.val * X.k s.val (128 + (0 : Fin 128).val) = _
  rw [e, hX.d_eq, ← EReal.coe_mul, mul_one]; rfl
theorem w15_67 (t : Fin 4096) (s : Fin 1024) : X.w15 t.val s.val 67 = (AttnReal.dS A (2 * p) t.val (1024 * b + s.val) : ℝ) := by
  have e : X.q t.val (67 : Fin 128).val = ((1 : ℝ) : EReal) := hX.q1 t 3
  show X.d true t.val s.val * X.q t.val (67 : Fin 128).val = _
  rw [e, hX.d_eq, ← EReal.coe_mul, mul_one]; rfl
theorem w15_3 (t : Fin 4096) (s : Fin 1024) : X.w15 t.val s.val 3 = (AttnReal.dS A (2 * p + 1) t.val (1024 * b + s.val) : ℝ) := by
  have e : X.q t.val (128 + (3 : Fin 128).val) = ((1 : ℝ) : EReal) := hX.q2 t 3
  show X.d false t.val s.val * X.q t.val (128 + (3 : Fin 128).val) = _
  rw [e, hX.d_eq, ← EReal.coe_mul, mul_one]; rfl

end Reads

/-- Four blocks of 1024 make the 4096 keys. -/
theorem four_blocks (f : ℕ → ℝ) : ∑ u : Fin 4096, f u.val = ∑ j ∈ Finset.range 4, ∑ s : Fin 1024, f (1024 * j + s.val) := by
  rw [Finset.sum_range (fun u => f u) |>.symm]
  have e : ∀ j, ∑ s : Fin 1024, f (1024 * j + s.val) = ∑ s ∈ Finset.range 1024, f (1024 * j + s) := fun j => (Finset.sum_range (fun s => f (1024 * j + s))).symm
  simp only [e]
  have e4 : ∀ g : ℕ → ℝ, ∑ j ∈ Finset.range 4, g j = g 0 + g 1 + g 2 + g 3 := fun g => by simp only [Finset.sum_range_succ, Finset.sum_range_zero, zero_add]
  rw [e4, show 4096 = 1024 * 3 + 1024 from rfl, Finset.sum_range_add, show 1024 * 3 = 1024 * 2 + 1024 from rfl, Finset.sum_range_add,
    show 1024 * 2 = 1024 * 1 + 1024 from rfl, Finset.sum_range_add]
  simp only [Nat.mul_zero, Nat.zero_add, Nat.mul_one]

end Cert.KernelIdeal.Attn

end
-- ==== Proof.HostAttn.lean ====
module

public import proofs.«01_k».proof.Proof.HostIn

/-! The attention's forward lines on the host: the masked scores, the weights, the output and the logarithm of the denominator. -/

@[expose] public section

set_option maxRecDepth 16384

noncomputable section

namespace Cert.KernelIdeal.Attn

open Cert.KernelIdeal Cert.KernelIdeal.Gen Cert.AttnReal
open Idealize.ShloMosaic Idealize.ShloMosaic.TcCoe Idealize.SL.Sem Idealize.ShloMosaic.StableHlo

theorem neg_inf : Ideal.ofBits FTy.f32 4286578688#32 = ⊥ := by
  simp [Ideal.ofBits, Ideal.ieee]

theorem O_coe (A : Args) (h t d : ℕ) : (O A h t d : EReal) = ∑ u : Fin 4096, (A.v u.val (64 * h + d) : EReal) * (P A h t u.val : EReal) := by
  rw [O, coe_sum]
  simp only [EReal.coe_mul]

theorem hostS_score (A : Args) (V : Valuation τ sig (Elt Ideal)) (hA : Holds A V) :
    (after hostS V (Proc.devRef .tc main_v57) : FVec Ideal S8x4096x4096 .f32) = fun i => (sc A (i 0).val (i 1).val (i 2).val : EReal) := by
  funext i; obtain ⟨h, t, u, rfl⟩ : ∃ h t u, i = ix3 h t u := ⟨_, _, _, eq_ix3 i⟩
  after_results_simp
  pointwise [hA.a0, hA.a1, hA.a3]
  rw [eighth, sc, EReal.coe_sub, EReal.coe_add, EReal.coe_mul, coe_sum]
  simp only [EReal.coe_mul, Nat.mul_comm 64]

theorem hostS_mask (V : Valuation τ sig (Elt Ideal)) :
    (after hostS V (Proc.devRef .tc main_v63) : IVec S4096x4096 1) = fun i => if (i 1).val ≤ (i 0).val then 1#1 else 0#1 := by
  funext i; obtain ⟨t, u, rfl⟩ : ∃ t u, i = ix2 t u := ⟨_, _, eq_ix2 i⟩
  after_results_simp
  pointwise
  rw [WordCmp.cmpi_sle_ofNat (by omega) (by omega), WordCmp.ofBool_decide_eq_ite]
  rfl

theorem hostS_bot (V : Valuation τ sig (Elt Ideal)) :
    (after hostS V (Proc.devRef .tc main_cst_5) : FVec Ideal S_ .f32) = fun _ => (⊥ : EReal) := by
  funext i
  after_results_simp
  pointwise
  exact neg_inf

theorem hostW_ms (A : Args) (V : Valuation τ sig (Elt Ideal))
    (h57 : (V (Proc.devRef .tc main_v57) : FVec Ideal S8x4096x4096 .f32) = fun i => (sc A (i 0).val (i 1).val (i 2).val : EReal))
    (h63 : (V (Proc.devRef .tc main_v63) : IVec S4096x4096 1) = fun i => if (i 1).val ≤ (i 0).val then 1#1 else 0#1)
    (h5 : (V (Proc.devRef .tc main_cst_5) : FVec Ideal S_ .f32) = fun _ => (⊥ : EReal)) :
    (after hostOps0_1 V (Proc.devRef .tc main_v64) : FVec Ideal S8x4096x4096 .f32) = fun i => ms A (i 0).val (i 1).val (i 2).val := by
  funext i; obtain ⟨h, t, u, rfl⟩ : ∃ h t u, i = ix3 h t u := ⟨_, _, _, eq_ix3 i⟩
  after_results_simp
  pointwise [h57, h63, h5]
  simp only [TRef.ofBuf_toBuf, TRef.ofBuf, TRef.toBuf, cast_eq, id]
  pointwise
  by_cases hu : u.val ≤ t.val
  · rw [if_pos hu, ms_of_le A hu]; rfl
  · rw [if_neg hu, ms_of_not_le A hu]; rfl

theorem hostE_max (A : Args) (V : Valuation τ sig (Elt Ideal))
    (h64 : (V (Proc.devRef .tc main_v64) : FVec Ideal S8x4096x4096 .f32) = fun i => ms A (i 0).val (i 1).val (i 2).val) (h : Fin 8) (t : Fin 4096) :
    (after hostE V (Proc.devRef .tc main_v65) : FVec Ideal S8x4096 .f32) (ix2 h t) = Finset.univ.fold max (⊥ : EReal) (fun u : Fin 4096 => ms A h.val t.val u.val) := by
  after_results_simp
  pointwise [h64]
  rw [neg_inf]

theorem hostE_sum (A : Args) (V : Valuation τ sig (Elt Ideal))
    (h64 : (V (Proc.devRef .tc main_v64) : FVec Ideal S8x4096x4096 .f32) = fun i => ms A (i 0).val (i 1).val (i 2).val) (h : Fin 8) (t : Fin 4096) (M : ℝ)
    (hM : Finset.univ.fold max (⊥ : EReal) (fun u : Fin 4096 => ms A h.val t.val u.val) = (M : EReal)) :
    (after hostE V (Proc.devRef .tc main_v70) : FVec Ideal S8x4096 .f32) (ix2 h t) = ((Z A h.val t.val * Real.exp (-M) : ℝ) : EReal) := by
  after_results_simp
  pointwise [h64]
  rw [neg_inf, hM]
  simp only [exp_ms]
  exact sum_E A M h.val t.val

theorem hostE_P (A : Args) (V : Valuation τ sig (Elt Ideal))
    (h64 : (V (Proc.devRef .tc main_v64) : FVec Ideal S8x4096x4096 .f32) = fun i => ms A (i 0).val (i 1).val (i 2).val) (h : Fin 8) (t u : Fin 4096) :
    (after hostE V (Proc.devRef .tc main_v73) : FVec Ideal S8x4096x4096 .f32) (ix3 h t u) = (P A h.val t.val u.val : EReal) := by
  obtain ⟨M, hM⟩ := fold_ms A h.val t
  after_results_simp
  pointwise [h64]
  rw [neg_inf, hM]
  simp only [exp_ms]
  rw [sum_E A M h.val t.val]
  exact div_E A M h.val t u.val

theorem hostO_O (A : Args) (V : Valuation τ sig (Elt Ideal)) (hA : Holds A V)
    (h73 : (V (Proc.devRef .tc main_v73) : FVec Ideal S8x4096x4096 .f32) = fun i => (P A (i 0).val (i 1).val (i 2).val : EReal)) (t : Fin 4096) (l : Fin 512) :
    (after hostO V (Proc.devRef .tc main_v77) : FVec Ideal S4096x512 .f32) (ix2 t l) = (O A (l.val / 64) t.val (l.val % 64) : EReal) := by
  after_results_simp
  pointwise [h73, hA.a2]
  have e := O_coe A (l.val / 64) t.val (l.val % 64)
  rw [Nat.mul_comm 64] at e
  exact e.symm

theorem hostL_lse (A : Args) (V : Valuation τ sig (Elt Ideal)) (M : Fin 8 → Fin 4096 → ℝ)
    (h65 : (V (Proc.devRef .tc main_v65) : FVec Ideal S8x4096 .f32) = fun i => (M (i 0) (i 1) : EReal))
    (h70 : (V (Proc.devRef .tc main_v70) : FVec Ideal S8x4096 .f32) = fun i => ((Z A (i 0).val (i 1).val * Real.exp (-(M (i 0) (i 1))) : ℝ) : EReal)) (t : Fin 4096) (l : Fin 512) :
    (after hostL V (Proc.devRef .tc main_v83) : FVec Ideal S4096x512 .f32) (ix2 t l) = (Real.log (Z A (l.val / 64) t.val) : EReal) := by
  after_results_simp
  pointwise [h65, h70]
  exact lse A _ (l.val / 64) t

theorem hostL_D (A : Args) (V : Valuation τ sig (Elt Ideal)) (hA : Holds A V) (t : Fin 4096) (l : Fin 512) :
    (after hostL V (Proc.devRef .tc main_v84) : FVec Ideal S4096x512 .bf16) (ix2 t l) = (A.D t.val l.val : EReal) := by
  after_results_simp
  pointwise [hA.a4]

end Cert.KernelIdeal.Attn

end
-- ==== Proof.HostVals.lean ====
module

public import proofs.«01_k».proof.Proof.HostAttn

/-! What the backward attention call's six operands hold when it starts. -/

@[expose] public section

set_option maxRecDepth 16384

noncomputable section

namespace Cert.KernelIdeal.Attn

open Cert.KernelIdeal Cert.KernelIdeal.Gen Cert.AttnReal
open Idealize.ShloMosaic Idealize.ShloMosaic.TcCoe Idealize.SL.Sem Idealize.ShloMosaic.StableHlo

variable {A : Args}

theorem Holds.of_eq {V W : Valuation τ sig (Elt Ideal)} (hA : Holds A V)
    (e0 : W (Proc.devRef .tc main_arg0) = V (Proc.devRef .tc main_arg0)) (e1 : W (Proc.devRef .tc main_arg1) = V (Proc.devRef .tc main_arg1))
    (e2 : W (Proc.devRef .tc main_arg2) = V (Proc.devRef .tc main_arg2)) (e3 : W (Proc.devRef .tc main_arg3) = V (Proc.devRef .tc main_arg3))
    (e4 : W (Proc.devRef .tc main_arg4) = V (Proc.devRef .tc main_arg4)) : Holds A W :=
  ⟨e0.trans hA.a0, e1.trans hA.a1, e2.trans hA.a2, e3.trans hA.a3, e4.trans hA.a4⟩

section Keeps

variable {V : Valuation τ sig (Elt Ideal)} (hA : Holds A V)

include hA

theorem Holds.hQ : Holds A (after hostQ V) := hA.of_eq (hostQ_keeps V (by decide)) (hostQ_keeps V (by decide)) (hostQ_keeps V (by decide)) (hostQ_keeps V (by decide)) (hostQ_keeps V (by decide))
theorem Holds.hK : Holds A (after hostK V) := hA.of_eq (hostK_keeps V (by decide)) (hostK_keeps V (by decide)) (hostK_keeps V (by decide)) (hostK_keeps V (by decide)) (hostK_keeps V (by decide))
theorem Holds.hV : Holds A (after hostV V) := hA.of_eq (hostV_keeps V (by decide)) (hostV_keeps V (by decide)) (hostV_keeps V (by decide)) (hostV_keeps V (by decide)) (hostV_keeps V (by decide))
theorem Holds.hS : Holds A (after hostS V) := hA.of_eq (hostS_keeps V (by decide)) (hostS_keeps V (by decide)) (hostS_keeps V (by decide)) (hostS_keeps V (by decide)) (hostS_keeps V (by decide))
theorem Holds.hW : Holds A (after hostOps0_1 V) := hA.of_eq (hostW_keeps V (by decide)) (hostW_keeps V (by decide)) (hostW_keeps V (by decide)) (hostW_keeps V (by decide)) (hostW_keeps V (by decide))
theorem Holds.hE : Holds A (after hostE V) := hA.of_eq (hostE_keeps V (by decide)) (hostE_keeps V (by decide)) (hostE_keeps V (by decide)) (hostE_keeps V (by decide)) (hostE_keeps V (by decide))
theorem Holds.hO : Holds A (after hostO V) := hA.of_eq (hostO_keeps V (by decide)) (hostO_keeps V (by decide)) (hostO_keeps V (by decide)) (hostO_keeps V (by decide)) (hostO_keeps V (by decide))
omit hA in
theorem Bias.hK (hB : Bias A V) : Bias A (after hostK V) :=
  ⟨(hostK_keeps V (by decide)).trans hB.hi, (hostK_keeps V (by decide)).trans hB.mid, (hostK_keeps V (by decide)).trans hB.lo,
    (hostK_keeps V (by decide)).trans hB.one, (hostK_keeps V (by decide)).trans hB.zero⟩

end Keeps

variable (m : (ℓ : Loc nD τ sig) → Buf (Elt Ideal) ℓ) (c : Dev nD)

theorem v23_line : V0 m c (Proc.devRef .tc main_v23) = after hostQ (fun b => m (c, b)) (Proc.devRef .tc main_v23) := by
  rw [V0_line, hostL_keeps _ (by decide), hostO_keeps _ (by decide), hostE_keeps _ (by decide), hostW_keeps _ (by decide), hostS_keeps _ (by decide), hostV_keeps _ (by decide), hostK_keeps _ (by decide)]
theorem v37_line : V0 m c (Proc.devRef .tc main_v37) = after hostK (after hostQ (fun b => m (c, b))) (Proc.devRef .tc main_v37) := by
  rw [V0_line, hostL_keeps _ (by decide), hostO_keeps _ (by decide), hostE_keeps _ (by decide), hostW_keeps _ (by decide), hostS_keeps _ (by decide), hostV_keeps _ (by decide)]
theorem v46_line : V0 m c (Proc.devRef .tc main_v46) = after hostV (after hostK (after hostQ (fun b => m (c, b)))) (Proc.devRef .tc main_v46) := by
  rw [V0_line, hostL_keeps _ (by decide), hostO_keeps _ (by decide), hostE_keeps _ (by decide), hostW_keeps _ (by decide), hostS_keeps _ (by decide)]

/-- The state after the layouts are made. -/
abbrev VS : Valuation τ sig (Elt Ideal) := after hostV (after hostK (after hostQ (fun b => m (c, b))))

variable (hm : Holds A (fun b => m (c, b)))

include hm

theorem VS_holds : Holds A (VS m c) := hm.hQ.hK.hV

theorem v64_val : (after hostOps0_1 (after hostS (VS m c)) (Proc.devRef .tc main_v64) : FVec Ideal S8x4096x4096 .f32) = fun i => ms A (i 0).val (i 1).val (i 2).val :=
  hostW_ms A _ (hostS_score A _ (VS_holds m c hm)) (hostS_mask _) (hostS_bot _)

/-- The state after the weights are made. -/
abbrev VE : Valuation τ sig (Elt Ideal) := after hostE (after hostOps0_1 (after hostS (VS m c)))

theorem v73_val : (VE m c (Proc.devRef .tc main_v73) : FVec Ideal S8x4096x4096 .f32) = fun i => (P A (i 0).val (i 1).val (i 2).val : EReal) := by
  funext i; obtain ⟨h, t, u, rfl⟩ : ∃ h t u, i = ix3 h t u := ⟨_, _, _, eq_ix3 i⟩
  exact hostE_P A _ (v64_val m c hm) h t u

theorem v77_val (t : Fin 4096) (l : Fin 512) : (V0 m c (Proc.devRef .tc main_v77) : FVec Ideal S4096x512 .f32) (ix2 t l) = (O A (l.val / 64) t.val (l.val % 64) : EReal) := by
  have e : V0 m c (Proc.devRef .tc main_v77) = after hostO (VE m c) (Proc.devRef .tc main_v77) := by rw [V0_line, hostL_keeps _ (by decide)]
  rw [e]
  exact hostO_O A _ (VS_holds m c hm).hS.hW.hE (v73_val m c hm) t l

/-- The rows' largest scores. -/
def top (A : Args) (h : Fin 8) (t : Fin 4096) : ℝ := (fold_ms A h.val t).choose
omit hm in
theorem top_spec (A : Args) (h : Fin 8) (t : Fin 4096) : Finset.univ.fold max (⊥ : EReal) (fun u : Fin 4096 => ms A h.val t.val u.val) = (top A h t : EReal) :=
  (fold_ms A h.val t).choose_spec

theorem v83_val (t : Fin 4096) (l : Fin 512) : (V0 m c (Proc.devRef .tc main_v83) : FVec Ideal S4096x512 .f32) (ix2 t l) = (Real.log (Z A (l.val / 64) t.val) : EReal) := by
  rw [V0_line]
  refine hostL_lse A _ (top A) ?_ ?_ t l
  · rw [hostO_keeps _ (by decide)]
    funext i; obtain ⟨h, t, rfl⟩ : ∃ h t, i = ix2 h t := ⟨_, _, eq_ix2 i⟩
    exact (hostE_max A _ (v64_val m c hm) h t).trans (top_spec A h t)
  · rw [hostO_keeps _ (by decide)]
    funext i; obtain ⟨h, t, rfl⟩ : ∃ h t, i = ix2 h t := ⟨_, _, eq_ix2 i⟩
    exact hostE_sum A _ (v64_val m c hm) h t _ (top_spec A h t)

theorem v84_val (t : Fin 4096) (l : Fin 512) : (V0 m c (Proc.devRef .tc main_v84) : FVec Ideal S4096x512 .bf16) (ix2 t l) = (A.D t.val l.val : EReal) := by
  rw [V0_line]
  exact hostL_D A _ (VS_holds m c hm).hS.hW.hE.hO t l

end Cert.KernelIdeal.Attn

end
-- ==== Proof.AttnOut.lean ====
module

public import proofs.«01_k».proof.Proof.AttnFinal
public import proofs.«01_k».proof.Proof.AttnValue
public import proofs.«01_k».proof.Proof.HostVals

/-! The arrays of the backward attention call as the gradients over the real numbers. -/

@[expose] public section

set_option maxRecDepth 16384

noncomputable section

namespace Cert.KernelIdeal.Attn

open Cert.KernelIdeal Cert.KernelIdeal.Gen Cert.AttnReal
open Idealize.ShloMosaic Idealize.ShloMosaic.TcCoe Idealize.SL.Sem Idealize.ShloMosaic.StableHlo

section Blocks

variable (m : (ℓ : Loc nD τ sig) → Buf (Elt Ideal) ℓ) (c : Dev nD) (t : Fin cfg0.N)

theorem pair_lt : t.val / 4 < 4 := (idx t).2.2.2.2.2.2.2.2.2.2.2.1

theorem rd0 (W : FVec Ideal S4096x1024 .bf16) (r : Fin 4096) (d : Fin 256) : (((cfg0.win 0).blk t).view.read (Elt Ideal) W : S4096x256.Idx → EReal) (ix2 r d)
    = W (ix2 r (⟨256 * (t.val / 4) + d.val, by have := pair_lt t; omega⟩ : Fin 1024)) := by
  have hx := idx t
  blk_ext [hx]
theorem blk0 (r : Fin 4096) (d : Fin 256) : (iblk m c 0 t : S4096x256.Idx → EReal) (ix2 r d)
    = (V0 m c (Proc.devRef .tc main_v23) : FVec Ideal S4096x1024 .bf16) (ix2 r (⟨256 * (t.val / 4) + d.val, by have := pair_lt t; omega⟩ : Fin 1024)) :=
  rd0 t (V0 m c (Proc.devRef .tc main_v23)) r d
theorem rd1 (W : FVec Ideal S4096x1024 .bf16) (r : Fin 1024) (d : Fin 256) : (((cfg0.win 1).blk t).view.read (Elt Ideal) W : S1024x256.Idx → EReal) (ix2 r d)
    = W (ix2 (⟨1024 * (t.val % 4) + r.val, by omega⟩ : Fin 4096) (⟨256 * (t.val / 4) + d.val, by have := pair_lt t; omega⟩ : Fin 1024)) := by
  have hx := idx t
  blk_ext [hx]
theorem blk1 (r : Fin 1024) (d : Fin 256) : (iblk m c 1 t : S1024x256.Idx → EReal) (ix2 r d)
    = (V0 m c (Proc.devRef .tc main_v37) : FVec Ideal S4096x1024 .bf16) (ix2 (⟨1024 * (t.val % 4) + r.val, by omega⟩ : Fin 4096) (⟨256 * (t.val / 4) + d.val, by have := pair_lt t; omega⟩ : Fin 1024)) :=
  rd1 t (V0 m c (Proc.devRef .tc main_v37)) r d
theorem rd2 (W : FVec Ideal S4096x1024 .bf16) (r : Fin 1024) (d : Fin 256) : (((cfg0.win 2).blk t).view.read (Elt Ideal) W : S1024x256.Idx → EReal) (ix2 r d)
    = W (ix2 (⟨1024 * (t.val % 4) + r.val, by omega⟩ : Fin 4096) (⟨256 * (t.val / 4) + d.val, by have := pair_lt t; omega⟩ : Fin 1024)) := by
  have hx := idx t
  blk_ext [hx]
theorem blk2 (r : Fin 1024) (d : Fin 256) : (iblk m c 2 t : S1024x256.Idx → EReal) (ix2 r d)
    = (V0 m c (Proc.devRef .tc main_v46) : FVec Ideal S4096x1024 .bf16) (ix2 (⟨1024 * (t.val % 4) + r.val, by omega⟩ : Fin 4096) (⟨256 * (t.val / 4) + d.val, by have := pair_lt t; omega⟩ : Fin 1024)) :=
  rd2 t (V0 m c (Proc.devRef .tc main_v46)) r d
theorem rd3 (W : FVec Ideal S4096x512 .bf16) (r : Fin 4096) (d : Fin 128) : (((cfg0.win 3).blk t).view.read (Elt Ideal) W : S4096x128.Idx → EReal) (ix2 r d)
    = W (ix2 r (⟨128 * (t.val / 4) + d.val, by have := pair_lt t; omega⟩ : Fin 512)) := by
  have hx := idx t
  blk_ext [hx]
theorem blk3 (r : Fin 4096) (d : Fin 128) : (iblk m c 3 t : S4096x128.Idx → EReal) (ix2 r d)
    = (V0 m c (Proc.devRef .tc main_v84) : FVec Ideal S4096x512 .bf16) (ix2 r (⟨128 * (t.val / 4) + d.val, by have := pair_lt t; omega⟩ : Fin 512)) :=
  rd3 t (V0 m c (Proc.devRef .tc main_v84)) r d
theorem rd4 (W : FVec Ideal S4096x512 .f32) (r : Fin 4096) (d : Fin 128) : (((cfg0.win 4).blk t).view.read (Elt Ideal) W : S4096x128.Idx → EReal) (ix2 r d)
    = W (ix2 r (⟨128 * (t.val / 4) + d.val, by have := pair_lt t; omega⟩ : Fin 512)) := by
  have hx := idx t
  blk_ext [hx]
theorem blk4 (r : Fin 4096) (d : Fin 128) : (iblk m c 4 t : S4096x128.Idx → EReal) (ix2 r d)
    = (V0 m c (Proc.devRef .tc main_v77) : FVec Ideal S4096x512 .f32) (ix2 r (⟨128 * (t.val / 4) + d.val, by have := pair_lt t; omega⟩ : Fin 512)) :=
  rd4 t (V0 m c (Proc.devRef .tc main_v77)) r d
theorem rd5 (W : FVec Ideal S4096x512 .f32) (r : Fin 4096) (d : Fin 128) : (((cfg0.win 5).blk t).view.read (Elt Ideal) W : S4096x128.Idx → EReal) (ix2 r d)
    = W (ix2 r (⟨128 * (t.val / 4) + d.val, by have := pair_lt t; omega⟩ : Fin 512)) := by
  have hx := idx t
  blk_ext [hx]
theorem blk5 (r : Fin 4096) (d : Fin 128) : (iblk m c 5 t : S4096x128.Idx → EReal) (ix2 r d)
    = (V0 m c (Proc.devRef .tc main_v83) : FVec Ideal S4096x512 .f32) (ix2 r (⟨128 * (t.val / 4) + d.val, by have := pair_lt t; omega⟩ : Fin 512)) :=
  rd5 t (V0 m c (Proc.devRef .tc main_v83)) r d

end Blocks

end Cert.KernelIdeal.Attn

end
-- ==== Proof.AttnGrad.lean ====
module

public import proofs.«01_k».proof.Proof.AttnOut

/-! The backward attention call's results as the gradients over the real numbers. -/

@[expose] public section

set_option maxRecDepth 16384

noncomputable section

namespace Cert.KernelIdeal.Attn

open Cert.KernelIdeal Cert.KernelIdeal.Gen Cert.AttnReal
open Idealize.ShloMosaic Idealize.ShloMosaic.TcCoe Idealize.SL.Sem Idealize.ShloMosaic.StableHlo

variable (m : (ℓ : Loc nD τ sig) → Buf (Elt Ideal) ℓ) (c : Dev nD)

section Point

variable (t : Fin cfg0.N)

theorem at_q (r : Fin 4096) (n : ℕ) (hn : n < 256) : (ptX m c t.val).q r.val n
    = (after hostQ (fun b => m (c, b)) (Proc.devRef .tc main_v23) : FVec Ideal S4096x1024 .bf16) (ix2 r (⟨256 * (t.val / 4) + n, by have := pair_lt t; omega⟩ : Fin 1024)) := by
  rw [ptX_eq]
  show ext (iblk m c 0 t : (⟨2, ![4096, 256]⟩ : Shape).Idx → EReal) r.val n = _
  rw [ext_ix' _ _ _ r.isLt hn, ← v23_line]
  exact blk0 m c t r ⟨n, hn⟩
theorem at_k (r : Fin 1024) (n : ℕ) (hn : n < 256) : (ptX m c t.val).k r.val n
    = (after hostK (after hostQ (fun b => m (c, b))) (Proc.devRef .tc main_v37) : FVec Ideal S4096x1024 .bf16) (ix2 (⟨1024 * (t.val % 4) + r.val, by omega⟩ : Fin 4096) (⟨256 * (t.val / 4) + n, by have := pair_lt t; omega⟩ : Fin 1024)) := by
  rw [ptX_eq]
  show ext (iblk m c 1 t : (⟨2, ![1024, 256]⟩ : Shape).Idx → EReal) r.val n = _
  rw [ext_ix' _ _ _ r.isLt hn, ← v37_line]
  exact blk1 m c t r ⟨n, hn⟩
theorem at_v (r : Fin 1024) (n : ℕ) (hn : n < 256) : (ptX m c t.val).v r.val n
    = (after hostV (after hostK (after hostQ (fun b => m (c, b)))) (Proc.devRef .tc main_v46) : FVec Ideal S4096x1024 .bf16) (ix2 (⟨1024 * (t.val % 4) + r.val, by omega⟩ : Fin 4096) (⟨256 * (t.val / 4) + n, by have := pair_lt t; omega⟩ : Fin 1024)) := by
  rw [ptX_eq]
  show ext (iblk m c 2 t : (⟨2, ![1024, 256]⟩ : Shape).Idx → EReal) r.val n = _
  rw [ext_ix' _ _ _ r.isLt hn, ← v46_line]
  exact blk2 m c t r ⟨n, hn⟩
theorem at_D (r : Fin 4096) (n : ℕ) (hn : n < 128) : (ptX m c t.val).D r.val n
    = (V0 m c (Proc.devRef .tc main_v84) : FVec Ideal S4096x512 .bf16) (ix2 r (⟨128 * (t.val / 4) + n, by have := pair_lt t; omega⟩ : Fin 512)) := by
  rw [ptX_eq]
  show ext (iblk m c 3 t : (⟨2, ![4096, 128]⟩ : Shape).Idx → EReal) r.val n = _
  rw [ext_ix' _ _ _ r.isLt hn]
  exact blk3 m c t r ⟨n, hn⟩
theorem at_O (r : Fin 4096) (n : ℕ) (hn : n < 128) : (ptX m c t.val).O r.val n
    = (V0 m c (Proc.devRef .tc main_v77) : FVec Ideal S4096x512 .f32) (ix2 r (⟨128 * (t.val / 4) + n, by have := pair_lt t; omega⟩ : Fin 512)) := by
  rw [ptX_eq]
  show ext (iblk m c 4 t : (⟨2, ![4096, 128]⟩ : Shape).Idx → EReal) r.val n = _
  rw [ext_ix' _ _ _ r.isLt hn]
  exact blk4 m c t r ⟨n, hn⟩
theorem at_L (r : Fin 4096) (n : ℕ) (hn : n < 128) : (ptX m c t.val).L r.val n
    = (V0 m c (Proc.devRef .tc main_v83) : FVec Ideal S4096x512 .f32) (ix2 r (⟨128 * (t.val / 4) + n, by have := pair_lt t; omega⟩ : Fin 512)) := by
  rw [ptX_eq]
  show ext (iblk m c 5 t : (⟨2, ![4096, 128]⟩ : Shape).Idx → EReal) r.val n = _
  rw [ext_ix' _ _ _ r.isLt hn]
  exact blk5 m c t r ⟨n, hn⟩

variable {A : Args} (hm : Holds A (fun b => m (c, b)))

include hm

theorem reads : Reads A (ptX m c t.val) (t.val / 4) (t.val % 4) where
  q0 r d := by
    rw [at_q m c t r (d.val) (by omega)]
    have e := hostQ_0 A _ hm r ⟨t.val / 4, pair_lt t⟩ d
    exact e
  q1 r d := by
    rw [at_q m c t r (64 + d.val) (by omega)]
    have e := hostQ_1 A _ hm r ⟨t.val / 4, pair_lt t⟩ d
    simpa only [Nat.add_assoc] using e
  q2 r d := by
    rw [at_q m c t r (128 + d.val) (by omega)]
    have e := hostQ_2 A _ hm r ⟨t.val / 4, pair_lt t⟩ d
    simpa only [Nat.add_assoc] using e
  q3 r d := by
    rw [at_q m c t r (128 + (64 + d.val)) (by omega)]
    have e := hostQ_3 A _ hm r ⟨t.val / 4, pair_lt t⟩ d
    have h3 : 256 * (t.val / 4) + (128 + (64 + d.val)) = 256 * (t.val / 4) + 192 + d.val := by omega
    simp only [h3]
    exact e
  k0 s d := by
    rw [at_k m c t s (d.val) (by omega)]
    have e := hostK_0 A _ hm.hQ (hostQ_bias A _ hm) ⟨1024 * (t.val % 4) + s.val, by omega⟩ ⟨t.val / 4, pair_lt t⟩ d
    exact e
  k1 s d := by
    rw [at_k m c t s (64 + d.val) (by omega)]
    have e := hostK_1 A _ hm.hQ (hostQ_bias A _ hm) ⟨1024 * (t.val % 4) + s.val, by omega⟩ ⟨t.val / 4, pair_lt t⟩ d
    simpa only [Nat.add_assoc] using e
  k2 s d := by
    rw [at_k m c t s (128 + d.val) (by omega)]
    have e := hostK_2 A _ hm.hQ (hostQ_bias A _ hm) ⟨1024 * (t.val % 4) + s.val, by omega⟩ ⟨t.val / 4, pair_lt t⟩ d
    simpa only [Nat.add_assoc] using e
  k3 s d := by
    rw [at_k m c t s (128 + (64 + d.val)) (by omega)]
    have e := hostK_3 A _ hm.hQ (hostQ_bias A _ hm) ⟨1024 * (t.val % 4) + s.val, by omega⟩ ⟨t.val / 4, pair_lt t⟩ d
    have h3 : 256 * (t.val / 4) + (128 + (64 + d.val)) = 256 * (t.val / 4) + 192 + d.val := by omega
    simp only [h3]
    exact e
  v0 s d := by
    rw [at_v m c t s (d.val) (by omega)]
    have e := hostV_0 A _ hm.hQ.hK (hostQ_bias A _ hm).hK ⟨1024 * (t.val % 4) + s.val, by omega⟩ ⟨t.val / 4, pair_lt t⟩ d
    exact e
  v1 s d := by
    rw [at_v m c t s (64 + d.val) (by omega)]
    have e := hostV_1 A _ hm.hQ.hK (hostQ_bias A _ hm).hK ⟨1024 * (t.val % 4) + s.val, by omega⟩ ⟨t.val / 4, pair_lt t⟩ d
    simpa only [Nat.add_assoc] using e
  v2 s d := by
    rw [at_v m c t s (128 + d.val) (by omega)]
    have e := hostV_2 A _ hm.hQ.hK (hostQ_bias A _ hm).hK ⟨1024 * (t.val % 4) + s.val, by omega⟩ ⟨t.val / 4, pair_lt t⟩ d
    simpa only [Nat.add_assoc] using e
  v3 s d := by
    rw [at_v m c t s (128 + (64 + d.val)) (by omega)]
    have e := hostV_3 A _ hm.hQ.hK (hostQ_bias A _ hm).hK ⟨1024 * (t.val % 4) + s.val, by omega⟩ ⟨t.val / 4, pair_lt t⟩ d
    have h3 : 256 * (t.val / 4) + (128 + (64 + d.val)) = 256 * (t.val / 4) + 192 + d.val := by omega
    simp only [h3]
    exact e
  D0 r d := by
    rw [at_D m c t r (d.val) (by omega)]
    refine (v84_val m c hm r ⟨128 * (t.val / 4) + (d.val), by have := pair_lt t; omega⟩).trans ?_
    have e : 128 * (t.val / 4) + (d.val) = 64 * (2 * (t.val / 4)) + d.val := by omega
    simp only [e]
  D1 r d := by
    rw [at_D m c t r (64 + d.val) (by omega)]
    refine (v84_val m c hm r ⟨128 * (t.val / 4) + (64 + d.val), by have := pair_lt t; omega⟩).trans ?_
    have e : 128 * (t.val / 4) + (64 + d.val) = 64 * (2 * (t.val / 4) + 1) + d.val := by omega
    simp only [e]
  O0 r d := by
    rw [at_O m c t r (d.val) (by omega)]
    refine (v77_val m c hm r ⟨128 * (t.val / 4) + (d.val), by have := pair_lt t; omega⟩).trans ?_
    have e : (128 * (t.val / 4) + (d.val)) / 64 = 2 * (t.val / 4) := by omega
    have e2 : (128 * (t.val / 4) + (d.val)) % 64 = d.val := by omega
    simp only [e, e2]
  O1 r d := by
    rw [at_O m c t r (64 + d.val) (by omega)]
    refine (v77_val m c hm r ⟨128 * (t.val / 4) + (64 + d.val), by have := pair_lt t; omega⟩).trans ?_
    have e : (128 * (t.val / 4) + (64 + d.val)) / 64 = 2 * (t.val / 4) + 1 := by omega
    have e2 : (128 * (t.val / 4) + (64 + d.val)) % 64 = d.val := by omega
    simp only [e, e2]
  L0 r := by
    rw [at_L m c t r 0 (by omega)]
    refine (v83_val m c hm r ⟨128 * (t.val / 4) + 0, by have := pair_lt t; omega⟩).trans ?_
    have e : (128 * (t.val / 4) + 0) / 64 = 2 * (t.val / 4) := by omega
    simp only [e]
  L1 r := by
    rw [at_L m c t r 64 (by omega)]
    refine (v83_val m c hm r ⟨128 * (t.val / 4) + 64, by have := pair_lt t; omega⟩).trans ?_
    have e : (128 * (t.val / 4) + 64) / 64 = 2 * (t.val / 4) + 1 := by omega
    simp only [e]
  b := by
    rw [ptX_eq]
    exact (idx t).2.2.2.2.2.2.2.2.2.2.2.2

end Point

variable {A : Args} (hm : Holds A (fun b => m (c, b)))

include hm

theorem reads_at (p b : ℕ) (hp : p < 4) (hb : b < 4) : Reads A (ptX m c (4 * p + b)) p b := by
  have h := reads m c ⟨4 * p + b, Nat.lt_of_lt_of_eq (by omega : 4 * p + b < 16) N_0.symm⟩ hm
  have e1 : (4 * p + b) / 4 = p := by omega
  have e2 : (4 * p + b) % 4 = b := by omega
  simp only [e1, e2] at h
  exact h

omit hm in
theorem head_of (L : ℕ) : 2 * (L / 128) + L % 128 / 64 = L / 64 := by omega
omit hm in
theorem lane_of (L : ℕ) : 128 * (L / 128) + L % 128 = L := by omega
omit hm in
theorem col_of (L : ℕ) : 64 * (L / 64) + L % 64 = L := by omega

theorem acc8_eq (t : Fin 4096) (L : Fin 512) :
    acc8 m c (4 * (L.val / 128) + 3) (ix2 t (⟨L.val % 128, Nat.mod_lt _ (by norm_num)⟩ : Fin 128)) = (DQ A (L.val / 64) t.val (L.val % 64) : EReal) := by
  have e3 : (4 * (L.val / 128) + 3) % 4 = 3 := by omega
  have e0 : 4 * (L.val / 128) + 3 - 3 = 4 * (L.val / 128) := by omega
  show ∑ j ∈ Finset.range ((4 * (L.val / 128) + 3) % 4 + 1), (∑ s : Fin 1024, (ptX m c (4 * (L.val / 128) + 3 - (4 * (L.val / 128) + 3) % 4 + j)).w8 t.val s.val (⟨L.val % 128, Nat.mod_lt _ (by norm_num)⟩ : Fin 128)) * c8 = _
  rw [e3, e0, DQ, col_of, four_blocks (fun u => AttnReal.dS A (L.val / 64) t.val u * (1 / 8) * A.k u L.val), coe_sum]
  refine Finset.sum_congr rfl fun j hj => ?_
  have hj4 : j < 4 := Finset.mem_range.mp hj
  have hX := reads_at m c hm (L.val / 128) j (by omega) hj4
  simp only [hX.w8_eq, head_of, lane_of]
  rw [c8_val, ← coe_sum, ← EReal.coe_mul, Finset.sum_mul]
  congr 1
  exact Finset.sum_congr rfl fun s _ => by ring

theorem acc11_64 (p : Fin 4) (t : Fin 4096) :
    acc11 m c (4 * p.val + 3) (ix2 t (64 : Fin 128)) = ((∑ u : Fin 4096, AttnReal.dS A (2 * p.val) t.val u.val : ℝ) : EReal) := by
  have e3 : (4 * p.val + 3) % 4 = 3 := by omega
  have e0 : 4 * p.val + 3 - 3 = 4 * p.val := by omega
  show ∑ j ∈ Finset.range ((4 * p.val + 3) % 4 + 1), ∑ s : Fin 1024, (ptX m c (4 * p.val + 3 - (4 * p.val + 3) % 4 + j)).w11 t.val s.val (64 : Fin 128) = _
  rw [e3, e0, four_blocks (fun u => AttnReal.dS A (2 * p.val) t.val u), coe_sum]
  refine Finset.sum_congr rfl fun j hj => ?_
  have hX := reads_at m c hm p.val j p.isLt (Finset.mem_range.mp hj)
  simp only [hX.w11_64]
  rw [← coe_sum]

theorem acc11_0 (p : Fin 4) (t : Fin 4096) :
    acc11 m c (4 * p.val + 3) (ix2 t (0 : Fin 128)) = ((∑ u : Fin 4096, AttnReal.dS A (2 * p.val + 1) t.val u.val : ℝ) : EReal) := by
  have e3 : (4 * p.val + 3) % 4 = 3 := by omega
  have e0 : 4 * p.val + 3 - 3 = 4 * p.val := by omega
  show ∑ j ∈ Finset.range ((4 * p.val + 3) % 4 + 1), ∑ s : Fin 1024, (ptX m c (4 * p.val + 3 - (4 * p.val + 3) % 4 + j)).w11 t.val s.val (0 : Fin 128) = _
  rw [e3, e0, four_blocks (fun u => AttnReal.dS A (2 * p.val + 1) t.val u), coe_sum]
  refine Finset.sum_congr rfl fun j hj => ?_
  have hX := reads_at m c hm p.val j p.isLt (Finset.mem_range.mp hj)
  simp only [hX.w11_0]
  rw [← coe_sum]

omit hm in
theorem row_of (u : ℕ) : 1024 * (u / 1024) + u % 1024 = u := by omega

theorem o13_eq (u : Fin 4096) (L : Fin 512) :
    o13b (ptX m c (4 * (L.val / 128) + u.val / 1024)) (ix2 (⟨u.val % 1024, Nat.mod_lt _ (by norm_num)⟩ : Fin 1024) (⟨L.val % 128, Nat.mod_lt _ (by norm_num)⟩ : Fin 128)) = (DK A (L.val / 64) u.val (L.val % 64) : EReal) := by
  have hX := reads_at m c hm (L.val / 128) (u.val / 1024) (by omega) (by omega)
  show ∑ t : Fin 4096, (ptX m c (4 * (L.val / 128) + u.val / 1024)).w13 t.val (⟨u.val % 1024, Nat.mod_lt _ (by norm_num)⟩ : Fin 1024).val (⟨L.val % 128, Nat.mod_lt _ (by norm_num)⟩ : Fin 128) = _
  have hw := fun (t : Fin 4096) (l : Fin 128) => hX.w13_eq t (⟨u.val % 1024, Nat.mod_lt _ (by norm_num)⟩ : Fin 1024) l
  simp only at hw
  simp only [hw, head_of, lane_of, row_of]
  rw [DK, col_of, ← coe_sum]
  congr 1
  exact Finset.sum_congr rfl fun s _ => by ring

theorem o14_eq (u : Fin 4096) (L : Fin 512) :
    o14b (ptX m c (4 * (L.val / 128) + u.val / 1024)) (ix2 (⟨u.val % 1024, Nat.mod_lt _ (by norm_num)⟩ : Fin 1024) (⟨L.val % 128, Nat.mod_lt _ (by norm_num)⟩ : Fin 128)) = (DV A (L.val / 64) u.val (L.val % 64) : EReal) := by
  have hX := reads_at m c hm (L.val / 128) (u.val / 1024) (by omega) (by omega)
  show ∑ t : Fin 4096, (ptX m c (4 * (L.val / 128) + u.val / 1024)).w14 t.val (⟨u.val % 1024, Nat.mod_lt _ (by norm_num)⟩ : Fin 1024).val (⟨L.val % 128, Nat.mod_lt _ (by norm_num)⟩ : Fin 128) = _
  have hw := fun (t : Fin 4096) (l : Fin 128) => hX.w14_eq t (⟨u.val % 1024, Nat.mod_lt _ (by norm_num)⟩ : Fin 1024) l
  simp only at hw
  simp only [hw, head_of, lane_of, row_of]
  rw [DV, col_of, ← coe_sum]

theorem o15_67 (p : Fin 4) (u : Fin 4096) :
    o15 (ptX m c (4 * p.val + u.val / 1024)) (ix2 (⟨u.val % 1024, Nat.mod_lt _ (by norm_num)⟩ : Fin 1024) (67 : Fin 128)) = ((∑ t : Fin 4096, AttnReal.dS A (2 * p.val) t.val u.val : ℝ) : EReal) := by
  have hX := reads_at m c hm p.val (u.val / 1024) p.isLt (by omega)
  show ∑ t : Fin 4096, (ptX m c (4 * p.val + u.val / 1024)).w15 t.val (⟨u.val % 1024, Nat.mod_lt _ (by norm_num)⟩ : Fin 1024).val (67 : Fin 128) = _
  have hw := fun (t : Fin 4096) => hX.w15_67 t (⟨u.val % 1024, Nat.mod_lt _ (by norm_num)⟩ : Fin 1024)
  simp only at hw
  simp only [hw, row_of]
  rw [← coe_sum]

theorem o15_3 (p : Fin 4) (u : Fin 4096) :
    o15 (ptX m c (4 * p.val + u.val / 1024)) (ix2 (⟨u.val % 1024, Nat.mod_lt _ (by norm_num)⟩ : Fin 1024) (3 : Fin 128)) = ((∑ t : Fin 4096, AttnReal.dS A (2 * p.val + 1) t.val u.val : ℝ) : EReal) := by
  have hX := reads_at m c hm p.val (u.val / 1024) p.isLt (by omega)
  show ∑ t : Fin 4096, (ptX m c (4 * p.val + u.val / 1024)).w15 t.val (⟨u.val % 1024, Nat.mod_lt _ (by norm_num)⟩ : Fin 1024).val (3 : Fin 128) = _
  have hw := fun (t : Fin 4096) => hX.w15_3 t (⟨u.val % 1024, Nat.mod_lt _ (by norm_num)⟩ : Fin 1024)
  simp only at hw
  simp only [hw, row_of]
  rw [← coe_sum]

/-- The query's gradient. -/
theorem dq_val : (dats m 0 c).arrAt 6 (cfgs 0).N = fun y : S4096x512.Idx => (DQ A ((y 1).val / 64) (y 0).val ((y 1).val % 64) : EReal) := by
  rw [arr6]
  funext y
  exact acc8_eq m c hm ⟨(y 0).val, (y 0).isLt⟩ ⟨(y 1).val, (y 1).isLt⟩
/-- The key's gradient. -/
theorem dk_val : (dats m 0 c).arrAt 7 (cfgs 0).N = fun y : S4096x512.Idx => (DK A ((y 1).val / 64) (y 0).val ((y 1).val % 64) : EReal) := by
  rw [arr7]
  funext y
  exact o13_eq m c hm ⟨(y 0).val, (y 0).isLt⟩ ⟨(y 1).val, (y 1).isLt⟩
/-- The value's gradient. -/
theorem dv_val : (dats m 0 c).arrAt 8 (cfgs 0).N = fun y : S4096x512.Idx => (DV A ((y 1).val / 64) (y 0).val ((y 1).val % 64) : EReal) := by
  rw [arr8]
  funext y
  exact o14_eq m c hm ⟨(y 0).val, (y 0).isLt⟩ ⟨(y 1).val, (y 1).isLt⟩
theorem qx_64 (t : Fin 4096) (p : Fin 4) : ((dats m 0 c).arrAt 9 (cfgs 0).N : S4096x512.Idx → EReal) (ix2 t (⟨128 * p.val + 64, by omega⟩ : Fin 512)) = ((∑ u : Fin 4096, AttnReal.dS A (2 * p.val) t.val u.val : ℝ) : EReal) := by
  rw [arr9]
  have e1 : (128 * p.val + 64) / 128 = p.val := by omega
  have e2 : (128 * p.val + 64) % 128 = 64 := by omega
  show acc11 m c (4 * ((128 * p.val + 64) / 128) + 3) (ix2 t (⟨(128 * p.val + 64) % 128, Nat.mod_lt _ (by norm_num)⟩ : Fin 128)) = _
  simp only [e1, e2]
  exact acc11_64 m c hm p t
theorem qx_0 (t : Fin 4096) (p : Fin 4) : ((dats m 0 c).arrAt 9 (cfgs 0).N : S4096x512.Idx → EReal) (ix2 t (⟨128 * p.val + 0, by omega⟩ : Fin 512)) = ((∑ u : Fin 4096, AttnReal.dS A (2 * p.val + 1) t.val u.val : ℝ) : EReal) := by
  rw [arr9]
  have e1 : (128 * p.val + 0) / 128 = p.val := by omega
  have e2 : (128 * p.val + 0) % 128 = 0 := by omega
  show acc11 m c (4 * ((128 * p.val + 0) / 128) + 3) (ix2 t (⟨(128 * p.val + 0) % 128, Nat.mod_lt _ (by norm_num)⟩ : Fin 128)) = _
  simp only [e1, e2]
  exact acc11_0 m c hm p t
theorem kx_67 (u : Fin 4096) (p : Fin 4) : ((dats m 0 c).arrAt 10 (cfgs 0).N : S4096x512.Idx → EReal) (ix2 u (⟨128 * p.val + 67, by omega⟩ : Fin 512)) = ((∑ t : Fin 4096, AttnReal.dS A (2 * p.val) t.val u.val : ℝ) : EReal) := by
  rw [arr10]
  have e1 : (128 * p.val + 67) / 128 = p.val := by omega
  have e2 : (128 * p.val + 67) % 128 = 67 := by omega
  show o15 (ptX m c (4 * ((128 * p.val + 67) / 128) + u.val / 1024)) (ix2 (⟨u.val % 1024, Nat.mod_lt _ (by norm_num)⟩ : Fin 1024) (⟨(128 * p.val + 67) % 128, Nat.mod_lt _ (by norm_num)⟩ : Fin 128)) = _
  simp only [e1, e2]
  exact o15_67 m c hm p u
theorem kx_3 (u : Fin 4096) (p : Fin 4) : ((dats m 0 c).arrAt 10 (cfgs 0).N : S4096x512.Idx → EReal) (ix2 u (⟨128 * p.val + 3, by omega⟩ : Fin 512)) = ((∑ t : Fin 4096, AttnReal.dS A (2 * p.val + 1) t.val u.val : ℝ) : EReal) := by
  rw [arr10]
  have e1 : (128 * p.val + 3) / 128 = p.val := by omega
  have e2 : (128 * p.val + 3) % 128 = 3 := by omega
  show o15 (ptX m c (4 * ((128 * p.val + 3) / 128) + u.val / 1024)) (ix2 (⟨u.val % 1024, Nat.mod_lt _ (by norm_num)⟩ : Fin 1024) (⟨(128 * p.val + 3) % 128, Nat.mod_lt _ (by norm_num)⟩ : Fin 128)) = _
  simp only [e1, e2]
  exact o15_3 m c hm p u

end Cert.KernelIdeal.Attn

end
-- ==== Proof.Tail.lean ====
module

public import proofs.«01_k».proof.Proof.AttnReal
public import proofs.«01_k».proof.Proof.HostRun
public import Idealize.ShloMosaic.Lib.WordCmp

/-! The host lines after the kernel: the decay's gradient from the two picked lanes, and the key's and value's gradients widened. -/

@[expose] public section

set_option maxRecDepth 16384

noncomputable section

namespace Cert.KernelIdeal.Attn

open Cert.KernelIdeal Cert.KernelIdeal.Gen Cert.AttnReal
open Idealize.ShloMosaic Idealize.ShloMosaic.TcCoe Idealize.SL.Sem Idealize.ShloMosaic.StableHlo

variable (A : Args) (W : Valuation τ sig (Elt Ideal))

theorem tail_dk : (after hostOps1 W (Proc.devRef .tc main_v97) : FVec Ideal S4096x512 .f32) = (W (Proc.devRef .tc main_v85_1) : FVec Ideal S4096x512 .bf16) := by
  funext i
  after_results_simp
  pointwise

theorem tail_dv : (after hostOps1 W (Proc.devRef .tc main_v98) : FVec Ideal S4096x512 .f32) = (W (Proc.devRef .tc main_v85_2) : FVec Ideal S4096x512 .bf16) := by
  funext i
  after_results_simp
  pointwise

theorem tail_dq : after hostOps1 W (Proc.devRef .tc main_v85_0) = W (Proc.devRef .tc main_v85_0) := by
  after_results_simp

theorem tail_df (hq : ∀ (t : Fin 4096) (p : Fin 4), (W (Proc.devRef .tc main_v85_3) : FVec Ideal S4096x512 .f32) (ix2 t (⟨128 * p.val + 64, by omega⟩ : Fin 512)) = ((∑ u : Fin 4096, AttnReal.dS A (2 * p.val) t.val u.val : ℝ) : EReal))
    (hq' : ∀ (t : Fin 4096) (p : Fin 4), (W (Proc.devRef .tc main_v85_3) : FVec Ideal S4096x512 .f32) (ix2 t (⟨128 * p.val + 0, by omega⟩ : Fin 512)) = ((∑ u : Fin 4096, AttnReal.dS A (2 * p.val + 1) t.val u.val : ℝ) : EReal))
    (hk : ∀ (u : Fin 4096) (p : Fin 4), (W (Proc.devRef .tc main_v85_4) : FVec Ideal S4096x512 .f32) (ix2 u (⟨128 * p.val + 67, by omega⟩ : Fin 512)) = ((∑ t : Fin 4096, AttnReal.dS A (2 * p.val) t.val u.val : ℝ) : EReal))
    (hk' : ∀ (u : Fin 4096) (p : Fin 4), (W (Proc.devRef .tc main_v85_4) : FVec Ideal S4096x512 .f32) (ix2 u (⟨128 * p.val + 3, by omega⟩ : Fin 512)) = ((∑ t : Fin 4096, AttnReal.dS A (2 * p.val + 1) t.val u.val : ℝ) : EReal)) :
    (after hostOps1 W (Proc.devRef .tc main_v96) : FVec Ideal S8x4096 .f32) = fun i => (DF A (i 0).val (i 1).val : EReal) := by
  funext i; obtain ⟨h, t, rfl⟩ : ∃ h t, i = ix2 h t := ⟨_, _, eq_ix2 i⟩
  have hp : h.val / 2 < 4 := by omega
  after_results_simp
  pointwise
  split
  · rename_i e
    have e1 : 2 * (h.val / 2) = h.val := by omega
    after_results_simp
    pointwise
    have a := (congrArg (fun j : Fin 512 => (W (Proc.devRef .tc main_v85_3) : FVec Ideal S4096x512 .f32) (ix2 t j)) (Fin.ext (by show h.val / 2 * 128 + (64 + h.val % 2) = 128 * (h.val / 2) + 64; omega) : (⟨h.val / 2 * 128 + (64 + h.val % 2), by omega⟩ : Fin 512) = ⟨128 * (h.val / 2) + 64, by omega⟩)).trans (hq t ⟨h.val / 2, hp⟩)
    have b := (congrArg (fun j : Fin 512 => (W (Proc.devRef .tc main_v85_4) : FVec Ideal S4096x512 .f32) (ix2 t j)) (Fin.ext (by show h.val / 2 * 128 + (67 + h.val % 2) = 128 * (h.val / 2) + 67; omega) : (⟨h.val / 2 * 128 + (67 + h.val % 2), by omega⟩ : Fin 512) = ⟨128 * (h.val / 2) + 67, by omega⟩)).trans (hk t ⟨h.val / 2, hp⟩)
    refine (congrArg₂ (fun x y : EReal => x - y) a b).trans ?_
    rw [← EReal.coe_sub, DF]
    simp only [e1]
  · rename_i e
    have e1 : 2 * (h.val / 2) + 1 = h.val := by omega
    after_results_simp
    pointwise
    have a := (congrArg (fun j : Fin 512 => (W (Proc.devRef .tc main_v85_3) : FVec Ideal S4096x512 .f32) (ix2 t j)) (Fin.ext (by show h.val / 2 * 128 + (h.val % 2 - 1) = 128 * (h.val / 2) + 0; omega) : (⟨h.val / 2 * 128 + (h.val % 2 - 1), by omega⟩ : Fin 512) = ⟨128 * (h.val / 2) + 0, by omega⟩)).trans (hq' t ⟨h.val / 2, hp⟩)
    have b := (congrArg (fun j : Fin 512 => (W (Proc.devRef .tc main_v85_4) : FVec Ideal S4096x512 .f32) (ix2 t j)) (Fin.ext (by show h.val / 2 * 128 + (3 + (h.val % 2 - 1)) = 128 * (h.val / 2) + 3; omega) : (⟨h.val / 2 * 128 + (3 + (h.val % 2 - 1)), by omega⟩ : Fin 512) = ⟨128 * (h.val / 2) + 3, by omega⟩)).trans (hk' t ⟨h.val / 2, hp⟩)
    refine (congrArg₂ (fun x y : EReal => x - y) a b).trans ?_
    rw [← EReal.coe_sub, DF]
    simp only [e1]

end Cert.KernelIdeal.Attn

end
-- ==== Proof.KernelValue.lean ====
module

public import proofs.«01_k».proof.Proof.AttnGrad
public import proofs.«01_k».proof.Proof.Tail

/-! The kernel's four results as the gradients over the real numbers. -/

@[expose] public section

set_option maxRecDepth 16384

noncomputable section

namespace Cert.KernelIdeal.Attn

open Cert.KernelIdeal Cert.KernelIdeal.Gen Cert.AttnReal
open Idealize.ShloMosaic Idealize.ShloMosaic.TcCoe Idealize.SL.Sem Idealize.ShloMosaic.StableHlo

variable (m : (ℓ : Loc nD τ sig) → Buf (Elt Ideal) ℓ) (ρ : Dev nD → PrngReg)

/-- The buffers when the kernel's call returns. -/
abbrev VR (c : Dev nD) : Valuation τ sig (Elt Ideal) := Pipeline.withArrays (cfgs 0).spec c (V0 m c) fun w => (dats m 0 c).arrAt w (cfgs 0).N

theorem VR_7 (c : Dev nD) : VR m c (Proc.devRef .tc main_v85_1) = (dats m 0 c).arrAt 7 (cfgs 0).N :=
  Pipeline.withArrays_arr _ launch0.win.arr_inj c (V0 m c) _ 7
theorem VR_8 (c : Dev nD) : VR m c (Proc.devRef .tc main_v85_2) = (dats m 0 c).arrAt 8 (cfgs 0).N :=
  Pipeline.withArrays_arr _ launch0.win.arr_inj c (V0 m c) _ 8
theorem VR_9 (c : Dev nD) : VR m c (Proc.devRef .tc main_v85_3) = (dats m 0 c).arrAt 9 (cfgs 0).N :=
  Pipeline.withArrays_arr _ launch0.win.arr_inj c (V0 m c) _ 9
theorem VR_10 (c : Dev nD) : VR m c (Proc.devRef .tc main_v85_4) = (dats m 0 c).arrAt 10 (cfgs 0).N :=
  Pipeline.withArrays_arr _ launch0.win.arr_inj c (V0 m c) _ 10

theorem out_dk (A : Args) (c : Dev nD) (hm : Holds A (fun b => m (c, b))) :
    (Pipeline.afterTail₀ cfgs (dats m) 0 (V0 m) [hostOps1] c main_v97 : FVec Ideal S4096x512 .f32) = fun i => (DK A ((i 1).val / 64) (i 0).val ((i 1).val % 64) : EReal) := by
  show (after hostOps1 (VR m c) (Proc.devRef .tc main_v97) : FVec Ideal S4096x512 .f32) = _
  rw [tail_dk, VR_7]
  exact dk_val m c hm

theorem out_dv (A : Args) (c : Dev nD) (hm : Holds A (fun b => m (c, b))) :
    (Pipeline.afterTail₀ cfgs (dats m) 0 (V0 m) [hostOps1] c main_v98 : FVec Ideal S4096x512 .f32) = fun i => (DV A ((i 1).val / 64) (i 0).val ((i 1).val % 64) : EReal) := by
  show (after hostOps1 (VR m c) (Proc.devRef .tc main_v98) : FVec Ideal S4096x512 .f32) = _
  rw [tail_dv, VR_8]
  exact dv_val m c hm

theorem out_df (A : Args) (c : Dev nD) (hm : Holds A (fun b => m (c, b))) :
    (Pipeline.afterTail₀ cfgs (dats m) 0 (V0 m) [hostOps1] c main_v96 : FVec Ideal S8x4096 .f32) = fun i => (DF A (i 0).val (i 1).val : EReal) := by
  show (after hostOps1 (VR m c) (Proc.devRef .tc main_v96) : FVec Ideal S8x4096 .f32) = _
  refine tail_df A _ (fun t p => ?_) (fun t p => ?_) (fun t p => ?_) (fun t p => ?_)
  · rw [VR_9]; exact qx_64 m c hm t p
  · rw [VR_9]; exact qx_0 m c hm t p
  · rw [VR_10]; exact kx_67 m c hm t p
  · rw [VR_10]; exact kx_3 m c hm t p

/-- The run: the four results are the gradients, the arguments keep their contents. -/
theorem values (A : Dev nD → Args) (hm : ∀ c, Holds (A c) (fun b => m (c, b))) :
    θ_run defs (onTc (τ := τ) (main (F := Ideal))) ⟨m, fun _ => 0, ρ⟩ (fun r => ∀ c : Dev nD,
      (r.2.mem ((c.tc : Thread nD τ).loc main_v85_0) : FVec Ideal S4096x512 .f32) = (fun i => (DQ (A c) ((i 1).val / 64) (i 0).val ((i 1).val % 64) : EReal))
      ∧ (r.2.mem ((c.tc : Thread nD τ).loc main_v97) : FVec Ideal S4096x512 .f32) = (fun i => (DK (A c) ((i 1).val / 64) (i 0).val ((i 1).val % 64) : EReal))
      ∧ (r.2.mem ((c.tc : Thread nD τ).loc main_v98) : FVec Ideal S4096x512 .f32) = (fun i => (DV (A c) ((i 1).val / 64) (i 0).val ((i 1).val % 64) : EReal))
      ∧ (r.2.mem ((c.tc : Thread nD τ).loc main_v96) : FVec Ideal S8x4096 .f32) = (fun i => (DF (A c) (i 0).val (i 1).val : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, ?_, h.2.1 c⟩) (θ_run_and (run_main m ρ) (frame m ρ))
  · exact ((h.1 c).1 6).trans (dq_val m c (hm c))
  · exact ((h.1 c).2 main_v97 (Pipeline.mem_restRefs_of main_v97 (by decide) (by decide))).trans (out_dk m (A c) c (hm c))
  · exact ((h.1 c).2 main_v98 (Pipeline.mem_restRefs_of main_v98 (by decide) (by decide))).trans (out_dv m (A c) c (hm c))
  · exact ((h.1 c).2 main_v96 (Pipeline.mem_restRefs_of main_v96 (by decide) (by decide))).trans (out_df m (A c) c (hm c))

end Cert.KernelIdeal.Attn

end
-- ==== Proof.RefReadA.lean ====
module

public import proofs.«01_k».proof.Proof.RefRun
public import proofs.«01_k».proof.Proof.AttnReal
public import Idealize.ShloMosaic.Lib.Pipeline.ValueKit
public import Idealize.ShloMosaic.Lib.WordCmp

/-! The reference's results as the gradients over the real numbers. -/

@[expose] public section

set_option maxRecDepth 16384

noncomputable section

namespace Cert.ReferenceIdeal.Attn

open Cert.ReferenceIdeal Cert.ReferenceIdeal.Gen Cert.AttnReal
open Idealize.ShloMosaic Idealize.ShloMosaic.TcCoe Idealize.SL.Sem Idealize.ShloMosaic.StableHlo

/-- The arguments' arrays hold the real numbers `A`. -/
structure Holds (A : Args) (V : Valuation τ sig (Elt Ideal)) : Prop where
  a0 : (V (Proc.devRef .tc main_arg0) : FVec Ideal S4096x512 .f32) = fun i => (A.q (i 0).val (i 1).val : EReal)
  a1 : (V (Proc.devRef .tc main_arg1) : FVec Ideal S4096x512 .f32) = fun i => (A.k (i 0).val (i 1).val : EReal)
  a2 : (V (Proc.devRef .tc main_arg2) : FVec Ideal S4096x512 .f32) = fun i => (A.v (i 0).val (i 1).val : EReal)
  a3 : (V (Proc.devRef .tc main_arg3) : FVec Ideal S8x4096 .f32) = fun i => (A.F (i 0).val (i 1).val : EReal)
  a4 : (V (Proc.devRef .tc main_arg4) : FVec Ideal S4096x512 .f32) = fun i => (A.D (i 0).val (i 1).val : EReal)

theorem Holds.of_eq {A : Args} {V W : Valuation τ sig (Elt Ideal)} (hA : Holds A V)
    (e0 : W (Proc.devRef .tc main_arg0) = V (Proc.devRef .tc main_arg0)) (e1 : W (Proc.devRef .tc main_arg1) = V (Proc.devRef .tc main_arg1))
    (e2 : W (Proc.devRef .tc main_arg2) = V (Proc.devRef .tc main_arg2)) (e3 : W (Proc.devRef .tc main_arg3) = V (Proc.devRef .tc main_arg3))
    (e4 : W (Proc.devRef .tc main_arg4) = V (Proc.devRef .tc main_arg4)) : Holds A W :=
  ⟨e0.trans hA.a0, e1.trans hA.a1, e2.trans hA.a2, e3.trans hA.a3, e4.trans hA.a4⟩

theorem eighth : Ideal.ofBits FTy.f32 1040187392#32 = ((1 / 8 : ℝ) : EReal) := by
  simp [Ideal.ofBits, Ideal.ieee, -EReal.coe_mul]; norm_num
theorem neg_inf : Ideal.ofBits FTy.f32 4286578688#32 = ⊥ := by
  simp [Ideal.ofBits, Ideal.ieee]

variable (A : Args) (V : Valuation τ sig (Elt Ideal))

theorem lineA_score (hA : Holds A V) :
    (after lineA V (Proc.devRef .tc main_v10) : FVec Ideal S8x4096x4096 .f32) = fun i => (sc A (i 0).val (i 1).val (i 2).val : EReal) := by
  funext i; obtain ⟨h, t, u, rfl⟩ : ∃ h t u, i = ix3 h t u := ⟨_, _, _, eq_ix3 i⟩
  after_results_simp
  pointwise [hA.a0, hA.a1, hA.a3]
  rw [eighth, sc, EReal.coe_sub, EReal.coe_add, EReal.coe_mul, coe_sum]
  simp only [EReal.coe_mul, Nat.mul_comm 64]

theorem lineA_mask :
    (after lineA V (Proc.devRef .tc main_v16) : IVec S4096x4096 1) = fun i => if (i 1).val ≤ (i 0).val then 1#1 else 0#1 := by
  funext i; obtain ⟨t, u, rfl⟩ : ∃ t u, i = ix2 t u := ⟨_, _, eq_ix2 i⟩
  after_results_simp
  pointwise
  rw [WordCmp.cmpi_sle_ofNat (by omega) (by omega), WordCmp.ofBool_decide_eq_ite]
  rfl

theorem lineA_bot : (after lineA V (Proc.devRef .tc main_cst_0) : FVec Ideal S_ .f32) = fun _ => (⊥ : EReal) := by
  funext i
  after_results_simp
  pointwise
  exact neg_inf

theorem lineA_q (hA : Holds A V) : (after lineA V (Proc.devRef .tc main_v0) : FVec Ideal S4096x8x64 .f32) = fun i => (A.q (i 0).val (64 * (i 1).val + (i 2).val) : EReal) := by
  funext i; obtain ⟨h, t, u, rfl⟩ : ∃ h t u, i = ix3 h t u := ⟨_, _, _, eq_ix3 i⟩
  after_results_simp
  pointwise [hA.a0, Nat.mul_comm 64]

theorem lineA_k (hA : Holds A V) : (after lineA V (Proc.devRef .tc main_v1) : FVec Ideal S4096x8x64 .f32) = fun i => (A.k (i 0).val (64 * (i 1).val + (i 2).val) : EReal) := by
  funext i; obtain ⟨h, t, u, rfl⟩ : ∃ h t u, i = ix3 h t u := ⟨_, _, _, eq_ix3 i⟩
  after_results_simp
  pointwise [hA.a1, Nat.mul_comm 64]

section Where

variable (h10 : (V (Proc.devRef .tc main_v10) : FVec Ideal S8x4096x4096 .f32) = fun i => (sc A (i 0).val (i 1).val (i 2).val : EReal))
    (h16 : (V (Proc.devRef .tc main_v16) : IVec S4096x4096 1) = fun i => if (i 1).val ≤ (i 0).val then 1#1 else 0#1)
    (h0 : (V (Proc.devRef .tc main_cst_0) : FVec Ideal S_ .f32) = fun _ => (⊥ : EReal))

include h10 h16 h0 in
theorem lineWhere_ms : (after lineWhere V (Proc.devRef .tc main_v17_0) : FVec Ideal S8x4096x4096 .f32) = fun i => ms A (i 0).val (i 1).val (i 2).val := by
  funext i; obtain ⟨h, t, u, rfl⟩ : ∃ h t u, i = ix3 h t u := ⟨_, _, _, eq_ix3 i⟩
  after_results_simp
  pointwise [h10, h16, h0]
  simp only [TRef.ofBuf_toBuf, TRef.ofBuf, TRef.toBuf, cast_eq, id]
  pointwise
  by_cases hu : u.val ≤ t.val
  · rw [if_pos hu, ms_of_le A hu]; rfl
  · rw [if_neg hu, ms_of_not_le A hu]; rfl

include h16 in
theorem lineWhere_mask : (after lineWhere V (Proc.devRef .tc main_v17_1) : IVec S8x4096x4096 1) = fun i => if (i 2).val ≤ (i 1).val then 1#1 else 0#1 := by
  funext i; obtain ⟨h, t, u, rfl⟩ : ∃ h t u, i = ix3 h t u := ⟨_, _, _, eq_ix3 i⟩
  after_results_simp
  pointwise [h16]
  simp only [TRef.ofBuf_toBuf, TRef.ofBuf, TRef.toBuf, cast_eq, id]
  pointwise

end Where

end Cert.ReferenceIdeal.Attn

end
-- ==== Proof.RefReadB.lean ====
module

public import proofs.«01_k».proof.Proof.RefReadA
public import proofs.«01_k».proof.Proof.AttnReal
public import Idealize.ShloMosaic.Lib.Pipeline.ValueKit
public import Idealize.ShloMosaic.Lib.WordCmp

/-! The reference's results as the gradients over the real numbers. -/

@[expose] public section

set_option maxRecDepth 16384

noncomputable section

namespace Cert.ReferenceIdeal.Attn

open Cert.ReferenceIdeal Cert.ReferenceIdeal.Gen Cert.AttnReal
open Idealize.ShloMosaic Idealize.ShloMosaic.TcCoe Idealize.SL.Sem Idealize.ShloMosaic.StableHlo

variable {F : FTy → Type} [FloatOps F]

/-- The operations up to `main_v18`. -/
abbrev lineBm : List (HloOp τ sig (Elt F)) :=
  [ nullary main_cst_1 (constant S_ .f32 0xFF800000#32),
    binary main_v17_0 main_cst_1 main_v18 ((fun x v => Host.reduce FloatOps.maximumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)) ]
/-- The operations up to `main_v38`. -/
abbrev lineBe : List (HloOp τ sig (Elt F)) :=
  [ reshape main_v18 main_v19 (rfl : (.f32 : EltTy) = .f32) shapeCasts_S8x4096_S8x4096x1,
    unary main_v19 main_v20 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v17_0 main_v20 main_v21 (cmpf .oeq : (⟨S8x4096x4096, .f32⟩ : BufTy).Contents (Elt F) → (⟨S8x4096x4096, .f32⟩ : BufTy).Contents (Elt F) → (⟨S8x4096x4096, .i1⟩ : BufTy).Contents (Elt F)),
    unary main_v21 main_v22 (uitofp .f32 : (⟨S8x4096x4096, .i1⟩ : BufTy).Contents (Elt F) → (⟨S8x4096x4096, .f32⟩ : BufTy).Contents (Elt F)),
    nullary main_cst_2 (constant S_ .f32 0x00000000#32),
    binary main_v22 main_cst_2 main_v23 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    nullary main_cst_3 (constant S_ .f32 0xFF800000#32),
    unary main_cst_3 main_v24 (broadcastInDim S8x4096 ![] bcast_S_S8x4096 : (⟨S_, .f32⟩ : BufTy).Contents (Elt F) → (⟨S8x4096, .f32⟩ : BufTy).Contents (Elt F)),
    binary main_v24 main_v18 main_v25 (maximumf : (⟨S8x4096, .f32⟩ : BufTy).Contents (Elt F) → (⟨S8x4096, .f32⟩ : BufTy).Contents (Elt F) → (⟨S8x4096, .f32⟩ : BufTy).Contents (Elt F)),
    nullary main_cst_4 (constant S_ .f32 0xFF800000#32),
    unary main_cst_4 main_v26 (broadcastInDim S8x4096 ![] bcast_S_S8x4096 : (⟨S_, .f32⟩ : BufTy).Contents (Elt F) → (⟨S8x4096, .f32⟩ : BufTy).Contents (Elt F)),
    binary main_v18 main_v26 main_v27 (cmpf .ogt : (⟨S8x4096, .f32⟩ : BufTy).Contents (Elt F) → (⟨S8x4096, .f32⟩ : BufTy).Contents (Elt F) → (⟨S8x4096, .i1⟩ : BufTy).Contents (Elt F)),
    nullary main_cst_5 (constant S_ .f32 0xFF800000#32),
    unary main_cst_5 main_v28 (broadcastInDim S8x4096 ![] bcast_S_S8x4096 : (⟨S_, .f32⟩ : BufTy).Contents (Elt F) → (⟨S8x4096, .f32⟩ : BufTy).Contents (Elt F)),
    binary main_v18 main_v28 main_v29 (cmpf .oeq : (⟨S8x4096, .f32⟩ : BufTy).Contents (Elt F) → (⟨S8x4096, .f32⟩ : BufTy).Contents (Elt F) → (⟨S8x4096, .i1⟩ : BufTy).Contents (Elt F)),
    nullary main_cst_6 (constant S_ .f32 0x3F800000#32),
    unary main_cst_6 main_v30 (broadcastInDim S8x4096 ![] bcast_S_S8x4096 : (⟨S_, .f32⟩ : BufTy).Contents (Elt F) → (⟨S8x4096, .f32⟩ : BufTy).Contents (Elt F)),
    nullary main_cst_7 (constant S_ .f32 0x00000000#32),
    unary main_cst_7 main_v31 (broadcastInDim S8x4096 ![] bcast_S_S8x4096 : (⟨S_, .f32⟩ : BufTy).Contents (Elt F) → (⟨S8x4096, .f32⟩ : BufTy).Contents (Elt F)),
    nullary main_cst_8 (constant S_ .f32 0x3F000000#32),
    unary main_cst_8 main_v32 (broadcastInDim S8x4096 ![] bcast_S_S8x4096 : (⟨S_, .f32⟩ : BufTy).Contents (Elt F) → (⟨S8x4096, .f32⟩ : BufTy).Contents (Elt F)),
    ternary main_v29 main_v32 main_v31 main_v33 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    ternary main_v27 main_v30 main_v33 main_v34 (select : (⟨S8x4096, .i1⟩ : BufTy).Contents (Elt F) → (⟨S8x4096, .f32⟩ : BufTy).Contents (Elt F) → (⟨S8x4096, .f32⟩ : BufTy).Contents (Elt F) → (⟨S8x4096, .f32⟩ : BufTy).Contents (Elt F)),
    unary main_v25 main_v35 (broadcastInDim S8x4096x1 ![0, 1] bcast_S8x4096_S8x4096x1_0_1 : (⟨S8x4096, .f32⟩ : BufTy).Contents (Elt F) → (⟨S8x4096x1, .f32⟩ : BufTy).Contents (Elt F)),
    unary main_v35 main_v36 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v17_0 main_v36 main_v37 (subf : (⟨S8x4096x4096, .f32⟩ : BufTy).Contents (Elt F) → (⟨S8x4096x4096, .f32⟩ : BufTy).Contents (Elt F) → (⟨S8x4096x4096, .f32⟩ : BufTy).Contents (Elt F)),
    unary main_v37 main_v38 (Host.exp : (⟨S8x4096x4096, .f32⟩ : BufTy).Contents (Elt F) → (⟨S8x4096x4096, .f32⟩ : BufTy).Contents (Elt F)) ]
/-- The operations up to `main_v47`. -/
abbrev lineBs : List (HloOp τ sig (Elt F)) :=
  [ nullary main_cst_9 (constant S_ .f32 0x00000000#32),
    binary main_v38 main_cst_9 main_v39 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v39 main_v40 (broadcastInDim S8x4096x1 ![0, 1] bcast_S8x4096_S8x4096x1_0_1 : (⟨S8x4096, .f32⟩ : BufTy).Contents (Elt F) → (⟨S8x4096x1, .f32⟩ : BufTy).Contents (Elt F)),
    unary main_v40 main_v41 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v38 main_v41 main_v42 (Host.divf : (⟨S8x4096x4096, .f32⟩ : BufTy).Contents (Elt F) → (⟨S8x4096x4096, .f32⟩ : BufTy).Contents (Elt F) → (⟨S8x4096x4096, .f32⟩ : BufTy).Contents (Elt F)),
    binary main_v40 main_v40 main_v43 (mulf : (⟨S8x4096x1, .f32⟩ : BufTy).Contents (Elt F) → (⟨S8x4096x1, .f32⟩ : BufTy).Contents (Elt F) → (⟨S8x4096x1, .f32⟩ : BufTy).Contents (Elt F)),
    nullary main_cst_10 (constant S_ .f32 0x3F800000#32),
    unary main_cst_10 main_v44 (broadcastInDim S8x4096x1 ![] bcast_S_S8x4096x1 : (⟨S_, .f32⟩ : BufTy).Contents (Elt F) → (⟨S8x4096x1, .f32⟩ : BufTy).Contents (Elt F)),
    binary main_v44 main_v43 main_v45 (Host.divf : (⟨S8x4096x1, .f32⟩ : BufTy).Contents (Elt F) → (⟨S8x4096x1, .f32⟩ : BufTy).Contents (Elt F) → (⟨S8x4096x1, .f32⟩ : BufTy).Contents (Elt F)),
    reshape main_arg2 main_v46 (rfl : (.f32 : EltTy) = .f32) shapeCasts_S4096x512_S4096x8x64,
    binary main_v46 main_v42 main_v47 ((fun l r => Host.dotGeneral dot_S4096x8x64_S8x4096x4096_S8x64x4096_0_2_2_1_1_0 none l r) : (⟨S4096x8x64, .f32⟩ : BufTy).Contents (Elt F) → (⟨S8x4096x4096, .f32⟩ : BufTy).Contents (Elt F) → (⟨S8x64x4096, .f32⟩ : BufTy).Contents (Elt F)) ]
theorem lineB_cut (V : Valuation τ sig (Elt F)) : after lineB V = after lineBs (after lineBe (after lineBm V)) := rfl

variable (A : Args) (V : Valuation τ sig (Elt Ideal))

section Weights

variable (h17 : (V (Proc.devRef .tc main_v17_0) : FVec Ideal S8x4096x4096 .f32) = fun i => ms A (i 0).val (i 1).val (i 2).val)
  (M : ℕ → ℕ → ℝ) (hM : ∀ (h : Fin 8) (t : Fin 4096), Finset.univ.fold max (⊥ : EReal) (fun u : Fin 4096 => ms A h.val t.val u.val) = (M h.val t.val : EReal))

include h17 hM

theorem lineBm_max : (after lineBm V (Proc.devRef .tc main_v18) : FVec Ideal S8x4096 .f32) = fun i => (M (i 0).val (i 1).val : EReal) := by
  funext i; obtain ⟨h, t, rfl⟩ : ∃ h t, i = ix2 h t := ⟨_, _, eq_ix2 i⟩
  after_results_simp
  pointwise [h17]
  rw [neg_inf]
  exact hM h t

theorem lineBe_e (h18 : (V (Proc.devRef .tc main_v18) : FVec Ideal S8x4096 .f32) = fun i => (M (i 0).val (i 1).val : EReal)) :
    (after lineBe V (Proc.devRef .tc main_v38) : FVec Ideal S8x4096x4096 .f32) = fun i => (E A (M (i 0).val (i 1).val) (i 0).val (i 1).val (i 2).val : EReal) := by
  funext i; obtain ⟨h, t, u, rfl⟩ : ∃ h t u, i = ix3 h t u := ⟨_, _, _, eq_ix3 i⟩
  after_results_simp
  pointwise [h17, h18]
  rw [neg_inf, max_eq_right bot_le]
  exact exp_ms A _ h.val t.val u.val

theorem lineB_e : (after lineB V (Proc.devRef .tc main_v38) : FVec Ideal S8x4096x4096 .f32) = fun i => (E A (M (i 0).val (i 1).val) (i 0).val (i 1).val (i 2).val : EReal) := by
  have h18 := lineBm_max A V h17 M hM
  have hk : after lineBm V (Proc.devRef .tc main_v17_0) = V (Proc.devRef .tc main_v17_0) := by after_results_simp
  have he := lineBe_e A (after lineBm V) (hk.trans h17) M hM h18
  have hk' : after lineBs (after lineBe (after lineBm V)) (Proc.devRef .tc main_v38) = after lineBe (after lineBm V) (Proc.devRef .tc main_v38) := by
    generalize after lineBe (after lineBm V) = W
    after_results_simp
  rw [lineB_cut]
  exact hk'.trans he

end Weights

section Denominator

variable (M : ℕ → ℕ → ℝ) (h38 : (V (Proc.devRef .tc main_v38) : FVec Ideal S8x4096x4096 .f32) = fun i => (E A (M (i 0).val (i 1).val) (i 0).val (i 1).val (i 2).val : EReal))

include h38

theorem lineBs_sum : (after lineBs V (Proc.devRef .tc main_v40) : FVec Ideal S8x4096x1 .f32) = fun i => ((Z A (i 0).val (i 1).val * Real.exp (-(M (i 0).val (i 1).val)) : ℝ) : EReal) := by
  funext i; obtain ⟨h, t, u, rfl⟩ : ∃ h t u, i = ix3 h t u := ⟨_, _, _, eq_ix3 i⟩
  after_results_simp
  pointwise [h38]
  exact sum_E A _ h.val t.val

theorem lineBs_P : (after lineBs V (Proc.devRef .tc main_v42) : FVec Ideal S8x4096x4096 .f32) = fun i => (P A (i 0).val (i 1).val (i 2).val : EReal) := by
  funext i; obtain ⟨h, t, u, rfl⟩ : ∃ h t u, i = ix3 h t u := ⟨_, _, _, eq_ix3 i⟩
  after_results_simp
  pointwise [h38]
  rw [sum_E A _ h.val t.val]
  exact div_E A _ h.val t u.val

theorem lineBs_sq : (after lineBs V (Proc.devRef .tc main_v45) : FVec Ideal S8x4096x1 .f32) = fun i => ((1 * (1 / (Z A (i 0).val (i 1).val * Real.exp (-(M (i 0).val (i 1).val)) * (Z A (i 0).val (i 1).val * Real.exp (-(M (i 0).val (i 1).val))))) : ℝ) : EReal) := by
  funext i; obtain ⟨h, t, u, rfl⟩ : ∃ h t u, i = ix3 h t u := ⟨_, _, _, eq_ix3 i⟩
  after_results_simp
  pointwise [h38]
  rw [sum_E A _ h.val t.val, ← EReal.coe_mul, Ideal.div_coe (mul_pos (ZM_pos A _ h.val t) (ZM_pos A _ h.val t)).ne', one_mul]

end Denominator

theorem lineB_v (hA : Holds A V) : (after lineB V (Proc.devRef .tc main_v46) : FVec Ideal S4096x8x64 .f32) = fun i => (A.v (i 0).val (64 * (i 1).val + (i 2).val) : EReal) := by
  funext i; obtain ⟨h, t, u, rfl⟩ : ∃ h t u, i = ix3 h t u := ⟨_, _, _, eq_ix3 i⟩
  after_results_simp
  pointwise [hA.a2, Nat.mul_comm 64]

end Cert.ReferenceIdeal.Attn

end
-- ==== Proof.RefReadC.lean ====
module

public import proofs.«01_k».proof.Proof.RefReadA
public import proofs.«01_k».proof.Proof.AttnReal
public import Idealize.ShloMosaic.Lib.Pipeline.ValueKit
public import Idealize.ShloMosaic.Lib.WordCmp

/-! The reference's results as the gradients over the real numbers. -/

@[expose] public section

set_option maxRecDepth 16384

noncomputable section

namespace Cert.ReferenceIdeal.Attn

open Cert.ReferenceIdeal Cert.ReferenceIdeal.Gen Cert.AttnReal
open Idealize.ShloMosaic Idealize.ShloMosaic.TcCoe Idealize.SL.Sem Idealize.ShloMosaic.StableHlo

variable {F : FTy → Type} [FloatOps F]

/-- The operations up to `main_v55`. -/
abbrev lineCv : List (HloOp τ sig (Elt F)) :=
  [ unary main_v47 main_v48 ((transpose S4096x8x64 [2, 0, 1] · transposes_S8x64x4096_S4096x8x64_2_0_1) : (⟨S8x64x4096, .f32⟩ : BufTy).Contents (Elt F) → (⟨S4096x8x64, .f32⟩ : BufTy).Contents (Elt F)),
    reshape main_v48 main_v49 (rfl : (.f32 : EltTy) = .f32) shapeCasts_S4096x8x64_S4096x512,
    reshape main_arg4 main_v50 (rfl : (.f32 : EltTy) = .f32) shapeCasts_S4096x512_S4096x8x64,
    unary main_v50 main_v51 ((transpose S8x64x4096 [1, 2, 0] · transposes_S4096x8x64_S8x64x4096_1_2_0) : (⟨S4096x8x64, .f32⟩ : BufTy).Contents (Elt F) → (⟨S8x64x4096, .f32⟩ : BufTy).Contents (Elt F)),
    binary main_v51 main_v46 main_v52 ((fun l r => Host.dotGeneral dot_S8x64x4096_S4096x8x64_S8x4096x4096_1_2_2_0_0_1 none l r) : (⟨S8x64x4096, .f32⟩ : BufTy).Contents (Elt F) → (⟨S4096x8x64, .f32⟩ : BufTy).Contents (Elt F) → (⟨S8x4096x4096, .f32⟩ : BufTy).Contents (Elt F)),
    binary main_v51 main_v42 main_v53 ((fun l r => Host.dotGeneral dot_S8x64x4096_S8x4096x4096_S8x64x4096_2_1_1_2_0_0 none l r) : (⟨S8x64x4096, .f32⟩ : BufTy).Contents (Elt F) → (⟨S8x4096x4096, .f32⟩ : BufTy).Contents (Elt F) → (⟨S8x64x4096, .f32⟩ : BufTy).Contents (Elt F)),
    unary main_v53 main_v54 ((transpose S4096x8x64 [2, 0, 1] · transposes_S8x64x4096_S4096x8x64_2_0_1) : (⟨S8x64x4096, .f32⟩ : BufTy).Contents (Elt F) → (⟨S4096x8x64, .f32⟩ : BufTy).Contents (Elt F)),
    reshape main_v54 main_v55 (rfl : (.f32 : EltTy) = .f32) shapeCasts_S4096x8x64_S4096x512 ]
/-- The operations up to `main_v59`. -/
abbrev lineCs : List (HloOp τ sig (Elt F)) :=
  [ unary main_v45 main_v56 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v52 main_v56 main_v57 (mulf : (⟨S8x4096x4096, .f32⟩ : BufTy).Contents (Elt F) → (⟨S8x4096x4096, .f32⟩ : BufTy).Contents (Elt F) → (⟨S8x4096x4096, .f32⟩ : BufTy).Contents (Elt F)),
    binary main_v57 main_v38 main_v58 (mulf : (⟨S8x4096x4096, .f32⟩ : BufTy).Contents (Elt F) → (⟨S8x4096x4096, .f32⟩ : BufTy).Contents (Elt F) → (⟨S8x4096x4096, .f32⟩ : BufTy).Contents (Elt F)),
    nullary main_cst_11 (constant S_ .f32 0x00000000#32),
    binary main_v58 main_cst_11 main_v59 ((fun x v => Host.reduceAdd x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)) ]
/-- The operations up to `main_v67`. -/
abbrev lineCd : List (HloOp τ sig (Elt F)) :=
  [ reshape main_v59 main_v60 (rfl : (.f32 : EltTy) = .f32) shapeCasts_S8x4096_S8x4096x1,
    unary main_v60 main_v61 (Host.negf : (⟨S8x4096x1, .f32⟩ : BufTy).Contents (Elt F) → (⟨S8x4096x1, .f32⟩ : BufTy).Contents (Elt F)),
    unary main_v40 main_v62 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    binary main_v52 main_v62 main_v63 (Host.divf : (⟨S8x4096x4096, .f32⟩ : BufTy).Contents (Elt F) → (⟨S8x4096x4096, .f32⟩ : BufTy).Contents (Elt F) → (⟨S8x4096x4096, .f32⟩ : BufTy).Contents (Elt F)),
    nullary main_cst_12 (constant S_ .f32 0x00000000#32),
    binary main_v61 main_cst_12 main_v64 ((fun x v => Host.reduceAdd x v reducesTo_S8x4096x1_S8x4096_d2 h_S_) : (⟨S8x4096x1, .f32⟩ : BufTy).Contents (Elt F) → (⟨S_, .f32⟩ : BufTy).Contents (Elt F) → (⟨S8x4096, .f32⟩ : BufTy).Contents (Elt F)),
    unary main_v64 main_v65 (broadcastInDim S8x4096x4096 ![0, 1] bcast_S8x4096_S8x4096x4096_0_1 : (⟨S8x4096, .f32⟩ : BufTy).Contents (Elt F) → (⟨S8x4096x4096, .f32⟩ : BufTy).Contents (Elt F)),
    binary main_v63 main_v65 main_v66 (addf : (⟨S8x4096x4096, .f32⟩ : BufTy).Contents (Elt F) → (⟨S8x4096x4096, .f32⟩ : BufTy).Contents (Elt F) → (⟨S8x4096x4096, .f32⟩ : BufTy).Contents (Elt F)),
    binary main_v66 main_v38 main_v67 (mulf : (⟨S8x4096x4096, .f32⟩ : BufTy).Contents (Elt F) → (⟨S8x4096x4096, .f32⟩ : BufTy).Contents (Elt F) → (⟨S8x4096x4096, .f32⟩ : BufTy).Contents (Elt F)) ]
theorem lineC_cut (V : Valuation τ sig (Elt F)) : after lineC V = after lineCd (after lineCs (after lineCv V)) := rfl

variable (A : Args) (V : Valuation τ sig (Elt Ideal))

section Grad

variable (hA : Holds A V) (M : ℕ → ℕ → ℝ)
  (h38 : (V (Proc.devRef .tc main_v38) : FVec Ideal S8x4096x4096 .f32) = fun i => (E A (M (i 0).val (i 1).val) (i 0).val (i 1).val (i 2).val : EReal))
  (h40 : (V (Proc.devRef .tc main_v40) : FVec Ideal S8x4096x1 .f32) = fun i => ((Z A (i 0).val (i 1).val * Real.exp (-(M (i 0).val (i 1).val)) : ℝ) : EReal))
  (h42 : (V (Proc.devRef .tc main_v42) : FVec Ideal S8x4096x4096 .f32) = fun i => (P A (i 0).val (i 1).val (i 2).val : EReal))
  (h45 : (V (Proc.devRef .tc main_v45) : FVec Ideal S8x4096x1 .f32) = fun i => ((1 * (1 / (Z A (i 0).val (i 1).val * Real.exp (-(M (i 0).val (i 1).val)) * (Z A (i 0).val (i 1).val * Real.exp (-(M (i 0).val (i 1).val))))) : ℝ) : EReal))
  (h46 : (V (Proc.devRef .tc main_v46) : FVec Ideal S4096x8x64 .f32) = fun i => (A.v (i 0).val (64 * (i 1).val + (i 2).val) : EReal))

include hA h42 in
theorem lineC_dv : (after lineC V (Proc.devRef .tc main_v55) : FVec Ideal S4096x512 .f32) = fun i => (DV A ((i 1).val / 64) (i 0).val ((i 1).val % 64) : EReal) := by
  funext i; obtain ⟨t, l, rfl⟩ : ∃ t l, i = ix2 t l := ⟨_, _, eq_ix2 i⟩
  after_results_simp
  pointwise [h42, hA.a4]
  have e : (DV A (l.val / 64) t.val (l.val % 64) : EReal) = ∑ x : Fin 4096, (A.D x.val (64 * (l.val / 64) + l.val % 64) : EReal) * (P A (l.val / 64) x.val t.val : EReal) := by
    rw [DV, coe_sum]
    exact Finset.sum_congr rfl fun x _ => by rw [EReal.coe_mul, mul_comm]
  rw [Nat.mul_comm 64] at e
  exact e.symm

include hA h46 in
theorem lineCv_dP : (after lineCv V (Proc.devRef .tc main_v52) : FVec Ideal S8x4096x4096 .f32) = fun i => (dP A (i 0).val (i 1).val (i 2).val : EReal) := by
  funext i; obtain ⟨h, t, u, rfl⟩ : ∃ h t u, i = ix3 h t u := ⟨_, _, _, eq_ix3 i⟩
  after_results_simp
  pointwise [h46, hA.a4]
  rw [dP, coe_sum]
  simp only [EReal.coe_mul, Nat.mul_comm 64]

end Grad

/-- A row of the weights' cotangents, each times the scale and the exponential, summed. -/
def row (R : ℕ → ℕ → ℝ) (G : ℕ → ℕ → ℕ → ℝ) (h t : ℕ) : ℝ := ∑ w : Fin 4096, dP A h t w.val * R h t * G h t w.val

theorem lineCs_row (R : ℕ → ℕ → ℝ) (G : ℕ → ℕ → ℕ → ℝ)
    (h52 : (V (Proc.devRef .tc main_v52) : FVec Ideal S8x4096x4096 .f32) = fun i => (dP A (i 0).val (i 1).val (i 2).val : EReal))
    (h45 : (V (Proc.devRef .tc main_v45) : FVec Ideal S8x4096x1 .f32) = fun i => (R (i 0).val (i 1).val : EReal))
    (h38 : (V (Proc.devRef .tc main_v38) : FVec Ideal S8x4096x4096 .f32) = fun i => (G (i 0).val (i 1).val (i 2).val : EReal)) :
    (after lineCs V (Proc.devRef .tc main_v59) : FVec Ideal S8x4096 .f32) = fun i => (row A R G (i 0).val (i 1).val : EReal) := by
  funext i; obtain ⟨h, t, rfl⟩ : ∃ h t, i = ix2 h t := ⟨_, _, eq_ix2 i⟩
  after_results_simp
  pointwise [h52, h45, h38]
  rw [row, coe_sum]
  simp only [EReal.coe_mul]

theorem lineCd_ds (L S : ℕ → ℕ → ℝ) (G : ℕ → ℕ → ℕ → ℝ) (hL : ∀ (h : Fin 8) (t : Fin 4096), L h.val t.val ≠ 0)
    (h52 : (V (Proc.devRef .tc main_v52) : FVec Ideal S8x4096x4096 .f32) = fun i => (dP A (i 0).val (i 1).val (i 2).val : EReal))
    (h40 : (V (Proc.devRef .tc main_v40) : FVec Ideal S8x4096x1 .f32) = fun i => (L (i 0).val (i 1).val : EReal))
    (h59 : (V (Proc.devRef .tc main_v59) : FVec Ideal S8x4096 .f32) = fun i => (S (i 0).val (i 1).val : EReal))
    (h38 : (V (Proc.devRef .tc main_v38) : FVec Ideal S8x4096x4096 .f32) = fun i => (G (i 0).val (i 1).val (i 2).val : EReal)) (h : Fin 8) (t u : Fin 4096) :
    (after lineCd V (Proc.devRef .tc main_v67) : FVec Ideal S8x4096x4096 .f32) (ix3 h t u) = (((dP A h.val t.val u.val * (1 / L h.val t.val) + -(S h.val t.val)) * G h.val t.val u.val : ℝ) : EReal) := by
  after_results_simp
  pointwise [h52, h40, h59, h38]

  rw [Ideal.div_coe (hL h t), EReal.coe_mul, EReal.coe_add, EReal.coe_mul, EReal.coe_neg]
  simp

theorem lineC_ds (hA : Holds A V) (M : ℕ → ℕ → ℝ)
    (h38 : (V (Proc.devRef .tc main_v38) : FVec Ideal S8x4096x4096 .f32) = fun i => (E A (M (i 0).val (i 1).val) (i 0).val (i 1).val (i 2).val : EReal))
    (h40 : (V (Proc.devRef .tc main_v40) : FVec Ideal S8x4096x1 .f32) = fun i => ((Z A (i 0).val (i 1).val * Real.exp (-(M (i 0).val (i 1).val)) : ℝ) : EReal))
    (h45 : (V (Proc.devRef .tc main_v45) : FVec Ideal S8x4096x1 .f32) = fun i => ((1 * (1 / (Z A (i 0).val (i 1).val * Real.exp (-(M (i 0).val (i 1).val)) * (Z A (i 0).val (i 1).val * Real.exp (-(M (i 0).val (i 1).val))))) : ℝ) : EReal))
    (h46 : (V (Proc.devRef .tc main_v46) : FVec Ideal S4096x8x64 .f32) = fun i => (A.v (i 0).val (64 * (i 1).val + (i 2).val) : EReal))
    (h : Fin 8) (t u : Fin 4096) (hu : u.val ≤ t.val) : (after lineC V (Proc.devRef .tc main_v67) : FVec Ideal S8x4096x4096 .f32) (ix3 h t u) = (dS A h.val t.val u.val : EReal) := by
  have h52 := lineCv_dP A V hA h46
  have k38 : after lineCv V (Proc.devRef .tc main_v38) = V (Proc.devRef .tc main_v38) := by after_results_simp
  have k40 : after lineCv V (Proc.devRef .tc main_v40) = V (Proc.devRef .tc main_v40) := by after_results_simp
  have k45 : after lineCv V (Proc.devRef .tc main_v45) = V (Proc.devRef .tc main_v45) := by after_results_simp
  rw [lineC_cut]
  generalize after lineCv V = W at h52 k38 k40 k45 ⊢
  replace k38 := k38.trans h38
  replace k40 := k40.trans h40
  replace k45 := k45.trans h45
  have h59 := lineCs_row A W (fun h t => 1 * (1 / (Z A h t * Real.exp (-(M h t)) * (Z A h t * Real.exp (-(M h t)))))) (fun h t u => E A (M h t) h t u) h52 k45 k38
  have j52 : after lineCs W (Proc.devRef .tc main_v52) = W (Proc.devRef .tc main_v52) := by after_results_simp
  have j38 : after lineCs W (Proc.devRef .tc main_v38) = W (Proc.devRef .tc main_v38) := by after_results_simp
  have j40 : after lineCs W (Proc.devRef .tc main_v40) = W (Proc.devRef .tc main_v40) := by after_results_simp
  generalize after lineCs W = U at h59 j52 j38 j40 ⊢
  rw [lineCd_ds A U (fun h t => Z A h t * Real.exp (-(M h t))) _ (fun h t u => E A (M h t) h t u) (fun h t => (ZM_pos A _ h.val t).ne') (j52.trans h52) (j40.trans k40) h59 (j38.trans k38) h t u]
  exact congrArg _ (dS_quot A (M h.val t.val) h.val t u.val hu)

theorem lineWhere2_ds (h171 : (V (Proc.devRef .tc main_v17_1) : IVec S8x4096x4096 1) = fun i => if (i 2).val ≤ (i 1).val then 1#1 else 0#1)
    (h67 : ∀ (h : Fin 8) (t u : Fin 4096), u.val ≤ t.val → (V (Proc.devRef .tc main_v67) : FVec Ideal S8x4096x4096 .f32) (ix3 h t u) = (dS A h.val t.val u.val : EReal)) :
    (after lineWhere2 V (Proc.devRef .tc main_v68) : FVec Ideal S8x4096x4096 .f32) = fun i => (dS A (i 0).val (i 1).val (i 2).val : EReal) := by
  funext i; obtain ⟨h, t, u, rfl⟩ : ∃ h t u, i = ix3 h t u := ⟨_, _, _, eq_ix3 i⟩
  after_results_simp
  pointwise [h171]
  simp only [TRef.ofBuf_toBuf, TRef.ofBuf, TRef.toBuf, cast_eq, id]
  pointwise
  by_cases hu : u.val ≤ t.val
  · refine Eq.trans ?_ (h67 h t u hu)
    have e : (if u.val ≤ t.val then 1#1 else 0#1 : BitVec 1) = 1#1 := if_pos hu
    exact congrArg (fun b : BitVec 1 => Scalar.select b _ _) e
  · rw [dS_masked A _ _ _ hu]
    have e : (if u.val ≤ t.val then 1#1 else 0#1 : BitVec 1) = 0#1 := if_neg hu
    exact congrArg (fun b : BitVec 1 => Scalar.select b _ _) e

end Cert.ReferenceIdeal.Attn

end
-- ==== Proof.RefReadD.lean ====
module

public import proofs.«01_k».proof.Proof.RefReadA
public import proofs.«01_k».proof.Proof.AttnReal
public import Idealize.ShloMosaic.Lib.Pipeline.ValueKit
public import Idealize.ShloMosaic.Lib.WordCmp

/-! The reference's results as the gradients over the real numbers. -/

@[expose] public section

set_option maxRecDepth 16384

noncomputable section

namespace Cert.ReferenceIdeal.Attn

open Cert.ReferenceIdeal Cert.ReferenceIdeal.Gen Cert.AttnReal
open Idealize.ShloMosaic Idealize.ShloMosaic.TcCoe Idealize.SL.Sem Idealize.ShloMosaic.StableHlo

variable (A : Args) (V : Valuation τ sig (Elt Ideal))

section Last

variable (h68 : (V (Proc.devRef .tc main_v68) : FVec Ideal S8x4096x4096 .f32) = fun i => (dS A (i 0).val (i 1).val (i 2).val : EReal))
  (h0 : (V (Proc.devRef .tc main_v0) : FVec Ideal S4096x8x64 .f32) = fun i => (A.q (i 0).val (64 * (i 1).val + (i 2).val) : EReal))
  (h1 : (V (Proc.devRef .tc main_v1) : FVec Ideal S4096x8x64 .f32) = fun i => (A.k (i 0).val (64 * (i 1).val + (i 2).val) : EReal))

include h68

theorem lineD_df : (after lineD V (Proc.devRef .tc main_v76) : FVec Ideal S8x4096 .f32) = fun i => (DF A (i 0).val (i 1).val : EReal) := by
  funext i; obtain ⟨h, t, rfl⟩ : ∃ h t, i = ix2 h t := ⟨_, _, eq_ix2 i⟩
  after_results_simp
  pointwise [h68]
  simp only [Fin.sum_univ_one]
  have e : (DF A h.val t.val : EReal) = ∑ x : Fin 4096, -(AttnReal.dS A h.val x.val t.val : EReal) + ∑ x : Fin 4096, (AttnReal.dS A h.val t.val x.val : EReal) := by
    rw [DF, sub_eq_neg_add, EReal.coe_add, ← Finset.sum_neg_distrib, coe_sum, coe_sum]
    simp only [EReal.coe_neg]
  exact e.symm

include h0 in
theorem lineD_dk : (after lineD V (Proc.devRef .tc main_v83) : FVec Ideal S4096x512 .f32) = fun i => (DK A ((i 1).val / 64) (i 0).val ((i 1).val % 64) : EReal) := by
  funext i; obtain ⟨t, l, rfl⟩ : ∃ t l, i = ix2 t l := ⟨_, _, eq_ix2 i⟩
  after_results_simp
  pointwise [h68, h0]
  rw [eighth, DK, coe_sum]
  simp only [EReal.coe_mul]

include h1 in
theorem lineD_dq : (after lineD V (Proc.devRef .tc main_v84) : FVec Ideal S4096x512 .f32) = fun i => (DQ A ((i 1).val / 64) (i 0).val ((i 1).val % 64) : EReal) := by
  funext i; obtain ⟨t, l, rfl⟩ : ∃ t l, i = ix2 t l := ⟨_, _, eq_ix2 i⟩
  after_results_simp
  pointwise [h68, h1]
  rw [eighth, DQ, coe_sum]
  simp only [EReal.coe_mul]

end Last

end Cert.ReferenceIdeal.Attn

end
-- ==== Proof.RefValue.lean ====
module

public import proofs.«01_k».proof.Proof.RefReadB
public import proofs.«01_k».proof.Proof.RefReadC
public import proofs.«01_k».proof.Proof.RefReadD

/-! The reference's four results as the gradients over the real numbers. -/

@[expose] public section

set_option maxRecDepth 16384

noncomputable section

namespace Cert.ReferenceIdeal.Attn

open Cert.ReferenceIdeal Cert.ReferenceIdeal.Gen Cert.AttnReal
open Idealize.ShloMosaic Idealize.ShloMosaic.TcCoe Idealize.SL.Sem Idealize.ShloMosaic.StableHlo

variable (A : Args) (V : Valuation τ sig (Elt Ideal))

/-- The rows' largest scores. -/
def top (h t : ℕ) : ℝ := if ht : t < 4096 then (fold_ms A h ⟨t, ht⟩).choose else 0

theorem top_spec (h : Fin 8) (t : Fin 4096) : Finset.univ.fold max (⊥ : EReal) (fun u : Fin 4096 => ms A h.val t.val u.val) = (top A h.val t.val : EReal) := by
  rw [top, dif_pos t.isLt]
  exact (fold_ms A h.val t).choose_spec

/-- The state after the mask is laid on the scores. -/
abbrev V1 : Valuation τ sig (Elt Ideal) := after lineWhere (after lineA V)
/-- The state after the weights and what the softmax keeps for its gradient. -/
abbrev V2 : Valuation τ sig (Elt Ideal) := after lineB (V1 V)
/-- The state after the softmax's gradient. -/
abbrev V3 : Valuation τ sig (Elt Ideal) := after lineC (V2 V)
/-- The state after the mask is laid on the scores' cotangent. -/
abbrev V4 : Valuation τ sig (Elt Ideal) := after lineWhere2 (V3 V)

variable (hA : Holds A V)
include hA

theorem V1_holds : Holds A (V1 V) :=
  (hA.of_eq (lineA_keeps _ (by decide)) (lineA_keeps _ (by decide)) (lineA_keeps _ (by decide)) (lineA_keeps _ (by decide)) (lineA_keeps _ (by decide))).of_eq
    (lineWhere_keeps _ (by decide)) (lineWhere_keeps _ (by decide)) (lineWhere_keeps _ (by decide)) (lineWhere_keeps _ (by decide)) (lineWhere_keeps _ (by decide))

theorem V2_holds : Holds A (V2 V) :=
  (V1_holds A V hA).of_eq (lineB_keeps _ (by decide)) (lineB_keeps _ (by decide)) (lineB_keeps _ (by decide)) (lineB_keeps _ (by decide)) (lineB_keeps _ (by decide))

theorem V1_ms : (V1 V (Proc.devRef .tc main_v17_0) : FVec Ideal S8x4096x4096 .f32) = fun i => ms A (i 0).val (i 1).val (i 2).val :=
  lineWhere_ms A _ (lineA_score A V hA) (lineA_mask V) (lineA_bot V)

theorem V2_e : (V2 V (Proc.devRef .tc main_v38) : FVec Ideal S8x4096x4096 .f32) = fun i => (E A (top A (i 0).val (i 1).val) (i 0).val (i 1).val (i 2).val : EReal) :=
  lineB_e A _ (V1_ms A V hA) (top A) (top_spec A)

theorem cut_e : (after lineBe (after lineBm (V1 V)) (Proc.devRef .tc main_v38) : FVec Ideal S8x4096x4096 .f32) = fun i => (E A (top A (i 0).val (i 1).val) (i 0).val (i 1).val (i 2).val : EReal) := by
  have hk : after lineBm (V1 V) (Proc.devRef .tc main_v17_0) = V1 V (Proc.devRef .tc main_v17_0) := by
    generalize V1 V = W
    after_results_simp
  exact lineBe_e A _ (hk.trans (V1_ms A V hA)) (top A) (top_spec A) (lineBm_max A _ (V1_ms A V hA) (top A) (top_spec A))

theorem V2_sum : (V2 V (Proc.devRef .tc main_v40) : FVec Ideal S8x4096x1 .f32) = fun i => ((Z A (i 0).val (i 1).val * Real.exp (-(top A (i 0).val (i 1).val)) : ℝ) : EReal) := by
  rw [V2, lineB_cut]; exact lineBs_sum A _ (top A) (cut_e A V hA)

theorem V2_P : (V2 V (Proc.devRef .tc main_v42) : FVec Ideal S8x4096x4096 .f32) = fun i => (P A (i 0).val (i 1).val (i 2).val : EReal) := by
  rw [V2, lineB_cut]; exact lineBs_P A _ (top A) (cut_e A V hA)

theorem V2_sq : (V2 V (Proc.devRef .tc main_v45) : FVec Ideal S8x4096x1 .f32) = fun i => ((1 * (1 / (Z A (i 0).val (i 1).val * Real.exp (-(top A (i 0).val (i 1).val)) * (Z A (i 0).val (i 1).val * Real.exp (-(top A (i 0).val (i 1).val))))) : ℝ) : EReal) := by
  rw [V2, lineB_cut]; exact lineBs_sq A _ (top A) (cut_e A V hA)

theorem V2_v : (V2 V (Proc.devRef .tc main_v46) : FVec Ideal S4096x8x64 .f32) = fun i => (A.v (i 0).val (64 * (i 1).val + (i 2).val) : EReal) :=
  lineB_v A _ (V1_holds A V hA)

theorem V3_ds (h : Fin 8) (t u : Fin 4096) (hu : u.val ≤ t.val) : (V3 V (Proc.devRef .tc main_v67) : FVec Ideal S8x4096x4096 .f32) (ix3 h t u) = (AttnReal.dS A h.val t.val u.val : EReal) :=
  lineC_ds A _ (V2_holds A V hA) (top A) (V2_e A V hA) (V2_sum A V hA) (V2_sq A V hA) (V2_v A V hA) h t u hu

theorem V4_ds : (V4 V (Proc.devRef .tc main_v68) : FVec Ideal S8x4096x4096 .f32) = fun i => (AttnReal.dS A (i 0).val (i 1).val (i 2).val : EReal) := by
  refine lineWhere2_ds A _ ?_ (V3_ds A V hA)
  rw [V3, lineC_keeps _ (by decide), V2, lineB_keeps _ (by decide)]
  exact lineWhere_mask _ (lineA_mask V)

theorem V4_q : (V4 V (Proc.devRef .tc main_v0) : FVec Ideal S4096x8x64 .f32) = fun i => (A.q (i 0).val (64 * (i 1).val + (i 2).val) : EReal) := by
  rw [V4, lineWhere2_keeps _ (by decide), V3, lineC_keeps _ (by decide), V2, lineB_keeps _ (by decide), V1, lineWhere_keeps _ (by decide)]
  exact lineA_q A V hA

theorem V4_k : (V4 V (Proc.devRef .tc main_v1) : FVec Ideal S4096x8x64 .f32) = fun i => (A.k (i 0).val (64 * (i 1).val + (i 2).val) : EReal) := by
  rw [V4, lineWhere2_keeps _ (by decide), V3, lineC_keeps _ (by decide), V2, lineB_keeps _ (by decide), V1, lineWhere_keeps _ (by decide)]
  exact lineA_k A V hA

/-- The gradient of the query. -/
theorem ref_dq : (after line V (Proc.devRef .tc main_v84) : FVec Ideal S4096x512 .f32) = fun i => (DQ A ((i 1).val / 64) (i 0).val ((i 1).val % 64) : EReal) := by
  rw [after_line]
  exact lineD_dq A _ (V4_ds A V hA) (V4_k A V hA)

/-- The gradient of the key. -/
theorem ref_dk : (after line V (Proc.devRef .tc main_v83) : FVec Ideal S4096x512 .f32) = fun i => (DK A ((i 1).val / 64) (i 0).val ((i 1).val % 64) : EReal) := by
  rw [after_line]
  exact lineD_dk A _ (V4_ds A V hA) (V4_q A V hA)

/-- The gradient of the value. -/
theorem ref_dv : (after line V (Proc.devRef .tc main_v55) : FVec Ideal S4096x512 .f32) = fun i => (DV A ((i 1).val / 64) (i 0).val ((i 1).val % 64) : EReal) := by
  rw [after_line, lineD_keeps _ (by decide), lineWhere2_keeps _ (by decide)]
  exact lineC_dv A _ (V2_holds A V hA) (V2_P A V hA)

/-- The gradient of the decay. -/
theorem ref_df : (after line V (Proc.devRef .tc main_v76) : FVec Ideal S8x4096 .f32) = fun i => (DF A (i 0).val (i 1).val : EReal) := by
  rw [after_line]
  exact lineD_df A _ (V4_ds A V hA)

end Cert.ReferenceIdeal.Attn

end
-- ==== Proof.Finite.lean ====
module

public import proofs.«01_k».proof.Defs
public import proofs.«01_k».proof.Proof.AttnReal
public import Idealize.ShloMosaic.Lib.Pipeline.ValueKit
public import Idealize.ShloMosaic.Lib.ReduceAll
public import Idealize.ShloMosaic.Lib.WordCmp

/-! The precondition read back: every element of every argument is a real number. -/

@[expose] public section

set_option maxRecDepth 16384

noncomputable section

namespace Cert.Finite

open Idealize.ShloMosaic Cert.AttnReal Cert.Pre_finite

/-- The predicate's shape relations. -/
theorem facts : Cert.Pre_finite.Facts := by
  refine ⟨?_, ?_, ?_, ?_, ?_⟩
  all_goals decide

theorem inf_top : Ideal.ofBits FTy.f32 2139095040#32 = ⊤ := by
  simp [Ideal.ofBits, Ideal.ieee]

/-- A number whose absolute value is below infinity is a real number. -/
theorem real_of_lt {x : EReal} (h : max x (-x) < ⊤) : x = ((x.toReal : ℝ) : EReal) := by
  have h1 := lt_of_le_of_lt (le_max_left x (-x)) h
  have h2 := lt_of_le_of_lt (le_max_right x (-x)) h
  refine (EReal.coe_toReal h1.ne ?_).symm
  rintro rfl
  exact absurd h2 (by simp)

/-- The real numbers of an array of rows, zero outside it. -/
def wide (x : FVec Ideal S4096x512 .f32) (t l : ℕ) : ℝ := if h : t < 4096 ∧ l < 512 then (x (ix2 (⟨t, h.1⟩ : Fin 4096) (⟨l, h.2⟩ : Fin 512))).toReal else 0

/-- The real numbers of an array of heads, zero outside it. -/
def slim (x : FVec Ideal S8x4096 .f32) (t l : ℕ) : ℝ := if h : t < 8 ∧ l < 4096 then (x (ix2 (⟨t, h.1⟩ : Fin 8) (⟨l, h.2⟩ : Fin 4096))).toReal else 0

variable [Cert.Pre_finite.Facts]

theorem real_wide (x : FVec Ideal S4096x512 .f32)
    (h : Host.reduce IntOp.andi (cmpf .olt (Host.absf x) (broadcastInDim S4096x512 ![] Facts.bcast_S_S4096x512 (constant S_ .f32 0x7F800000#32))) (constantI S_ 1 1#1) Facts.reducesTo_S4096x512_S_d0_1 Facts.h_S_ ix0 = 1#1) :
    x = fun i => (wide x (i 0).val (i 1).val : EReal) := by
  haveI : Subsingleton S_.Idx := ⟨fun a b => funext fun j => j.elim0⟩
  funext i
  have e := Host.reduce_andi_all _ _ _ _ _ h i
  obtain ⟨t, l, rfl⟩ : ∃ t l, i = ix2 t l := ⟨_, _, eq_ix2 i⟩
  pointwise at e
  rw [inf_top] at e
  have r : x (ix2 t l) = (((x (ix2 t l)).toReal : ℝ) : EReal) := by
    refine real_of_lt (of_decide_eq_true (p := FloatOps.absf (x (ix2 t l)) < (⊤ : EReal)) ?_)
    cases hd : decide (FloatOps.absf (x (ix2 t l)) < (⊤ : EReal)) with
    | true => rfl
    | false => rw [hd] at e; exact absurd e (by decide)
  refine r.trans ?_
  show _ = ((wide x t.val l.val : ℝ) : EReal)
  rw [wide, dif_pos ⟨t.isLt, l.isLt⟩]

theorem real_slim (x : FVec Ideal S8x4096 .f32)
    (h : Host.reduce IntOp.andi (cmpf .olt (Host.absf x) (broadcastInDim S8x4096 ![] Facts.bcast_S_S8x4096 (constant S_ .f32 0x7F800000#32))) (constantI S_ 1 1#1) Facts.reducesTo_S8x4096_S_d0_1 Facts.h_S_ ix0 = 1#1) :
    x = fun i => (slim x (i 0).val (i 1).val : EReal) := by
  haveI : Subsingleton S_.Idx := ⟨fun a b => funext fun j => j.elim0⟩
  funext i
  have e := Host.reduce_andi_all _ _ _ _ _ h i
  obtain ⟨t, l, rfl⟩ : ∃ t l, i = ix2 t l := ⟨_, _, eq_ix2 i⟩
  pointwise at e
  rw [inf_top] at e
  have r : x (ix2 t l) = (((x (ix2 t l)).toReal : ℝ) : EReal) := by
    refine real_of_lt (of_decide_eq_true (p := FloatOps.absf (x (ix2 t l)) < (⊤ : EReal)) ?_)
    cases hd : decide (FloatOps.absf (x (ix2 t l)) < (⊤ : EReal)) with
    | true => rfl
    | false => rw [hd] at e; exact absurd e (by decide)
  refine r.trans ?_
  show _ = ((slim x t.val l.val : ℝ) : EReal)
  rw [slim, dif_pos ⟨t.isLt, l.isLt⟩]

/-- The arguments' real numbers. -/
def reals (x0 x1 x2 : FVec Ideal S4096x512 .f32) (x3 : FVec Ideal S8x4096 .f32) (x4 : FVec Ideal S4096x512 .f32) : Args where
  q := wide x0
  k := wide x1
  v := wide x2
  D := wide x4
  F := slim x3

theorem read (x0 x1 x2 : FVec Ideal S4096x512 .f32) (x3 : FVec Ideal S8x4096 .f32) (x4 : FVec Ideal S4096x512 .f32)
    (h : Cert.Pre_finite.fn x0 x1 x2 x3 x4 = fun _ => 1#1) :
    x0 = (fun i => ((reals x0 x1 x2 x3 x4).q (i 0).val (i 1).val : EReal)) ∧ x1 = (fun i => ((reals x0 x1 x2 x3 x4).k (i 0).val (i 1).val : EReal))
      ∧ x2 = (fun i => ((reals x0 x1 x2 x3 x4).v (i 0).val (i 1).val : EReal)) ∧ x3 = (fun i => ((reals x0 x1 x2 x3 x4).F (i 0).val (i 1).val : EReal))
      ∧ x4 = (fun i => ((reals x0 x1 x2 x3 x4).D (i 0).val (i 1).val : EReal)) := by
  have e := congrFun h ix0
  unfold Cert.Pre_finite.fn Cert.Pre_finite.fn_part1 at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_wide x0 e0, real_wide x1 e1, real_wide x2 e2, real_slim x3 e3, real_wide x4 e4⟩

end Cert.Finite

end
-- ==== Proof.FfnDown.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

/-! The gradient of a feed-forward network's last weight: the call's array and the reference's, each a sum over the
tokens. -/

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

theorem entry0 (c : Dev nD) (i : S4096x2816.Idx) : (V m c main_v0 : FVec Ideal S4096x2816 .bf16) i = (m ((c : Thread nD τ).loc main_arg0) : FVec Ideal S4096x2816 .f32) i := by
  obtain ⟨a, b, rfl⟩ : ∃ a b, i = ix2 a b := ⟨_, _, eq_ix2 i⟩
  unfold V hostOps0
  after_results_simp
  pointwise

theorem entry1 (c : Dev nD) (i : S4096x1024.Idx) : (V m c main_v1 : FVec Ideal S4096x1024 .bf16) i = (m ((c : Thread nD τ).loc main_arg1) : FVec Ideal S4096x1024 .f32) i := by
  obtain ⟨a, b, rfl⟩ : ∃ a b, i = ix2 a b := ⟨_, _, eq_ix2 i⟩
  unfold V hostOps0
  after_results_simp
  pointwise

/-- The product of two columns, summed over the tokens. -/
def grad (x : FVec Ideal S4096x2816 .f32) (g : FVec Ideal S4096x1024 .f32) (a : Fin 2816) (b : Fin 1024) : EReal :=
  ∑ t : Fin 4096, x (ix2 t a) * g (ix2 t b)

/-- The same product over the blocks of one step. -/
def blockGrad (x : FVec Ideal S4096x256 .bf16) (g : FVec Ideal S4096x1024 .bf16) (a : Fin 256) (b : Fin 1024) : EReal :=
  ∑ t : Fin 4096, x (ix2 t a) * g (ix2 t b)

theorem blk0 (c : Dev nD) (t : Fin cfg0.N) (k : Fin 4096) (a : Fin 256) (i : Fin 2816) (hi : i.val = t.val * 256 + a.val) :
    (iblk m c 0 t : FVec Ideal S4096x256 .bf16) (ix2 k a) = (m ((c : Thread nD τ).loc main_arg0) : FVec Ideal S4096x2816 .f32) (ix2 k i) := by
  blk_simp [iblk]
  rw [entry0]
  blk_ext [idx t, hi]

theorem blk1 (c : Dev nD) (t : Fin cfg0.N) (k : Fin 4096) (b : Fin 1024) :
    (iblk m c 1 t : FVec Ideal S4096x1024 .bf16) (ix2 k b) = (m ((c : Thread nD τ).loc main_arg1) : FVec Ideal S4096x1024 .f32) (ix2 k b) := by
  blk_simp [iblk]
  rw [entry1]
  blk_ext [idx t]

theorem arr2 (c : Dev nD) : (dats m 0 c).arrAt 2 (cfgs 0).N = fun y : S2816x1024.Idx =>
    grad (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  frame_out
  obtain ⟨a, b, rfl⟩ : ∃ a b, y = ix2 a b := ⟨_, _, eq_ix2 y⟩
  pointwise [k0_pay1, grad]
  refine Eq.trans (b := blockGrad (iblk m c 0 t) (iblk m c 1 t) a b) rfl ?_
  unfold blockGrad
  have ha : (((View.whole main_v2).slice (win0_2.rect t)).emb (ix2 a b) 0).val = t.val * 256 + a.val := by
    blk_simp [idx t]
  have hb : ((View.whole main_v2).slice (win0_2.rect t)).emb (ix2 a b) 1 = b := by
    apply Fin.ext
    blk_simp [idx t]
  rw [hb]
  refine Finset.sum_congr rfl fun k _ => ?_
  rw [blk0 m c t k a _ ha, blk1]

end Cert.Kernel2Ideal.Ffn

end
-- ==== Proof.FfnGrads.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

/-! The gradients of a feed-forward network's two first weights: the call's arrays and the reference's, each a sum over the
tokens. -/

@[expose] public section

set_option maxRecDepth 16384

noncomputable section

namespace Cert.Kernel3Ideal.Ffn

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val] ∧ win0_1.index t = ![0, t.val] ∧ win0_2.index t = ![0, 0] ∧
    win0_3.index t = ![t.val, 0] ∧ win0_4.index t = ![t.val, 0] :=
  (by decide +kernel : ∀ t : Fin grid0.N, _)

theorem entry0 (c : Dev nD) (i : S4096x2816.Idx) : (V m c main_v0 : FVec Ideal S4096x2816 .bf16) i = (m ((c : Thread nD τ).loc main_arg1) : FVec Ideal S4096x2816 .f32) i := by
  obtain ⟨a, b, rfl⟩ : ∃ a b, i = ix2 a b := ⟨_, _, eq_ix2 i⟩
  unfold V hostOps0
  after_results_simp
  pointwise

theorem entry1 (c : Dev nD) (i : S4096x2816.Idx) : (V m c main_v1 : FVec Ideal S4096x2816 .bf16) i = (m ((c : Thread nD τ).loc main_arg2) : FVec Ideal S4096x2816 .f32) i := by
  obtain ⟨a, b, rfl⟩ : ∃ a b, i = ix2 a b := ⟨_, _, eq_ix2 i⟩
  unfold V hostOps0
  after_results_simp
  pointwise

theorem entry2 (c : Dev nD) (i : S4096x1024.Idx) : (V m c main_v2 : FVec Ideal S4096x1024 .bf16) i = (m ((c : Thread nD τ).loc main_arg0) : FVec Ideal S4096x1024 .f32) i := by
  obtain ⟨a, b, rfl⟩ : ∃ a b, i = ix2 a b := ⟨_, _, eq_ix2 i⟩
  unfold V hostOps0
  after_results_simp
  pointwise

/-- The product of two columns, summed over the tokens. -/
def grad (x : FVec Ideal S4096x2816 .f32) (g : FVec Ideal S4096x1024 .f32) (a : Fin 2816) (b : Fin 1024) : EReal :=
  ∑ t : Fin 4096, x (ix2 t a) * g (ix2 t b)

/-- The same product over the blocks of one step. -/
def blockGrad (x : FVec Ideal S4096x256 .bf16) (g : FVec Ideal S4096x1024 .bf16) (a : Fin 256) (b : Fin 1024) : EReal :=
  ∑ t : Fin 4096, x (ix2 t a) * g (ix2 t b)

theorem blk0 (c : Dev nD) (t : Fin cfg0.N) (k : Fin 4096) (a : Fin 256) (i : Fin 2816) (hi : i.val = t.val * 256 + a.val) :
    (iblk m c 0 t : FVec Ideal S4096x256 .bf16) (ix2 k a) = (m ((c : Thread nD τ).loc main_arg1) : FVec Ideal S4096x2816 .f32) (ix2 k i) := by
  blk_simp [iblk]
  rw [entry0]
  blk_ext [idx t, hi]

theorem blk1 (c : Dev nD) (t : Fin cfg0.N) (k : Fin 4096) (a : Fin 256) (i : Fin 2816) (hi : i.val = t.val * 256 + a.val) :
    (iblk m c 1 t : FVec Ideal S4096x256 .bf16) (ix2 k a) = (m ((c : Thread nD τ).loc main_arg2) : FVec Ideal S4096x2816 .f32) (ix2 k i) := by
  blk_simp [iblk]
  rw [entry1]
  blk_ext [idx t, hi]

theorem blk2 (c : Dev nD) (t : Fin cfg0.N) (k : Fin 4096) (b : Fin 1024) :
    (iblk m c 2 t : FVec Ideal S4096x1024 .bf16) (ix2 k b) = (m ((c : Thread nD τ).loc main_arg0) : FVec Ideal S4096x1024 .f32) (ix2 k b) := by
  blk_simp [iblk]
  rw [entry2]
  blk_ext [idx t]

theorem arr3 (c : Dev nD) : (dats m 0 c).arrAt 3 (cfgs 0).N = fun y : S2816x1024.Idx =>
    grad (m ((c : Thread nD τ).loc main_arg1)) (m ((c : Thread nD τ).loc main_arg0)) (y 0) (y 1) := by
  refine (dats m 0 c).arrAt_eq_of_covers 3 _ (by decide +kernel) fun t hf y => ?_
  blk_simp
  rw [after0_3]
  frame_out
  obtain ⟨a, b, rfl⟩ : ∃ a b, y = ix2 a b := ⟨_, _, eq_ix2 y⟩
  pointwise [k0_pay2, k0_pay1, grad]
  refine Eq.trans (b := blockGrad (iblk m c 0 t) (iblk m c 2 t) a b) rfl ?_
  unfold blockGrad
  have ha : (((View.whole main_v3_0).slice (win0_3.rect t)).emb (ix2 a b) 0).val = t.val * 256 + a.val := by
    blk_simp [idx t]
  have hb : ((View.whole main_v3_0).slice (win0_3.rect t)).emb (ix2 a b) 1 = b := by
    apply Fin.ext
    blk_simp [idx t]
  rw [hb]
  refine Finset.sum_congr rfl fun k _ => ?_
  rw [blk0 m c t k a _ ha, blk2]

theorem arr4 (c : Dev nD) : (dats m 0 c).arrAt 4 (cfgs 0).N = fun y : S2816x1024.Idx =>
    grad (m ((c : Thread nD τ).loc main_arg2)) (m ((c : Thread nD τ).loc main_arg0)) (y 0) (y 1) := by
  refine (dats m 0 c).arrAt_eq_of_covers 4 _ (by decide +kernel) fun t hf y => ?_
  blk_simp
  rw [after0_4]
  frame_out
  obtain ⟨a, b, rfl⟩ : ∃ a b, y = ix2 a b := ⟨_, _, eq_ix2 y⟩
  pointwise [k0_pay3, k0_pay1, grad]
  refine Eq.trans (b := blockGrad (iblk m c 1 t) (iblk m c 2 t) a b) rfl ?_
  unfold blockGrad
  have ha : (((View.whole main_v3_1).slice (win0_4.rect t)).emb (ix2 a b) 0).val = t.val * 256 + a.val := by
    blk_simp [idx t]
  have hb : ((View.whole main_v3_1).slice (win0_4.rect t)).emb (ix2 a b) 1 = b := by
    apply Fin.ext
    blk_simp [idx t]
  rw [hb]
  refine Finset.sum_congr rfl fun k _ => ?_
  rw [blk1 m c t k a _ ha, blk2]

end Cert.Kernel3Ideal.Ffn

end
-- ==== Proof.SwiGlu.lean ====
module

public import proofs.«01_k».proof.Defs
public import proofs.«01_k».proof.Proof.Finite

/-! The gate of a feed-forward network at one number: its derivative written the call's way and the reference's, equal at
real numbers. -/

@[expose] public section

set_option maxRecDepth 16384

noncomputable section

namespace Cert.SwiGlu

open Idealize.ShloMosaic

/-- An extended number that is a real one. -/
def IsReal (x : EReal) : Prop := ∃ r : ℝ, x = (r : EReal)

/-- The logistic function, by its expression. -/
def sg (x : EReal) : EReal := Ideal.div 1 (1 + Ideal.exp (-x))

theorem logistic_eq (x : EReal) : Ideal.logistic x = sg x := rfl

/-- The gate itself. -/
def silu (a : EReal) : EReal := a * sg a

/-- The gate's derivative, written with what the forward call keeps. -/
def slope (a u : EReal) : EReal := u * (sg a + a * sg a * (1 - sg a))

/-- The gate's derivative times what comes back, written term by term. -/
def back (a w : EReal) : EReal := w * sg a + a * w * (sg a * (1 - sg a))

theorem IsReal.sg {a : EReal} (ha : IsReal a) : IsReal (sg a) := by
  obtain ⟨r, rfl⟩ := ha
  refine ⟨1 * (1 + Real.exp (-r))⁻¹, ?_⟩
  have h1 : (1 : EReal) + Ideal.exp (-(r : EReal)) = ((1 + Real.exp (-r) : ℝ) : EReal) := by
    rw [← EReal.coe_neg]
    show (1 : EReal) + ((Real.exp (-r) : ℝ) : EReal) = _
    push_cast
    rfl
  have h2 : (1 + Real.exp (-r) : ℝ) ≠ 0 := by positivity
  have h3 : ((1 + Real.exp (-r) : ℝ) : EReal) ≠ 0 := by exact_mod_cast h2
  unfold Cert.SwiGlu.sg
  rw [h1, Ideal.div, if_neg h3]
  norm_cast

theorem IsReal.mul {a b : EReal} (ha : IsReal a) (hb : IsReal b) : IsReal (a * b) := by
  obtain ⟨r, rfl⟩ := ha
  obtain ⟨s, rfl⟩ := hb
  exact ⟨r * s, by push_cast; rfl⟩

theorem IsReal.sum {n : ℕ} {f : Fin n → EReal} (h : ∀ i, IsReal (f i)) : IsReal (∑ i, f i) := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

theorem mul_slope {d a u : EReal} (hd : IsReal d) (ha : IsReal a) (hu : IsReal u) : d * slope a u = back a (d * u) := by
  obtain ⟨s, hs⟩ := ha.sg
  unfold slope back
  rw [hs]
  obtain ⟨d, rfl⟩ := hd
  obtain ⟨a, rfl⟩ := ha
  obtain ⟨u, rfl⟩ := hu
  have h1 : (1 : EReal) = ((1 : ℝ) : EReal) := rfl
  rw [h1]
  simp only [← EReal.coe_mul, ← EReal.coe_add, ← EReal.coe_sub]
  congr 1
  ring

theorem slope_eq {a u : EReal} (ha : IsReal a) (hu : IsReal u) : slope a u = back a u := by
  have h := mul_slope (d := 1) ⟨1, rfl⟩ ha hu
  rwa [one_mul, one_mul] at h

/-- A predicate's conjunct read back: below infinity in absolute value everywhere, so real everywhere. -/
theorem real_all {s : Shape} (x : FVec Ideal s .f32) (hb : (⟨0, ![]⟩ : Shape).BroadcastsInDim s (![] : Fin 0 → Fin s.rank)) (dims : List (Fin s.rank))
    (hr : s.ReducesTo dims (⟨0, ![]⟩ : Shape)) (h0 : 0 < (⟨0, ![]⟩ : Shape).numel)
    (h : Host.reduce IntOp.andi (cmpf .olt (Host.absf x) (broadcastInDim s ![] hb (constant (⟨0, ![]⟩ : Shape) .f32 0x7F800000#32))) (constantI (⟨0, ![]⟩ : Shape) 1 1#1) hr h0 ix0 = 1#1)
    (i : s.Idx) : IsReal (x i) := by
  haveI : Subsingleton (⟨0, ![]⟩ : Shape).Idx := ⟨fun a b => funext fun j => j.elim0⟩
  have e := Host.reduce_andi_all _ _ _ _ _ h i
  pointwise at e
  rw [Cert.Finite.inf_top] at e
  refine ⟨_, Cert.Finite.real_of_lt (of_decide_eq_true (p := FloatOps.absf (x i) < (⊤ : EReal)) ?_)⟩
  cases hd : decide (FloatOps.absf (x i) < (⊤ : EReal)) with
  | true => rfl
  | false => rw [hd] at e; exact absurd e (by decide)

theorem facts4 : Cert.Pre_finite4.Facts := by
  refine ⟨?_, ?_, ?_, ?_, ?_, ?_, ?_⟩
  all_goals decide

theorem facts5 : Cert.Pre_finite5.Facts := by
  refine ⟨?_, ?_, ?_, ?_, ?_⟩
  all_goals decide

theorem read4 [Cert.Pre_finite4.Facts] (x0 x1 : FVec Ideal Cert.Pre_finite4.S4096x2816 .f32) (x2 : FVec Ideal Cert.Pre_finite4.S2816x1024 .f32) (x3 : FVec Ideal Cert.Pre_finite4.S4096x1024 .f32)
    (h : Cert.Pre_finite4.fn x0 x1 x2 x3 = fun _ => 1#1) :
    (∀ i, IsReal (x0 i)) ∧ (∀ i, IsReal (x1 i)) ∧ (∀ i, IsReal (x2 i)) ∧ ∀ i, IsReal (x3 i) := by
  have e := congrFun h ix0
  unfold Cert.Pre_finite4.fn Cert.Pre_finite4.fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨real_all x0 _ _ _ _ e0, real_all x1 _ _ _ _ e1, real_all x2 _ _ _ _ e2, real_all x3 _ _ _ _ e3⟩

theorem read5 [Cert.Pre_finite5.Facts] (x0 : FVec Ideal Cert.Pre_finite5.S4096x1024 .f32) (x1 x2 : FVec Ideal Cert.Pre_finite5.S1024x2816 .f32)
    (h : Cert.Pre_finite5.fn x0 x1 x2 = fun _ => 1#1) :
    (∀ i, IsReal (x0 i)) ∧ (∀ i, IsReal (x1 i)) ∧ ∀ i, IsReal (x2 i) := by
  have e := congrFun h ix0
  unfold Cert.Pre_finite5.fn at e
  dsimp only at e
  obtain ⟨e, e2⟩ := IntOp.andi_eq_one.1 e
  obtain ⟨e0, e1⟩ := IntOp.andi_eq_one.1 e
  exact ⟨real_all x0 _ _ _ _ e0, real_all x1 _ _ _ _ e1, real_all x2 _ _ _ _ e2⟩

end Cert.SwiGlu

end
-- ==== Proof.FfnDact.lean ====
module

public import proofs.«01_k».proof.Defs
public import proofs.«01_k».proof.Proof.Gen.Kernel4Ideal.Value
public import proofs.«01_k».proof.Proof.Gen.Reference4Ideal.Run
public import proofs.«01_k».proof.Proof.SwiGlu
public import Idealize.ShloMosaic.Lib.Pipeline.ValueKit
public import Idealize.ShloMosaic.Lib.Pointwise
public import Idealize.ShloMosaic.Lib.Claim

/-! The gradients of the two inputs of a feed-forward network's gate: the call's arrays at an index. -/

@[expose] public section

set_option maxRecDepth 16384

noncomputable section

namespace Cert.Kernel4Ideal.Ffn

open Cert.Kernel4Ideal Cert.Kernel4Ideal.Gen Cert.SwiGlu
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧
    win0_3.index t = ![t.val / 2, t.val % 2] ∧ win0_4.index t = ![t.val / 2, t.val % 2] ∧ win0_5.index t = ![t.val / 2, t.val % 2] :=
  (by decide +kernel : ∀ t : Fin grid0.N, _)

theorem entry0 (c : Dev nD) (i : S4096x1024.Idx) : (V m c main_v13 : FVec Ideal S4096x1024 .bf16) i = (m ((c : Thread nD τ).loc main_arg3) : FVec Ideal S4096x1024 .f32) i := by
  obtain ⟨a, b, rfl⟩ : ∃ a b, i = ix2 a b := ⟨_, _, eq_ix2 i⟩
  unfold V hostOps0
  after_results_simp
  pointwise

theorem entry1 (c : Dev nD) (i : S2816x1024.Idx) : (V m c main_v14 : FVec Ideal S2816x1024 .bf16) i = (m ((c : Thread nD τ).loc main_arg2) : FVec Ideal S2816x1024 .f32) i := by
  obtain ⟨a, b, rfl⟩ : ∃ a b, i = ix2 a b := ⟨_, _, eq_ix2 i⟩
  unfold V hostOps0
  after_results_simp
  pointwise

theorem entry2 (c : Dev nD) (i : S4096x2816.Idx) : (V m c main_v12 : FVec Ideal S4096x2816 .bf16) i = slope ((m ((c : Thread nD τ).loc main_arg0) : FVec Ideal S4096x2816 .f32) i) ((m ((c : Thread nD τ).loc main_arg1) : FVec Ideal S4096x2816 .f32) i) := by
  obtain ⟨a, b, rfl⟩ : ∃ a b, i = ix2 a b := ⟨_, _, eq_ix2 i⟩
  unfold V hostOps0
  after_results_simp
  pointwise
  rfl

theorem entry3 (c : Dev nD) (i : S4096x2816.Idx) : (V m c main_v15 : FVec Ideal S4096x2816 .bf16) i = silu ((m ((c : Thread nD τ).loc main_arg0) : FVec Ideal S4096x2816 .f32) i) := by
  obtain ⟨a, b, rfl⟩ : ∃ a b, i = ix2 a b := ⟨_, _, eq_ix2 i⟩
  unfold V hostOps0
  after_results_simp
  pointwise
  rfl

/-- What comes back through the last product. -/
def through (g : FVec Ideal S4096x1024 .f32) (w : FVec Ideal S2816x1024 .f32) (t : Fin 4096) (f : Fin 2816) : EReal :=
  ∑ d : Fin 1024, g (ix2 t d) * w (ix2 f d)

/-- The gradient of the gate's first input. -/
def gradGate (a u : FVec Ideal S4096x2816 .f32) (w : FVec Ideal S2816x1024 .f32) (g : FVec Ideal S4096x1024 .f32) (t : Fin 4096) (f : Fin 2816) : EReal :=
  through g w t f * slope (a (ix2 t f)) (u (ix2 t f))

/-- The gradient of the gate's second input. -/
def gradUp (a : FVec Ideal S4096x2816 .f32) (w : FVec Ideal S2816x1024 .f32) (g : FVec Ideal S4096x1024 .f32) (t : Fin 4096) (f : Fin 2816) : EReal :=
  through g w t f * silu (a (ix2 t f))

/-- What comes back through the last product, over the blocks of one step. -/
def blockThrough (g : FVec Ideal S512x1024 .bf16) (w : FVec Ideal S1408x1024 .bf16) (t : Fin 512) (f : Fin 1408) : EReal :=
  ∑ d : Fin 1024, g (ix2 t d) * w (ix2 f d)

theorem blk0 (c : Dev nD) (t : Fin cfg0.N) (a : Fin 512) (k : Fin 1024) (i : Fin 4096) (hi : i.val = t.val / 2 * 512 + a.val) :
    (iblk m c 0 t : FVec Ideal S512x1024 .bf16) (ix2 a k) = (m ((c : Thread nD τ).loc main_arg3) : FVec Ideal S4096x1024 .f32) (ix2 i k) := by
  blk_simp [iblk]
  rw [entry0]
  blk_ext [idx t, hi]

theorem blk1 (c : Dev nD) (t : Fin cfg0.N) (b : Fin 1408) (k : Fin 1024) (j : Fin 2816) (hj : j.val = t.val % 2 * 1408 + b.val) :
    (iblk m c 1 t : FVec Ideal S1408x1024 .bf16) (ix2 b k) = (m ((c : Thread nD τ).loc main_arg2) : FVec Ideal S2816x1024 .f32) (ix2 j k) := by
  blk_simp [iblk]
  rw [entry1]
  blk_ext [idx t, hj]

theorem blk2 (c : Dev nD) (t : Fin cfg0.N) (a : Fin 512) (b : Fin 1408) (i : Fin 4096) (hi : i.val = t.val / 2 * 512 + a.val)
    (j : Fin 2816) (hj : j.val = t.val % 2 * 1408 + b.val) :
    (iblk m c 2 t : FVec Ideal S512x1408 .bf16) (ix2 a b) = slope ((m ((c : Thread nD τ).loc main_arg0) : FVec Ideal S4096x2816 .f32) (ix2 i j)) ((m ((c : Thread nD τ).loc main_arg1) : FVec Ideal S4096x2816 .f32) (ix2 i j)) := by
  blk_simp [iblk]
  rw [entry2]
  refine congrArg₂ slope ?_ ?_
  · blk_ext [idx t, hi, hj]
  · blk_ext [idx t, hi, hj]

theorem blk3 (c : Dev nD) (t : Fin cfg0.N) (a : Fin 512) (b : Fin 1408) (i : Fin 4096) (hi : i.val = t.val / 2 * 512 + a.val)
    (j : Fin 2816) (hj : j.val = t.val % 2 * 1408 + b.val) :
    (iblk m c 3 t : FVec Ideal S512x1408 .bf16) (ix2 a b) = silu ((m ((c : Thread nD τ).loc main_arg0) : FVec Ideal S4096x2816 .f32) (ix2 i j)) := by
  blk_simp [iblk]
  rw [entry3]
  refine congrArg silu ?_
  blk_ext [idx t, hi, hj]

theorem passed (c : Dev nD) (t : Fin cfg0.N) (a : Fin 512) (b : Fin 1408) (i : Fin 4096) (hi : i.val = t.val / 2 * 512 + a.val)
    (j : Fin 2816) (hj : j.val = t.val % 2 * 1408 + b.val) :
    blockThrough (iblk m c 0 t) (iblk m c 1 t) a b = through (m ((c : Thread nD τ).loc main_arg3) : FVec Ideal S4096x1024 .f32) (m ((c : Thread nD τ).loc main_arg2) : FVec Ideal S2816x1024 .f32) i j := by
  unfold blockThrough through
  refine Finset.sum_congr rfl fun k _ => ?_
  rw [blk0 m c t a k _ hi, blk1 m c t b k _ hj]

theorem arr4 (c : Dev nD) : (dats m 0 c).arrAt 4 (cfgs 0).N = fun y : S4096x2816.Idx =>
    gradGate (m ((c : Thread nD τ).loc main_arg0) : FVec Ideal S4096x2816 .f32) (m ((c : Thread nD τ).loc main_arg1) : FVec Ideal S4096x2816 .f32) (m ((c : Thread nD τ).loc main_arg2) : FVec Ideal S2816x1024 .f32) (m ((c : Thread nD τ).loc main_arg3) : FVec Ideal S4096x1024 .f32) (y 0) (y 1) := by
  refine (dats m 0 c).arrAt_eq_of_covers 4 _ (by decide +kernel) fun t hf y => ?_
  blk_simp
  rw [after0_4]
  frame_out
  obtain ⟨a, b, rfl⟩ : ∃ a b, y = ix2 a b := ⟨_, _, eq_ix2 y⟩
  pointwise [k0_pay1, k0_pay2]
  refine Eq.trans (b := blockThrough (iblk m c 0 t) (iblk m c 1 t) a b * (iblk m c 2 t : FVec Ideal S512x1408 .bf16) (ix2 a b)) rfl ?_
  have ha : (((View.whole main_v16_0).slice (win0_4.rect t)).emb (ix2 a b) 0).val = t.val / 2 * 512 + a.val := by
    blk_simp [idx t]
  have hb : (((View.whole main_v16_0).slice (win0_4.rect t)).emb (ix2 a b) 1).val = t.val % 2 * 1408 + b.val := by
    blk_simp [idx t]
  rw [passed m c t a b _ ha _ hb, blk2 m c t a b _ ha _ hb]
  rfl

theorem arr5 (c : Dev nD) : (dats m 0 c).arrAt 5 (cfgs 0).N = fun y : S4096x2816.Idx =>
    gradUp (m ((c : Thread nD τ).loc main_arg0) : FVec Ideal S4096x2816 .f32) (m ((c : Thread nD τ).loc main_arg2) : FVec Ideal S2816x1024 .f32) (m ((c : Thread nD τ).loc main_arg3) : FVec Ideal S4096x1024 .f32) (y 0) (y 1) := by
  refine (dats m 0 c).arrAt_eq_of_covers 5 _ (by decide +kernel) fun t hf y => ?_
  blk_simp
  rw [after0_5]
  frame_out
  obtain ⟨a, b, rfl⟩ : ∃ a b, y = ix2 a b := ⟨_, _, eq_ix2 y⟩
  pointwise [k0_pay1, k0_pay3]
  refine Eq.trans (b := blockThrough (iblk m c 0 t) (iblk m c 1 t) a b * (iblk m c 3 t : FVec Ideal S512x1408 .bf16) (ix2 a b)) rfl ?_
  have ha : (((View.whole main_v16_1).slice (win0_5.rect t)).emb (ix2 a b) 0).val = t.val / 2 * 512 + a.val := by
    blk_simp [idx t]
  have hb : (((View.whole main_v16_1).slice (win0_5.rect t)).emb (ix2 a b) 1).val = t.val % 2 * 1408 + b.val := by
    blk_simp [idx t]
  rw [passed m c t a b _ ha _ hb, blk3 m c t a b _ ha _ hb]
  rfl

end Cert.Kernel4Ideal.Ffn

end
-- ==== Proof.FfnUp.lean ====
module

public import proofs.«01_k».proof.Defs
public import proofs.«01_k».proof.Proof.Gen.Kernel5Ideal.Value
public import proofs.«01_k».proof.Proof.Gen.Reference5Ideal.Run
public import proofs.«01_k».proof.Proof.SwiGlu
public import Idealize.ShloMosaic.Lib.Pipeline.ValueKit
public import Idealize.ShloMosaic.Lib.Pointwise
public import Idealize.ShloMosaic.Lib.Claim

/-! The hidden activations of a feed-forward network and their derivatives: the call's arrays at an index. -/

@[expose] public section

set_option maxRecDepth 16384

noncomputable section

namespace Cert.Kernel5Ideal.Ffn

open Cert.Kernel5Ideal Cert.Kernel5Ideal.Gen Cert.SwiGlu
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![t.val % 2, 0] ∧ win0_2.index t = ![t.val % 2, 0] ∧
    win0_3.index t = ![t.val / 2, t.val % 2] ∧ win0_4.index t = ![t.val / 2, t.val % 2] ∧ win0_5.index t = ![t.val / 2, t.val % 2] :=
  (by decide +kernel : ∀ t : Fin grid0.N, _)

theorem entry0 (c : Dev nD) (i : S4096x1024.Idx) : (V m c main_v0 : FVec Ideal S4096x1024 .bf16) i = (m ((c : Thread nD τ).loc main_arg0) : FVec Ideal S4096x1024 .f32) i := by
  obtain ⟨a, b, rfl⟩ : ∃ a b, i = ix2 a b := ⟨_, _, eq_ix2 i⟩
  unfold V hostOps0
  after_results_simp
  pointwise

theorem entry1 (c : Dev nD) (f : Fin 2816) (d : Fin 1024) : (V m c main_v2 : FVec Ideal S2816x1024 .bf16) (ix2 f d) = (m ((c : Thread nD τ).loc main_arg1) : FVec Ideal S1024x2816 .f32) (ix2 d f) := by
  unfold V hostOps0
  after_results_simp
  pointwise

theorem entry2 (c : Dev nD) (f : Fin 2816) (d : Fin 1024) : (V m c main_v4 : FVec Ideal S2816x1024 .bf16) (ix2 f d) = (m ((c : Thread nD τ).loc main_arg2) : FVec Ideal S1024x2816 .f32) (ix2 d f) := by
  unfold V hostOps0
  after_results_simp
  pointwise

/-- A row times a weight's column. -/
def up (h : FVec Ideal S4096x1024 .f32) (w : FVec Ideal S1024x2816 .f32) (t : Fin 4096) (f : Fin 2816) : EReal :=
  ∑ d : Fin 1024, h (ix2 t d) * w (ix2 d f)

/-- The same over the blocks of one step, the weight's block transposed. -/
def blockUp (h : FVec Ideal S512x1024 .bf16) (w : FVec Ideal S1408x1024 .bf16) (t : Fin 512) (f : Fin 1408) : EReal :=
  ∑ d : Fin 1024, h (ix2 t d) * w (ix2 f d)

theorem blk0 (c : Dev nD) (t : Fin cfg0.N) (a : Fin 512) (k : Fin 1024) (i : Fin 4096) (hi : i.val = t.val / 2 * 512 + a.val) :
    (iblk m c 0 t : FVec Ideal S512x1024 .bf16) (ix2 a k) = (m ((c : Thread nD τ).loc main_arg0) : FVec Ideal S4096x1024 .f32) (ix2 i k) := by
  blk_simp [iblk]
  rw [entry0]
  blk_ext [idx t, hi]

theorem blk1 (c : Dev nD) (t : Fin cfg0.N) (b : Fin 1408) (k : Fin 1024) (j : Fin 2816) (hj : j.val = t.val % 2 * 1408 + b.val) :
    (iblk m c 1 t : FVec Ideal S1408x1024 .bf16) (ix2 b k) = (m ((c : Thread nD τ).loc main_arg1) : FVec Ideal S1024x2816 .f32) (ix2 k j) := by
  refine Eq.trans ?_ (entry1 m c j k)
  blk_simp [iblk]
  blk_ext [idx t, hj]

theorem blk2 (c : Dev nD) (t : Fin cfg0.N) (b : Fin 1408) (k : Fin 1024) (j : Fin 2816) (hj : j.val = t.val % 2 * 1408 + b.val) :
    (iblk m c 2 t : FVec Ideal S1408x1024 .bf16) (ix2 b k) = (m ((c : Thread nD τ).loc main_arg2) : FVec Ideal S1024x2816 .f32) (ix2 k j) := by
  refine Eq.trans ?_ (entry2 m c j k)
  blk_simp [iblk]
  blk_ext [idx t, hj]

theorem gate (c : Dev nD) (t : Fin cfg0.N) (a : Fin 512) (b : Fin 1408) (i : Fin 4096) (hi : i.val = t.val / 2 * 512 + a.val)
    (j : Fin 2816) (hj : j.val = t.val % 2 * 1408 + b.val) :
    blockUp (iblk m c 0 t) (iblk m c 1 t) a b = up (m ((c : Thread nD τ).loc main_arg0) : FVec Ideal S4096x1024 .f32) (m ((c : Thread nD τ).loc main_arg1) : FVec Ideal S1024x2816 .f32) i j := by
  unfold blockUp up
  refine Finset.sum_congr rfl fun k _ => ?_
  rw [blk0 m c t a k _ hi, blk1 m c t b k _ hj]

theorem lift (c : Dev nD) (t : Fin cfg0.N) (a : Fin 512) (b : Fin 1408) (i : Fin 4096) (hi : i.val = t.val / 2 * 512 + a.val)
    (j : Fin 2816) (hj : j.val = t.val % 2 * 1408 + b.val) :
    blockUp (iblk m c 0 t) (iblk m c 2 t) a b = up (m ((c : Thread nD τ).loc main_arg0) : FVec Ideal S4096x1024 .f32) (m ((c : Thread nD τ).loc main_arg2) : FVec Ideal S1024x2816 .f32) i j := by
  unfold blockUp up
  refine Finset.sum_congr rfl fun k _ => ?_
  rw [blk0 m c t a k _ hi, blk2 m c t b k _ hj]

theorem arr3 (c : Dev nD) : (dats m 0 c).arrAt 3 (cfgs 0).N = fun y : S4096x2816.Idx =>
    slope (up (m ((c : Thread nD τ).loc main_arg0) : FVec Ideal S4096x1024 .f32) (m ((c : Thread nD τ).loc main_arg1) : FVec Ideal S1024x2816 .f32) (y 0) (y 1)) (up (m ((c : Thread nD τ).loc main_arg0) : FVec Ideal S4096x1024 .f32) (m ((c : Thread nD τ).loc main_arg2) : FVec Ideal S1024x2816 .f32) (y 0) (y 1)) := by
  refine (dats m 0 c).arrAt_eq_of_covers 3 _ (by decide +kernel) fun t hf y => ?_
  blk_simp
  rw [after0_3]
  frame_out
  obtain ⟨a, b, rfl⟩ : ∃ a b, y = ix2 a b := ⟨_, _, eq_ix2 y⟩
  pointwise [k0_pay1, k0_pay2, k0_pay3, k0_pay4, k0_pay5, k0_pay6]
  refine Eq.trans (b := slope (blockUp (iblk m c 0 t) (iblk m c 1 t) a b) (blockUp (iblk m c 0 t) (iblk m c 2 t) a b)) rfl ?_
  have ha : (((View.whole main_v5_0).slice (win0_3.rect t)).emb (ix2 a b) 0).val = t.val / 2 * 512 + a.val := by
    blk_simp [idx t]
  have hb : (((View.whole main_v5_0).slice (win0_3.rect t)).emb (ix2 a b) 1).val = t.val % 2 * 1408 + b.val := by
    blk_simp [idx t]
  rw [gate m c t a b _ ha _ hb, lift m c t a b _ ha _ hb]

theorem arr4 (c : Dev nD) : (dats m 0 c).arrAt 4 (cfgs 0).N = fun y : S4096x2816.Idx =>
    silu (up (m ((c : Thread nD τ).loc main_arg0) : FVec Ideal S4096x1024 .f32) (m ((c : Thread nD τ).loc main_arg1) : FVec Ideal S1024x2816 .f32) (y 0) (y 1)) := by
  refine (dats m 0 c).arrAt_eq_of_covers 4 _ (by decide +kernel) fun t hf y => ?_
  blk_simp
  rw [after0_4]
  frame_out
  obtain ⟨a, b, rfl⟩ : ∃ a b, y = ix2 a b := ⟨_, _, eq_ix2 y⟩
  pointwise [k0_pay1, k0_pay2, k0_pay3, k0_pay4, k0_pay5, k0_pay7]
  refine Eq.trans (b := silu (blockUp (iblk m c 0 t) (iblk m c 1 t) a b)) rfl ?_
  have ha : (((View.whole main_v5_1).slice (win0_4.rect t)).emb (ix2 a b) 0).val = t.val / 2 * 512 + a.val := by
    blk_simp [idx t]
  have hb : (((View.whole main_v5_1).slice (win0_4.rect t)).emb (ix2 a b) 1).val = t.val % 2 * 1408 + b.val := by
    blk_simp [idx t]
  rw [gate m c t a b _ ha _ hb]

theorem arr5 (c : Dev nD) : (dats m 0 c).arrAt 5 (cfgs 0).N = fun y : S4096x2816.Idx =>
    silu (up (m ((c : Thread nD τ).loc main_arg0) : FVec Ideal S4096x1024 .f32) (m ((c : Thread nD τ).loc main_arg1) : FVec Ideal S1024x2816 .f32) (y 0) (y 1)) * (up (m ((c : Thread nD τ).loc main_arg0) : FVec Ideal S4096x1024 .f32) (m ((c : Thread nD τ).loc main_arg2) : FVec Ideal S1024x2816 .f32) (y 0) (y 1)) := by
  refine (dats m 0 c).arrAt_eq_of_covers 5 _ (by decide +kernel) fun t hf y => ?_
  blk_simp
  rw [after0_5]
  frame_out
  obtain ⟨a, b, rfl⟩ : ∃ a b, y = ix2 a b := ⟨_, _, eq_ix2 y⟩
  pointwise [k0_pay1, k0_pay2, k0_pay3, k0_pay4, k0_pay5, k0_pay8]
  refine Eq.trans (b := silu (blockUp (iblk m c 0 t) (iblk m c 1 t) a b) * (blockUp (iblk m c 0 t) (iblk m c 2 t) a b)) rfl ?_
  have ha : (((View.whole main_v5_2).slice (win0_5.rect t)).emb (ix2 a b) 0).val = t.val / 2 * 512 + a.val := by
    blk_simp [idx t]
  have hb : (((View.whole main_v5_2).slice (win0_5.rect t)).emb (ix2 a b) 1).val = t.val % 2 * 1408 + b.val := by
    blk_simp [idx t]
  rw [gate m c t a b _ ha _ hb, lift m c t a b _ ha _ hb]

end Cert.Kernel5Ideal.Ffn

end
-- ==== Proof.FfnRef.lean ====
module

public import proofs.«01_k».proof.Defs
public import proofs.«01_k».proof.Proof.FfnDown
public import proofs.«01_k».proof.Proof.FfnGrads
public import proofs.«01_k».proof.Proof.FfnDact
public import proofs.«01_k».proof.Proof.FfnUp
public import Idealize.ShloMosaic.Lib.Pointwise
public import Idealize.ShloMosaic.Lib.Claim

/-! The references of a feed-forward network's calls, each result at an index. -/

@[expose] public section

set_option maxRecDepth 16384

noncomputable section

namespace Cert.Reference2Ideal.Ffn

open Cert.Reference2Ideal Cert.SwiGlu
open Idealize.ShloMosaic Idealize.ShloMosaic.TcCoe Idealize.SL.Sem

variable [Facts]
open Facts₀ Facts

theorem ref0 (x0 : FVec Ideal S4096x2816 .f32) (x1 : FVec Ideal S4096x1024 .f32) :
    truncf .bf16 (transpose S2816x1024 [1, 0] (Host.dotGeneral dot_S4096x1024_S4096x2816_S1024x2816_0_0_1_1_n_n none x1 x0) transposes_S1024x2816_S2816x1024_1_0) bitsLt_bf16_f32
      = fun i => Cert.Kernel2Ideal.Ffn.grad x0 x1 (i 0) (i 1) := by
  funext i
  obtain ⟨a, b, rfl⟩ : ∃ a b, i = ix2 a b := ⟨_, _, eq_ix2 i⟩
  pointwise
  exact Finset.sum_congr rfl fun k _ => mul_comm _ _

end Cert.Reference2Ideal.Ffn

namespace Cert.Reference3Ideal.Ffn

open Cert.Reference3Ideal Cert.SwiGlu
open Idealize.ShloMosaic Idealize.ShloMosaic.TcCoe Idealize.SL.Sem

variable [Facts]
open Facts₀ Facts

theorem ref0 (x0 : FVec Ideal S4096x1024 .f32) (x1 : FVec Ideal S4096x2816 .f32) :
    truncf .bf16 (transpose S2816x1024 [1, 0] (transpose S1024x2816 [1, 0] (Host.dotGeneral dot_S4096x2816_S4096x1024_S2816x1024_0_0_1_1_n_n none x1 x0) transposes_S2816x1024_S1024x2816_1_0) transposes_S1024x2816_S2816x1024_1_0) bitsLt_bf16_f32
      = fun i => Cert.Kernel3Ideal.Ffn.grad x1 x0 (i 0) (i 1) := by
  funext i
  obtain ⟨a, b, rfl⟩ : ∃ a b, i = ix2 a b := ⟨_, _, eq_ix2 i⟩
  pointwise
  rfl

theorem ref1 (x0 : FVec Ideal S4096x1024 .f32) (x2 : FVec Ideal S4096x2816 .f32) :
    truncf .bf16 (transpose S2816x1024 [1, 0] (transpose S1024x2816 [1, 0] (Host.dotGeneral dot_S4096x2816_S4096x1024_S2816x1024_0_0_1_1_n_n none x2 x0) transposes_S2816x1024_S1024x2816_1_0) transposes_S1024x2816_S2816x1024_1_0) bitsLt_bf16_f32
      = fun i => Cert.Kernel3Ideal.Ffn.grad x2 x0 (i 0) (i 1) := by
  funext i
  obtain ⟨a, b, rfl⟩ : ∃ a b, i = ix2 a b := ⟨_, _, eq_ix2 i⟩
  pointwise
  rfl

end Cert.Reference3Ideal.Ffn

namespace Cert.Reference4Ideal.Ffn

open Cert.Reference4Ideal Cert.SwiGlu
open Idealize.ShloMosaic Idealize.ShloMosaic.TcCoe Idealize.SL.Sem

variable [Facts]
open Facts₀ Facts

theorem ref0 (x0 : FVec Ideal S4096x2816 .f32) (x1 : FVec Ideal S4096x2816 .f32) (x2 : FVec Ideal S2816x1024 .f32) (x3 : FVec Ideal S4096x1024 .f32) :
    truncf .bf16 (addf (mulf (mulf (Host.dotGeneral dot_S4096x1024_S2816x1024_S4096x2816_1_1_0_0_n_n none x3 x2) x1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf x0))))) (mulf (mulf x0 (mulf (Host.dotGeneral dot_S4096x1024_S2816x1024_S4096x2816_1_1_0_0_n_n none x3 x2) x1)) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf x0)))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf x0)))))))) bitsLt_bf16_f32
      = fun i => back (x0 (ix2 (i 0) (i 1))) (Cert.Kernel4Ideal.Ffn.through x3 x2 (i 0) (i 1) * x1 (ix2 (i 0) (i 1))) := by
  funext i
  obtain ⟨a, b, rfl⟩ : ∃ a b, i = ix2 a b := ⟨_, _, eq_ix2 i⟩
  pointwise
  rfl

theorem ref1 (x0 : FVec Ideal S4096x2816 .f32) (x2 : FVec Ideal S2816x1024 .f32) (x3 : FVec Ideal S4096x1024 .f32) :
    truncf .bf16 (mulf (mulf x0 (Host.divf (broadcastInDim S4096x2816 ![] bcast_S_S4096x2816 (constant S_ .f32 0x3F800000#32)) (addf (broadcastInDim S4096x2816 ![] bcast_S_S4096x2816 (constant S_ .f32 0x3F800000#32)) (Host.exp (Host.negf x0))))) (Host.dotGeneral dot_S4096x1024_S2816x1024_S4096x2816_1_1_0_0_n_n none x3 x2)) bitsLt_bf16_f32
      = fun i => Cert.Kernel4Ideal.Ffn.gradUp x0 x2 x3 (i 0) (i 1) := by
  funext i
  obtain ⟨a, b, rfl⟩ : ∃ a b, i = ix2 a b := ⟨_, _, eq_ix2 i⟩
  pointwise
  exact mul_comm _ _

end Cert.Reference4Ideal.Ffn

namespace Cert.Reference5Ideal.Ffn

open Cert.Reference5Ideal Cert.SwiGlu
open Idealize.ShloMosaic Idealize.ShloMosaic.TcCoe Idealize.SL.Sem

variable [Facts]
open Facts₀ Facts

theorem ref0 (x0 : FVec Ideal S4096x1024 .f32) (x1 : FVec Ideal S1024x2816 .f32) (x2 : FVec Ideal S1024x2816 .f32) :
    truncf .bf16 (addf (mulf (mulf (broadcastInDim S4096x2816 ![] bcast_S_S4096x2816 (constant S_ .f32 0x3F800000#32)) (Host.dotGeneral dot_S4096x1024_S1024x2816_S4096x2816_1_0_0_1_n_n none x0 x2)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none x0 x1)))))) (mulf (mulf (Host.dotGeneral dot_S4096x1024_S1024x2816_S4096x2816_1_0_0_1_n_n none x0 x1) (mulf (broadcastInDim S4096x2816 ![] bcast_S_S4096x2816 (constant S_ .f32 0x3F800000#32)) (Host.dotGeneral dot_S4096x1024_S1024x2816_S4096x2816_1_0_0_1_n_n none x0 x2))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none x0 x1))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none x0 x1))))))))) bitsLt_bf16_f32
      = fun i => back (Cert.Kernel5Ideal.Ffn.up x0 x1 (i 0) (i 1)) (Cert.Kernel5Ideal.Ffn.up x0 x2 (i 0) (i 1)) := by
  funext i
  obtain ⟨a, b, rfl⟩ : ∃ a b, i = ix2 a b := ⟨_, _, eq_ix2 i⟩
  pointwise
  rfl

theorem ref1 (x0 : FVec Ideal S4096x1024 .f32) (x1 : FVec Ideal S1024x2816 .f32) :
    truncf .bf16 (mulf (mulf (Host.dotGeneral dot_S4096x1024_S1024x2816_S4096x2816_1_0_0_1_n_n none x0 x1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none x0 x1)))))) (broadcastInDim S4096x2816 ![] bcast_S_S4096x2816 (constant S_ .f32 0x3F800000#32))) bitsLt_bf16_f32
      = fun i => silu (Cert.Kernel5Ideal.Ffn.up x0 x1 (i 0) (i 1)) := by
  funext i
  obtain ⟨a, b, rfl⟩ : ∃ a b, i = ix2 a b := ⟨_, _, eq_ix2 i⟩
  pointwise
  rfl

theorem ref2 (x0 : FVec Ideal S4096x1024 .f32) (x1 : FVec Ideal S1024x2816 .f32) (x2 : FVec Ideal S1024x2816 .f32) :
    truncf .bf16 (mulf (mulf (Host.dotGeneral dot_S4096x1024_S1024x2816_S4096x2816_1_0_0_1_n_n none x0 x1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral dot_S4096x1024_S1024x2816_S4096x2816_1_0_0_1_n_n none x0 x1)))))) (Host.dotGeneral dot_S4096x1024_S1024x2816_S4096x2816_1_0_0_1_n_n none x0 x2)) bitsLt_bf16_f32
      = fun i => silu (Cert.Kernel5Ideal.Ffn.up x0 x1 (i 0) (i 1)) * Cert.Kernel5Ideal.Ffn.up x0 x2 (i 0) (i 1) := by
  funext i
  obtain ⟨a, b, rfl⟩ : ∃ a b, i = ix2 a b := ⟨_, _, eq_ix2 i⟩
  pointwise
  rfl

end Cert.Reference5Ideal.Ffn

end
-- ==== Proof.FfnProof.lean ====
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.FfnDown
public import proofs.«01_k».proof.Proof.FfnGrads
public import proofs.«01_k».proof.Proof.FfnDact
public import proofs.«01_k».proof.Proof.FfnUp
public import proofs.«01_k».proof.Proof.FfnRef
public import Idealize.ShloMosaic.Lib.Claim

/-! The claims about a feed-forward network's calls. -/

@[expose] public section

set_option maxRecDepth 16384

noncomputable section

namespace Cert.FfnProof

open Idealize.ShloMosaic Idealize.SL.Sem Cert.SwiGlu

theorem kernel_frame2 : Cert.quiescent_Kernel2 (hKernel2 := Cert.Kernel2.Gen.facts) :=
  fun m ρ _ => Cert.Kernel2.Gen.frame m ρ

theorem ideal_frame2 : Cert.quiescent_Kernel2Ideal (hKernel2Ideal := Cert.Kernel2Ideal.Gen.facts) :=
  fun m ρ _ => Cert.Kernel2Ideal.Gen.frame m ρ

theorem reference_frame2 : Cert.quiescent_Reference2Ideal (hReference2Ideal := Cert.Reference2Ideal.Gen.facts) := by
  intro m ρ _
  refine (θ_run _ _ _).mono (fun r h => ⟨fun c => (h c).2, sem_eq_zero_of_no_sems rfl _⟩) (Cert.Reference2Ideal.Value.run m ρ)

theorem algebraic2 : Cert.algebraic_Kernel2Ideal_Reference2Ideal (hKernel2Ideal := Cert.Kernel2Ideal.Gen.facts)
    (hReference2Ideal := Cert.Reference2Ideal.Gen.facts) := by
  intro m g m' g' hpre hagree
  refine ⟨_, (θ_run _ _ _).mono (fun r h c => ⟨(h c).1.trans (Cert.Kernel2Ideal.Ffn.arr2 m c), (h c).2⟩) (Cert.Kernel2Ideal.Value.run_blocks m g),
    (θ_run _ _ _).mono (fun r h c => ⟨(h c).1.trans ?_, (h c).2⟩) (Cert.Reference2Ideal.Value.run m' g')⟩
  · refine (Cert.Reference2Ideal.Ffn.ref0 _ _).trans ?_
    rw [(hagree c).1, (hagree c).2]

theorem kernel_frame3 : Cert.quiescent_Kernel3 (hKernel3 := Cert.Kernel3.Gen.facts) :=
  fun m ρ _ => Cert.Kernel3.Gen.frame m ρ

theorem ideal_frame3 : Cert.quiescent_Kernel3Ideal (hKernel3Ideal := Cert.Kernel3Ideal.Gen.facts) :=
  fun m ρ _ => Cert.Kernel3Ideal.Gen.frame m ρ

theorem reference_frame3 : Cert.quiescent_Reference3Ideal (hReference3Ideal := Cert.Reference3Ideal.Gen.facts) := by
  intro m ρ _
  refine (θ_run _ _ _).mono (fun r h => ⟨fun c => (h c).2.2, sem_eq_zero_of_no_sems rfl _⟩) (Cert.Reference3Ideal.Value.run m ρ)

theorem algebraic3 : Cert.algebraic_Kernel3Ideal_Reference3Ideal (hKernel3Ideal := Cert.Kernel3Ideal.Gen.facts)
    (hReference3Ideal := Cert.Reference3Ideal.Gen.facts) := by
  intro m g m' g' hpre hagree
  refine ⟨_, _, (θ_run _ _ _).mono (fun r h c => ⟨(h c).1.trans (Cert.Kernel3Ideal.Ffn.arr3 m c), (h c).2.1.trans (Cert.Kernel3Ideal.Ffn.arr4 m c), (h c).2.2⟩) (Cert.Kernel3Ideal.Value.run_blocks m g),
    (θ_run _ _ _).mono (fun r h c => ⟨(h c).1.trans ?_, (h c).2.1.trans ?_, (h c).2.2⟩) (Cert.Reference3Ideal.Value.run m' g')⟩
  · refine (Cert.Reference3Ideal.Ffn.ref0 _ _).trans ?_
    rw [(hagree c).1, (hagree c).2.1]
  · refine (Cert.Reference3Ideal.Ffn.ref1 _ _).trans ?_
    rw [(hagree c).1, (hagree c).2.2]

theorem kernel_frame4 : Cert.quiescent_Kernel4 (hKernel4 := Cert.Kernel4.Gen.facts) :=
  fun m ρ _ => Cert.Kernel4.Gen.frame m ρ

theorem ideal_frame4 : Cert.quiescent_Kernel4Ideal (hKernel4Ideal := Cert.Kernel4Ideal.Gen.facts) :=
  fun m ρ _ => Cert.Kernel4Ideal.Gen.frame m ρ

theorem reference_frame4 : Cert.quiescent_Reference4Ideal (hReference4Ideal := Cert.Reference4Ideal.Gen.facts) := by
  intro m ρ _
  refine (θ_run _ _ _).mono (fun r h => ⟨fun c => (h c).2.2, sem_eq_zero_of_no_sems rfl _⟩) (Cert.Reference4Ideal.Value.run m ρ)

theorem algebraic4 : Cert.algebraic_Kernel4Ideal_Reference4Ideal_pre_finite4 (hKernel4Ideal := Cert.Kernel4Ideal.Gen.facts)
    (hReference4Ideal := Cert.Reference4Ideal.Gen.facts) (hPre_finite4 := Cert.SwiGlu.facts4) := by
  intro m g m' g' hpre hagree
  haveI := Cert.SwiGlu.facts4
  refine ⟨_, _, (θ_run _ _ _).mono (fun r h c => ⟨(h c).1.trans (Cert.Kernel4Ideal.Ffn.arr4 m c), (h c).2.1.trans (Cert.Kernel4Ideal.Ffn.arr5 m c), (h c).2.2⟩) (Cert.Kernel4Ideal.Value.run_blocks m g),
    (θ_run _ _ _).mono (fun r h c => ⟨(h c).1.trans ?_, (h c).2.1.trans ?_, (h c).2.2⟩) (Cert.Reference4Ideal.Value.run m' g')⟩
  · refine (Cert.Reference4Ideal.Ffn.ref0 _ _ _ _).trans ?_
    rw [(hagree c).1, (hagree c).2.1, (hagree c).2.2.1, (hagree c).2.2.2]
    obtain ⟨h0, h1, h2, h3⟩ := Cert.SwiGlu.read4 _ _ _ _ (hpre c)
    exact funext fun y => (mul_slope (IsReal.sum fun k => (h3 _).mul (h2 _)) (h0 _) (h1 _)).symm
  · refine (Cert.Reference4Ideal.Ffn.ref1 _ _ _).trans ?_
    rw [(hagree c).1, (hagree c).2.2.1, (hagree c).2.2.2]

theorem kernel_frame5 : Cert.quiescent_Kernel5 (hKernel5 := Cert.Kernel5.Gen.facts) :=
  fun m ρ _ => Cert.Kernel5.Gen.frame m ρ

theorem ideal_frame5 : Cert.quiescent_Kernel5Ideal (hKernel5Ideal := Cert.Kernel5Ideal.Gen.facts) :=
  fun m ρ _ => Cert.Kernel5Ideal.Gen.frame m ρ

theorem reference_frame5 : Cert.quiescent_Reference5Ideal (hReference5Ideal := Cert.Reference5Ideal.Gen.facts) := by
  intro m ρ _
  refine (θ_run _ _ _).mono (fun r h => ⟨fun c => (h c).2.2.2, sem_eq_zero_of_no_sems rfl _⟩) (Cert.Reference5Ideal.Value.run m ρ)

theorem algebraic5 : Cert.algebraic_Kernel5Ideal_Reference5Ideal_pre_finite5 (hKernel5Ideal := Cert.Kernel5Ideal.Gen.facts)
    (hReference5Ideal := Cert.Reference5Ideal.Gen.facts) (hPre_finite5 := Cert.SwiGlu.facts5) := by
  intro m g m' g' hpre hagree
  haveI := Cert.SwiGlu.facts5
  refine ⟨_, _, _, (θ_run _ _ _).mono (fun r h c => ⟨(h c).1.trans (Cert.Kernel5Ideal.Ffn.arr3 m c), (h c).2.1.trans (Cert.Kernel5Ideal.Ffn.arr4 m c), (h c).2.2.1.trans (Cert.Kernel5Ideal.Ffn.arr5 m c), (h c).2.2.2⟩) (Cert.Kernel5Ideal.Value.run_blocks m g),
    (θ_run _ _ _).mono (fun r h c => ⟨(h c).1.trans ?_, (h c).2.1.trans ?_, (h c).2.2.1.trans ?_, (h c).2.2.2⟩) (Cert.Reference5Ideal.Value.run m' g')⟩
  · refine (Cert.Reference5Ideal.Ffn.ref0 _ _ _).trans ?_
    rw [(hagree c).1, (hagree c).2.1, (hagree c).2.2]
    obtain ⟨h0, h1, h2⟩ := Cert.SwiGlu.read5 _ _ _ (hpre c)
    exact funext fun y => (slope_eq (IsReal.sum fun k => (h0 _).mul (h1 _)) (IsReal.sum fun k => (h0 _).mul (h2 _))).symm
  · refine (Cert.Reference5Ideal.Ffn.ref1 _ _).trans ?_
    rw [(hagree c).1, (hagree c).2.1]
  · refine (Cert.Reference5Ideal.Ffn.ref2 _ _ _).trans ?_
    rw [(hagree c).1, (hagree c).2.1, (hagree c).2.2]

end Cert.FfnProof

end
-- ==== Proof.lean ====
/- The proof of the certificate's claims about the backward attention call and a feed-forward network's calls. -/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.RefRun
public import Idealize.ShloMosaic.Lib.Quiescent
public import proofs.«01_k».proof.Proof.AttnData
public import proofs.«01_k».proof.Proof.KernelValue
public import proofs.«01_k».proof.Proof.RefValue
public import proofs.«01_k».proof.Proof.Finite
public import proofs.«01_k».proof.Proof.FfnProof
public import Idealize.ShloMosaic.Lib.Claim

@[expose] public section

noncomputable section

namespace Cert.Proof

open Idealize.ShloMosaic Idealize.SL.Sem

theorem kernel_frame : Cert.quiescent_Kernel (hKernel := Cert.Kernel.Gen.facts) :=
  fun m ρ _ => Cert.Kernel.Attn.frame m ρ

theorem ideal_frame : Cert.quiescent_KernelIdeal (hKernelIdeal := Cert.KernelIdeal.Gen.facts) :=
  fun m ρ _ => Cert.KernelIdeal.Attn.frame m ρ

theorem reference_frame : Cert.quiescent_ReferenceIdeal (hReferenceIdeal := Cert.ReferenceIdeal.Gen.facts) := by
  intro m ρ _
  refine (θ_run _ _ _).mono (fun r h => ⟨fun c => ⟨?_, ?_, ?_, ?_, ?_⟩, sem_eq_zero_of_no_sems rfl _⟩) (Cert.ReferenceIdeal.Attn.run m ρ)
  all_goals exact (h c _).trans (Cert.ReferenceIdeal.Attn.keeps _ (by decide) (by decide) (by decide) (by decide) (by decide) (by decide))

theorem preserves : Cert.preserves_Kernel_KernelIdeal :=
  IdealRules.named_const.statement _ _ _ _ _ (by simp [Cert.KernelIdeal.κ])

/-- The arguments' real numbers on one device. -/
def args (m : (ℓ : Loc Cert.KernelIdeal.nD Cert.KernelIdeal.τ Cert.KernelIdeal.sig) → Buf (Elt Ideal) ℓ) (c : Dev Cert.KernelIdeal.nD) : Cert.AttnReal.Args :=
  Cert.Finite.reals (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  haveI := Cert.Finite.facts
  have hk : ∀ c, Cert.KernelIdeal.Attn.Holds (args m c) (fun b => m (c, b)) := fun c => by
    obtain ⟨e0, e1, e2, e3, e4⟩ := Cert.Finite.read _ _ _ _ _ (hpre c)
    exact ⟨e0, e1, e2, e3, e4⟩
  have hr : ∀ c, Cert.ReferenceIdeal.Attn.Holds (args m c) (Idealize.ShloMosaic.StableHlo.launchContents m' c) := fun c =>
    ⟨(hagree c).1.trans (hk c).a0, (hagree c).2.1.trans (hk c).a1, (hagree c).2.2.1.trans (hk c).a2, (hagree c).2.2.2.1.trans (hk c).a3, (hagree c).2.2.2.2.trans (hk c).a4⟩
  refine ⟨_, _, _, _, Cert.KernelIdeal.Attn.values m g (args m) hk, ?_⟩
  refine (θ_run _ _ _).mono (fun r h c => ⟨?_, ?_, ?_, ?_, ?_, ?_, ?_, ?_, ?_⟩) (Cert.ReferenceIdeal.Attn.run m' g')
  · exact (h c _).trans (Cert.ReferenceIdeal.Attn.ref_dq _ _ (hr c))
  · exact (h c _).trans (Cert.ReferenceIdeal.Attn.ref_dk _ _ (hr c))
  · exact (h c _).trans (Cert.ReferenceIdeal.Attn.ref_dv _ _ (hr c))
  · exact (h c _).trans (Cert.ReferenceIdeal.Attn.ref_df _ _ (hr c))
  all_goals exact (h c _).trans (Cert.ReferenceIdeal.Attn.keeps _ (by decide) (by decide) (by decide) (by decide) (by decide) (by decide))

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Finite.facts, Cert.SwiGlu.facts4, Cert.SwiGlu.facts5,
  kernel_frame, ideal_frame, fun m ρ _ => ideal_frame m ρ trivial, reference_frame, fun m ρ _ => reference_frame m ρ trivial, Cert.FfnProof.kernel_frame2, Cert.FfnProof.ideal_frame2, Cert.FfnProof.reference_frame2, Cert.FfnProof.kernel_frame3, Cert.FfnProof.ideal_frame3, Cert.FfnProof.reference_frame3, Cert.FfnProof.kernel_frame4, Cert.FfnProof.ideal_frame4, fun m ρ _ => Cert.FfnProof.ideal_frame4 m ρ trivial, Cert.FfnProof.reference_frame4, fun m ρ _ => Cert.FfnProof.reference_frame4 m ρ trivial, Cert.FfnProof.kernel_frame5, Cert.FfnProof.ideal_frame5, fun m ρ _ => Cert.FfnProof.ideal_frame5 m ρ trivial, Cert.FfnProof.reference_frame5, fun m ρ _ => Cert.FfnProof.reference_frame5 m ρ trivial, preserves, algebraic, trivial, Cert.FfnProof.algebraic2, trivial, Cert.FfnProof.algebraic3, trivial, Cert.FfnProof.algebraic4, trivial, Cert.FfnProof.algebraic5⟩

end Cert.Proof

end
